-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_projections [hPre_finite_projections : Cert.Pre_finite_projections.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_projections.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).1 = (fun _ => 1#1)
    ∧ (Cert.Pre_finite_projections.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.1 = (fun _ => 1#1)
    ∧ (Cert.Pre_finite_projections.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.1 = (fun _ => 1#1)
    ∧ (Cert.Pre_finite_projections.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.1 = (fun _ => 1#1)
    ∧ (Cert.Pre_finite_projections.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.2.1 = (fun _ => 1#1)
    ∧ (Cert.Pre_finite_projections.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_projections [hPre_finite_projections : Cert.Pre_finite_projections.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_projections.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).1 = (fun _ => 1#1)
    ∧ (Cert.Pre_finite_projections.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.1 = (fun _ => 1#1)
    ∧ (Cert.Pre_finite_projections.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.2.1 = (fun _ => 1#1)
    ∧ (Cert.Pre_finite_projections.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.2.2.1 = (fun _ => 1#1)
    ∧ (Cert.Pre_finite_projections.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.2.2.2.1 = (fun _ => 1#1)
    ∧ (Cert.Pre_finite_projections.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Kernel6Ideal_pre_finite_projections [hKernel6Ideal : Cert.Kernel6Ideal.Facts] [hPre_finite_projections : Cert.Pre_finite_projections.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_projections m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Reference6Ideal_pre_finite_projections [hReference6Ideal : Cert.Reference6Ideal.Facts] [hPre_finite_projections : Cert.Pre_finite_projections.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_projections m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v47_2)) (v1 : (c : Dev Cert.Kernel3Ideal.nD) → Buf (Elt Ideal) ((c.tc : Thread Cert.Kernel3Ideal.nD Cert.Kernel3Ideal.τ).loc Cert.Kernel3Ideal.main_v47_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_2) = v0 c
          ∧ r.2.mem ((c.tc : Thread Cert.Kernel3Ideal.nD Cert.Kernel3Ideal.τ).loc Cert.Kernel3Ideal.main_v47_3) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v66) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_projections [hKernel6Ideal : Cert.Kernel6Ideal.Facts] [hReference6Ideal : Cert.Reference6Ideal.Facts] [hPre_finite_projections : Cert.Pre_finite_projections.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_projections m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v47_0)) (v1 : (c : Dev Cert.Kernel6Ideal.nD) → Buf (Elt Ideal) ((c.tc : Thread Cert.Kernel6Ideal.nD Cert.Kernel6Ideal.τ).loc Cert.Kernel6Ideal.main_v47_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47_0) = v0 c
          ∧ r.2.mem ((c.tc : Thread Cert.Kernel6Ideal.nD Cert.Kernel6Ideal.τ).loc Cert.Kernel6Ideal.main_v47_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v75) = v0 c
          ∧ r.2.mem ((c.tc : Thread Cert.Reference6Ideal.nD Cert.Reference6Ideal.τ).loc Cert.Reference6Ideal.main_v77) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_queries_and_keys : Cert.Pre_finite_queries_and_keys.Facts) (hPre_finite_projections : Cert.Pre_finite_projections.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_projections (hKernel6Ideal := hKernel6Ideal) (hPre_finite_projections := hPre_finite_projections)
    ∧ quiescent_Reference6Ideal (hReference6Ideal := hReference6Ideal)
    ∧ quiescent_Reference6Ideal_pre_finite_projections (hReference6Ideal := hReference6Ideal) (hPre_finite_projections := hPre_finite_projections)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_projections (hKernel6Ideal := hKernel6Ideal) (hReference6Ideal := hReference6Ideal) (hPre_finite_projections := hPre_finite_projections)
-- ==== Pre_finite_projections.lean ====
abbrev S2x8192x1024 : Shape := ⟨3, ![2, 8192, 1024]⟩
abbrev S2x1024 : Shape := ⟨2, ![2, 1024]⟩
abbrev S2x8192x16 : Shape := ⟨3, ![2, 8192, 16]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S3x1536 : Shape := ⟨2, ![3, 1536]⟩
abbrev S1536 : Shape := ⟨1, ![1536]⟩
abbrev S_ : Shape := ⟨0, ![]⟩

class Facts : Prop where
  bcast_S_S2x8192x1024 : S_.BroadcastsInDim S2x8192x1024 (![] : Fin 0 → Fin S2x8192x1024.rank)
  bcast_S_S2x1024 : S_.BroadcastsInDim S2x1024 (![] : Fin 0 → Fin S2x1024.rank)
  bcast_S_S1024x1952 : S_.BroadcastsInDim S1024x1952 (![] : Fin 0 → Fin S1024x1952.rank)
  bcast_S_S256 : S_.BroadcastsInDim S256 (![] : Fin 0 → Fin S256.rank)
  bcast_S_S256x768 : S_.BroadcastsInDim S256x768 (![] : Fin 0 → Fin S256x768.rank)

variable [Facts]

def fn {F : FTy → Type} [FloatOps F] (main_arg0 : FVec F S2x8192x1024 .f32) (main_arg1 : FVec F S2x1024 .f32) (main_arg2 : FVec F S2x1024 .f32) (main_arg3 : FVec F S2x8192x16 .f32) (main_arg4 : FVec F S2x8192x16 .f32) (main_arg5 : FVec F S1024x1952 .f32) (main_arg6 : FVec F S256 .f32) (main_arg7 : FVec F S256x768 .f32) (main_arg8 : FVec F S128 .f32) (main_arg9 : FVec F S128x1024 .f32) (main_arg10 : FVec F S3x1536 .f32) (main_arg11 : FVec F S1536 .f32) : IVec S2x8192x1024 1 × IVec S2x1024 1 × IVec S2x1024 1 × IVec S1024x1952 1 × IVec S256 1 × IVec S256x768 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S1024x1952 .f32 := Host.absf main_arg5
  let main_cst_2 : FVec F S_ .f32 := constant S_ .f32 0x7F800000#32
  let main_v10 : FVec F S1024x1952 .f32 := broadcastInDim S1024x1952 ![] bcast_S_S1024x1952 main_cst_2
  let main_v11 : IVec S1024x1952 1 := cmpf .olt main_v9 main_v10
  let main_v12 : FVec F S256 .f32 := Host.absf main_arg6
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x768 .f32 := Host.absf main_arg7
  let main_cst_4 : FVec F S_ .f32 := constant S_ .f32 0x7F800000#32
  let main_v16 : FVec F S256x768 .f32 := broadcastInDim S256x768 ![] bcast_S_S256x768 main_cst_4
  let main_v17 : IVec S256x768 1 := cmpf .olt main_v15 main_v16
  (main_v2, main_v5, main_v8, main_v11, main_v14, main_v17)
-- ==== Pre_finite_queries_and_keys.lean ====
abbrev S2x8192x8x64 : Shape := ⟨4, ![2, 8192, 8, 64]⟩
abbrev S2x8192x8x32 : Shape := ⟨4, ![2, 8192, 8, 32]⟩
abbrev S2x8192x32 : Shape := ⟨3, ![2, 8192, 32]⟩
abbrev S_ : Shape := ⟨0, ![]⟩

class Facts : Prop where
  bcast_S_S2x8192x8x64 : S_.BroadcastsInDim S2x8192x8x64 (![] : Fin 0 → Fin S2x8192x8x64.rank)
  bcast_S_S2x8192x8x32 : S_.BroadcastsInDim S2x8192x8x32 (![] : Fin 0 → Fin S2x8192x8x32.rank)
  bcast_S_S2x8192x32 : S_.BroadcastsInDim S2x8192x32 (![] : Fin 0 → Fin S2x8192x32.rank)

variable [Facts]

def fn {F : FTy → Type} [FloatOps F] (main_arg0 : FVec F S2x8192x8x64 .f32) (main_arg1 : FVec F S2x8192x8x32 .f32) (main_arg2 : FVec F S2x8192x8x64 .f32) (main_arg3 : FVec F S2x8192x32 .f32) (main_arg4 : FVec F S2x8192x8x64 .f32) : IVec S2x8192x8x64 1 × IVec S2x8192x8x32 1 × IVec S2x8192x8x64 1 × IVec S2x8192x32 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_v3 : FVec F S2x8192x8x32 .f32 := Host.absf main_arg1
  let main_cst_0 : FVec F S_ .f32 := constant S_ .f32 0x7F800000#32
  let main_v4 : FVec F S2x8192x8x32 .f32 := broadcastInDim S2x8192x8x32 ![] bcast_S_S2x8192x8x32 main_cst_0
  let main_v5 : IVec S2x8192x8x32 1 := cmpf .olt main_v3 main_v4
  let main_v6 : FVec F S2x8192x8x64 .f32 := Host.absf main_arg2
  let main_cst_1 : FVec F S_ .f32 := constant S_ .f32 0x7F800000#32
  let main_v7 : FVec F S2x8192x8x64 .f32 := broadcastInDim S2x8192x8x64 ![] bcast_S_S2x8192x8x64 main_cst_1
  let main_v8 : IVec S2x8192x8x64 1 := cmpf .olt main_v6 main_v7
  let main_v9 : FVec F S2x8192x32 .f32 := Host.absf main_arg3
  let main_cst_2 : FVec F S_ .f32 := constant S_ .f32 0x7F800000#32
  let main_v10 : FVec F S2x8192x32 .f32 := broadcastInDim S2x8192x32 ![] bcast_S_S2x8192x32 main_cst_2
  let main_v11 : IVec S2x8192x32 1 := cmpf .olt main_v9 main_v10
  (main_v2, main_v5, main_v8, main_v11)
-- ==== Kernel.lean ====
abbrev S2x8192x8x64 : Shape := ⟨4, ![2, 8192, 8, 64]⟩
abbrev S2x8192x8x32 : Shape := ⟨4, ![2, 8192, 8, 32]⟩
abbrev S2x8192x32 : Shape := ⟨3, ![2, 8192, 32]⟩
abbrev S_ : Shape := ⟨0, ![]⟩
abbrev S2x8192x8x128 : Shape := ⟨4, ![2, 8192, 8, 128]⟩
abbrev S2x8x128x8192 : Shape := ⟨4, ![2, 8, 128, 8192]⟩
abbrev S2x8192x1x32 : Shape := ⟨4, ![2, 8192, 1, 32]⟩
abbrev S2x8x8192x128 : Shape := ⟨4, ![2, 8, 8192, 128]⟩
abbrev S2x8x64x8192 : Shape := ⟨4, ![2, 8, 64, 8192]⟩
abbrev S2x512x8192 : Shape := ⟨3, ![2, 512, 8192]⟩
abbrev S2x8192x512 : Shape := ⟨3, ![2, 8192, 512]⟩
abbrev S1x2x128x8192 : Shape := ⟨4, ![1, 2, 128, 8192]⟩
abbrev S1x2x8192x128 : Shape := ⟨4, ![1, 2, 8192, 128]⟩
abbrev S1x128x8192 : Shape := ⟨3, ![1, 128, 8192]⟩
abbrev S1x8192x128 : Shape := ⟨3, ![1, 8192, 128]⟩
abbrev S2x2x512x512 : Shape := ⟨4, ![2, 2, 512, 512]⟩
abbrev S2x2x1x512 : Shape := ⟨4, ![2, 2, 1, 512]⟩
abbrev S16x512 : Shape := ⟨2, ![16, 512]⟩
abbrev S1x1x512x128 : Shape := ⟨4, ![1, 1, 512, 128]⟩
abbrev S512x128 : Shape := ⟨2, ![512, 128]⟩
abbrev S1x1x128x512 : Shape := ⟨4, ![1, 1, 128, 512]⟩
abbrev S128x512 : Shape := ⟨2, ![128, 512]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S80x512 : Shape := ⟨2, ![80, 512]⟩
abbrev S1x64x512 : Shape := ⟨3, ![1, 64, 512]⟩
abbrev S64x512 : Shape := ⟨2, ![64, 512]⟩
abbrev S1x512x128 : Shape := ⟨3, ![1, 512, 128]⟩

abbrev nBuf : Space → Nat
  | .hbm => 28
  | .vmem => 10
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x32, .f32⟩
  | .hbm, ⟨2, _⟩ => ⟨S2x8192x8x64, .f32⟩
  | .hbm, ⟨3, _⟩ => ⟨S2x8192x32, .f32⟩
  | .hbm, ⟨4, _⟩ => ⟨S2x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x8192x8x32, .f32⟩
  | .hbm, ⟨14, _⟩ => ⟨S2x8192x8x128, .f32⟩
  | .hbm, ⟨15, _⟩ => ⟨S2x8192x8x128, .f32⟩
  | .hbm, ⟨16, _⟩ => ⟨S2x8192x8x128, .f32⟩
  | .hbm, ⟨17, _⟩ => ⟨S2x8x128x8192, .f32⟩
  | .hbm, ⟨18, _⟩ => ⟨S2x8x128x8192, .bf16⟩
  | .hbm, ⟨19, _⟩ => ⟨S2x8192x1x32, .f32⟩
  | .hbm, ⟨20, _⟩ => ⟨S2x8192x8x32, .f32⟩
  | .hbm, ⟨21, _⟩ => ⟨S2x8192x8x128, .f32⟩
  | .hbm, ⟨22, _⟩ => ⟨S2x8x8192x128, .f32⟩
  | .hbm, ⟨23, _⟩ => ⟨S2x8x8192x128, .bf16⟩
  | .hbm, ⟨24, _⟩ => ⟨S2x8x64x8192, .f32⟩
  | .hbm, ⟨25, _⟩ => ⟨S2x512x8192, .f32⟩
  | .hbm, ⟨26, _⟩ => ⟨S2x512x8192, .bf16⟩
  | .hbm, ⟨27, _⟩ => ⟨S2x8192x512, .f32⟩
  | .local _ .vmem, ⟨0, _⟩ => ⟨S1x2x128x8192, .bf16⟩
  | .local _ .vmem, ⟨1, _⟩ => ⟨S1x2x128x8192, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x8192x128, .f32⟩
  | .local _ .vmem, ⟨7, _⟩ => ⟨S1x8192x128, .f32⟩
  | .local _ .vmem, ⟨8, _⟩ => ⟨S2x2x512x512, .f32⟩
  | .local _ .vmem, ⟨9, _⟩ => ⟨S2x2x1x512, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_mult1 : BitVec 32 :=
  let c0_i32_1 : BitVec 32 := 0#32
  c0_i32_1
def k0_mult2 : BitVec 32 :=
  let c0_i32_2 : BitVec 32 := 0#32
  c0_i32_2
@[reducible] def k0_t1_loop : Scf.Loop 32 :=
  let c0_i32_33 : BitVec 32 := 0#32
  let c16_i32 : BitVec 32 := 16#32
  let v39 : BitVec 32 := Scalar.addi c0_i32_33 c16_i32
  let c1_i32 : BitVec 32 := 1#32
  ⟨c0_i32_33, v39, c1_i32⟩
def k0_mult3 : BitVec 32 :=
  let c2_i32 : BitVec 32 := 2#32
  let c0_i32_39 : BitVec 32 := 0#32
  let v44 : BitVec 32 := Scalar.muli c2_i32 c0_i32_39
  let c1_i32_40 : BitVec 32 := 1#32
  let v45 : BitVec 32 := Scalar.addi v44 c1_i32_40
  let c512_i32 : BitVec 32 := 512#32
  let v46 : BitVec 32 := Scalar.muli v45 c512_i32
  v46
def k0_mult4 (k0_t1 : Fin k0_t1_loop.trips) : BitVec 32 :=
  let c0_i32_33 : BitVec 32 := 0#32
  let c1_i32 : BitVec 32 := 1#32
  let arg8 : BitVec 32 := Scf.iv c0_i32_33 c1_i32 k0_t1
  let c512_i32_41 : BitVec 32 := 512#32
  let v48 : BitVec 32 := Scalar.muli arg8 c512_i32_41
  v48
def k0_off1 (c0_i32_39 : BitVec 32) : Fin 4 → Nat :=
  let c0_42 : Index := 0#32
  let c0_43 : Index := 0#32
  let c2_i32 : BitVec 32 := 2#32
  let v44 : BitVec 32 := Scalar.muli c2_i32 c0_i32_39
  let c1_i32_40 : BitVec 32 := 1#32
  let v45 : BitVec 32 := Scalar.addi v44 c1_i32_40
  let c512_i32 : BitVec 32 := 512#32
  let v46 : BitVec 32 := Scalar.muli v45 c512_i32
  let v47 : BitVec 32 := v46
  let v50 : Index := Scalar.indexCast v47
  let c0_44 : Index := 0#32
  ![0, 0, v50.toNat, 0]
def k0_off2 (k0_t1 : Fin k0_t1_loop.trips) : Fin 4 → Nat :=
  let c0_45 : Index := 0#32
  let c0_46 : Index := 0#32
  let c0_47 : Index := 0#32
  let c0_i32_33 : BitVec 32 := 0#32
  let c1_i32 : BitVec 32 := 1#32
  let arg8 : BitVec 32 := Scf.iv c0_i32_33 c1_i32 k0_t1
  let c512_i32_41 : BitVec 32 := 512#32
  let v48 : BitVec 32 := Scalar.muli arg8 c512_i32_41
  let v49 : BitVec 32 := v48
  let v53 : Index := Scalar.indexCast v49
  ![0, 0, 0, v53.toNat]
def k0_off3 (c0_i32_39 : BitVec 32) : Fin 4 → Nat :=
  let c0_58 : Index := 0#32
  let c1_59 : Index := 1#32
  let c2_i32 : BitVec 32 := 2#32
  let v44 : BitVec 32 := Scalar.muli c2_i32 c0_i32_39
  let c1_i32_40 : BitVec 32 := 1#32
  let v45 : BitVec 32 := Scalar.addi v44 c1_i32_40
  let c512_i32 : BitVec 32 := 512#32
  let v46 : BitVec 32 := Scalar.muli v45 c512_i32
  let v47 : BitVec 32 := v46
  let v65 : Index := Scalar.indexCast v47
  let c0_60 : Index := 0#32
  ![0, 1, v65.toNat, 0]
def k0_off4 (k0_t1 : Fin k0_t1_loop.trips) : Fin 4 → Nat :=
  let c0_61 : Index := 0#32
  let c1_62 : Index := 1#32
  let c0_63 : Index := 0#32
  let c0_i32_33 : BitVec 32 := 0#32
  let c1_i32 : BitVec 32 := 1#32
  let arg8 : BitVec 32 := Scf.iv c0_i32_33 c1_i32 k0_t1
  let c512_i32_41 : BitVec 32 := 512#32
  let v48 : BitVec 32 := Scalar.muli arg8 c512_i32_41
  let v49 : BitVec 32 := v48
  let v68 : Index := Scalar.indexCast v49
  ![0, 1, 0, v68.toNat]
def k0_mult5 : BitVec 32 :=
  let c2_i32 : BitVec 32 := 2#32
  let c0_i32_39 : BitVec 32 := 0#32
  let v44 : BitVec 32 := Scalar.muli c2_i32 c0_i32_39
  let c512_i32_74 : BitVec 32 := 512#32
  let v80 : BitVec 32 := Scalar.muli v44 c512_i32_74
  v80
def k0_off5 (c0_i32_39 : BitVec 32) : Fin 3 → Nat :=
  let c0_83 : Index := 0#32
  let c0_84 : Index := 0#32
  let c2_i32 : BitVec 32 := 2#32
  let v44 : BitVec 32 := Scalar.muli c2_i32 c0_i32_39
  let c512_i32_74 : BitVec 32 := 512#32
  let v80 : BitVec 32 := Scalar.muli v44 c512_i32_74
  let v81 : BitVec 32 := v80
  let v93 : Index := Scalar.indexCast v81
  ![0, 0, v93.toNat]
def k0_off6 (c0_i32_39 : BitVec 32) : Fin 3 → Nat :=
  let c0_94 : Index := 0#32
  let c64 : Index := 64#32
  let c2_i32 : BitVec 32 := 2#32
  let v44 : BitVec 32 := Scalar.muli c2_i32 c0_i32_39
  let c512_i32_74 : BitVec 32 := 512#32
  let v80 : BitVec 32 := Scalar.muli v44 c512_i32_74
  let v81 : BitVec 32 := v80
  let v112 : Index := Scalar.indexCast v81
  ![0, 64, v112.toNat]
def k0_mult6 : BitVec 32 :=
  let c2_i32 : BitVec 32 := 2#32
  let c0_i32_39 : BitVec 32 := 0#32
  let v44 : BitVec 32 := Scalar.muli c2_i32 c0_i32_39
  let c2_i32_96 : BitVec 32 := 2#32
  let v120 : BitVec 32 := Scalar.addi v44 c2_i32_96
  let c16_i32_97 : BitVec 32 := 16#32
  let v121 : BitVec 1 := Scalar.cmpi .sge v120 c16_i32_97
  let c0_i32_100 : BitVec 32 := 0#32
  let c2_i32_99 : BitVec 32 := 2#32
  let v125 : BitVec 32 := Scalar.addi v44 c2_i32_99
  let v126 : BitVec 32 := Scalar.select v121 c0_i32_100 v125
  let c512_i32_101 : BitVec 32 := 512#32
  let v127 : BitVec 32 := Scalar.muli v126 c512_i32_101
  v127
def k0_mult7 (k0_t1 : Fin k0_t1_loop.trips) : BitVec 32 :=
  let c2_i32 : BitVec 32 := 2#32
  let c0_i32_39 : BitVec 32 := 0#32
  let v44 : BitVec 32 := Scalar.muli c2_i32 c0_i32_39
  let c2_i32_96 : BitVec 32 := 2#32
  let v120 : BitVec 32 := Scalar.addi v44 c2_i32_96
  let c16_i32_97 : BitVec 32 := 16#32
  let v121 : BitVec 1 := Scalar.cmpi .sge v120 c16_i32_97
  let c0_i32_33 : BitVec 32 := 0#32
  let c1_i32 : BitVec 32 := 1#32
  let arg8 : BitVec 32 := Scf.iv c0_i32_33 c1_i32 k0_t1
  let c1_i32_98 : BitVec 32 := 1#32
  let v122 : BitVec 32 := Scalar.addi arg8 c1_i32_98
  let c15_i32 : BitVec 32 := 15#32
  let v123 : BitVec 32 := Scalar.minsi v122 c15_i32
  let v124 : BitVec 32 := Scalar.select v121 v123 arg8
  let c512_i32_102 : BitVec 32 := 512#32
  let v129 : BitVec 32 := Scalar.muli v124 c512_i32_102
  v129
def k0_off7 (c0_i32_39 : BitVec 32) : Fin 4 → Nat :=
  let c0_103 : Index := 0#32
  let c0_104 : Index := 0#32
  let c2_i32 : BitVec 32 := 2#32
  let v44 : BitVec 32 := Scalar.muli c2_i32 c0_i32_39
  let c2_i32_96 : BitVec 32 := 2#32
  let v120 : BitVec 32 := Scalar.addi v44 c2_i32_96
  let c16_i32_97 : BitVec 32 := 16#32
  let v121 : BitVec 1 := Scalar.cmpi .sge v120 c16_i32_97
  let c0_i32_100 : BitVec 32 := 0#32
  let c2_i32_99 : BitVec 32 := 2#32
  let v125 : BitVec 32 := Scalar.addi v44 c2_i32_99
  let v126 : BitVec 32 := Scalar.select v121 c0_i32_100 v125
  let c512_i32_101 : BitVec 32 := 512#32
  let v127 : BitVec 32 := Scalar.muli v126 c512_i32_101
  let v128 : BitVec 32 := v127
  let v131 : Index := Scalar.indexCast v128
  let c0_105 : Index := 0#32
  ![0, 0, v131.toNat, 0]
def k0_off8 (k0_t1 : Fin k0_t1_loop.trips) (c0_i32_39 : BitVec 32) : Fin 4 → Nat :=
  let c0_106 : Index := 0#32
  let c0_107 : Index := 0#32
  let c0_108 : Index := 0#32
  let c2_i32 : BitVec 32 := 2#32
  let v44 : BitVec 32 := Scalar.muli c2_i32 c0_i32_39
  let c2_i32_96 : BitVec 32 := 2#32
  let v120 : BitVec 32 := Scalar.addi v44 c2_i32_96
  let c16_i32_97 : BitVec 32 := 16#32
  let v121 : BitVec 1 := Scalar.cmpi .sge v120 c16_i32_97
  let c0_i32_33 : BitVec 32 := 0#32
  let c1_i32 : BitVec 32 := 1#32
  let arg8 : BitVec 32 := Scf.iv c0_i32_33 c1_i32 k0_t1
  let c1_i32_98 : BitVec 32 := 1#32
  let v122 : BitVec 32 := Scalar.addi arg8 c1_i32_98
  let c15_i32 : BitVec 32 := 15#32
  let v123 : BitVec 32 := Scalar.minsi v122 c15_i32
  let v124 : BitVec 32 := Scalar.select v121 v123 arg8
  let c512_i32_102 : BitVec 32 := 512#32
  let v129 : BitVec 32 := Scalar.muli v124 c512_i32_102
  let v130 : BitVec 32 := v129
  let v134 : Index := Scalar.indexCast v130
  ![0, 0, 0, v134.toNat]
def k0_off9 (c0_i32_39 : BitVec 32) : Fin 4 → Nat :=
  let c0_119 : Index := 0#32
  let c1_120 : Index := 1#32
  let c2_i32 : BitVec 32 := 2#32
  let v44 : BitVec 32 := Scalar.muli c2_i32 c0_i32_39
  let c2_i32_96 : BitVec 32 := 2#32
  let v120 : BitVec 32 := Scalar.addi v44 c2_i32_96
  let c16_i32_97 : BitVec 32 := 16#32
  let v121 : BitVec 1 := Scalar.cmpi .sge v120 c16_i32_97
  let c0_i32_100 : BitVec 32 := 0#32
  let c2_i32_99 : BitVec 32 := 2#32
  let v125 : BitVec 32 := Scalar.addi v44 c2_i32_99
  let v126 : BitVec 32 := Scalar.select v121 c0_i32_100 v125
  let c512_i32_101 : BitVec 32 := 512#32
  let v127 : BitVec 32 := Scalar.muli v126 c512_i32_101
  let v128 : BitVec 32 := v127
  let v146 : Index := Scalar.indexCast v128
  let c0_121 : Index := 0#32
  ![0, 1, v146.toNat, 0]
def k0_off10 (k0_t1 : Fin k0_t1_loop.trips) (c0_i32_39 : BitVec 32) : Fin 4 → Nat :=
  let c0_122 : Index := 0#32
  let c1_123 : Index := 1#32
  let c0_124 : Index := 0#32
  let c2_i32 : BitVec 32 := 2#32
  let v44 : BitVec 32 := Scalar.muli c2_i32 c0_i32_39
  let c2_i32_96 : BitVec 32 := 2#32
  let v120 : BitVec 32 := Scalar.addi v44 c2_i32_96
  let c16_i32_97 : BitVec 32 := 16#32
  let v121 : BitVec 1 := Scalar.cmpi .sge v120 c16_i32_97
  let c0_i32_33 : BitVec 32 := 0#32
  let c1_i32 : BitVec 32 := 1#32
  let arg8 : BitVec 32 := Scf.iv c0_i32_33 c1_i32 k0_t1
  let c1_i32_98 : BitVec 32 := 1#32
  let v122 : BitVec 32 := Scalar.addi arg8 c1_i32_98
  let c15_i32 : BitVec 32 := 15#32
  let v123 : BitVec 32 := Scalar.minsi v122 c15_i32
  let v124 : BitVec 32 := Scalar.select v121 v123 arg8
  let c512_i32_102 : BitVec 32 := 512#32
  let v129 : BitVec 32 := Scalar.muli v124 c512_i32_102
  let v130 : BitVec 32 := v129
  let v149 : Index := Scalar.indexCast v130
  ![0, 1, 0, v149.toNat]
def k0_mult8 : BitVec 32 :=
  let c2_i32 : BitVec 32 := 2#32
  let c0_i32_39 : BitVec 32 := 0#32
  let v44 : BitVec 32 := Scalar.muli c2_i32 c0_i32_39
  let c1_i32_135 : BitVec 32 := 1#32
  let v161 : BitVec 32 := Scalar.addi v44 c1_i32_135
  let c512_i32_136 : BitVec 32 := 512#32
  let v162 : BitVec 32 := Scalar.muli v161 c512_i32_136
  v162
def k0_off11 (c0_i32_39 : BitVec 32) : Fin 3 → Nat :=
  let c0_145 : Index := 0#32
  let c0_146 : Index := 0#32
  let c2_i32 : BitVec 32 := 2#32
  let v44 : BitVec 32 := Scalar.muli c2_i32 c0_i32_39
  let c1_i32_135 : BitVec 32 := 1#32
  let v161 : BitVec 32 := Scalar.addi v44 c1_i32_135
  let c512_i32_136 : BitVec 32 := 512#32
  let v162 : BitVec 32 := Scalar.muli v161 c512_i32_136
  let v163 : BitVec 32 := v162
  let v175 : Index := Scalar.indexCast v163
  ![0, 0, v175.toNat]
def k0_off12 (c0_i32_39 : BitVec 32) : Fin 3 → Nat :=
  let c0_156 : Index := 0#32
  let c64_157 : Index := 64#32
  let c2_i32 : BitVec 32 := 2#32
  let v44 : BitVec 32 := Scalar.muli c2_i32 c0_i32_39
  let c1_i32_135 : BitVec 32 := 1#32
  let v161 : BitVec 32 := Scalar.addi v44 c1_i32_135
  let c512_i32_136 : BitVec 32 := 512#32
  let v162 : BitVec 32 := Scalar.muli v161 c512_i32_136
  let v163 : BitVec 32 := v162
  let v194 : Index := Scalar.indexCast v163
  ![0, 64, v194.toNat]
def k0_mult9 : BitVec 32 :=
  let c2_i32_160 : BitVec 32 := 2#32
  let c1_i32_159 : BitVec 32 := 1#32
  let v202 : BitVec 32 := Scalar.muli c2_i32_160 c1_i32_159
  let c1_i32_161 : BitVec 32 := 1#32
  let v203 : BitVec 32 := Scalar.addi v202 c1_i32_161
  let c512_i32_162 : BitVec 32 := 512#32
  let v204 : BitVec 32 := Scalar.muli v203 c512_i32_162
  v204
def k0_mult10 (k0_t1 : Fin k0_t1_loop.trips) : BitVec 32 :=
  let c0_i32_33 : BitVec 32 := 0#32
  let c1_i32 : BitVec 32 := 1#32
  let arg8 : BitVec 32 := Scf.iv c0_i32_33 c1_i32 k0_t1
  let c512_i32_163 : BitVec 32 := 512#32
  let v206 : BitVec 32 := Scalar.muli arg8 c512_i32_163
  v206
def k0_mult11 : BitVec 32 :=
  let c2_i32_160 : BitVec 32 := 2#32
  let c1_i32_159 : BitVec 32 := 1#32
  let v202 : BitVec 32 := Scalar.muli c2_i32_160 c1_i32_159
  let c512_i32_196 : BitVec 32 := 512#32
  let v238 : BitVec 32 := Scalar.muli v202 c512_i32_196
  v238
def k0_mult12 : BitVec 32 :=
  let c2_i32_160 : BitVec 32 := 2#32
  let c1_i32_159 : BitVec 32 := 1#32
  let v202 : BitVec 32 := Scalar.muli c2_i32_160 c1_i32_159
  let c2_i32_219 : BitVec 32 := 2#32
  let v278 : BitVec 32 := Scalar.addi v202 c2_i32_219
  let c16_i32_220 : BitVec 32 := 16#32
  let v279 : BitVec 1 := Scalar.cmpi .sge v278 c16_i32_220
  let c0_i32_224 : BitVec 32 := 0#32
  let c2_i32_223 : BitVec 32 := 2#32
  let v283 : BitVec 32 := Scalar.addi v202 c2_i32_223
  let v284 : BitVec 32 := Scalar.select v279 c0_i32_224 v283
  let c512_i32_225 : BitVec 32 := 512#32
  let v285 : BitVec 32 := Scalar.muli v284 c512_i32_225
  v285
def k0_mult13 (k0_t1 : Fin k0_t1_loop.trips) : BitVec 32 :=
  let c2_i32_160 : BitVec 32 := 2#32
  let c1_i32_159 : BitVec 32 := 1#32
  let v202 : BitVec 32 := Scalar.muli c2_i32_160 c1_i32_159
  let c2_i32_219 : BitVec 32 := 2#32
  let v278 : BitVec 32 := Scalar.addi v202 c2_i32_219
  let c16_i32_220 : BitVec 32 := 16#32
  let v279 : BitVec 1 := Scalar.cmpi .sge v278 c16_i32_220
  let c0_i32_33 : BitVec 32 := 0#32
  let c1_i32 : BitVec 32 := 1#32
  let arg8 : BitVec 32 := Scf.iv c0_i32_33 c1_i32 k0_t1
  let c1_i32_221 : BitVec 32 := 1#32
  let v280 : BitVec 32 := Scalar.addi arg8 c1_i32_221
  let c15_i32_222 : BitVec 32 := 15#32
  let v281 : BitVec 32 := Scalar.minsi v280 c15_i32_222
  let v282 : BitVec 32 := Scalar.select v279 v281 arg8
  let c512_i32_226 : BitVec 32 := 512#32
  let v287 : BitVec 32 := Scalar.muli v282 c512_i32_226
  v287
def k0_mult14 : BitVec 32 :=
  let c2_i32_160 : BitVec 32 := 2#32
  let c1_i32_159 : BitVec 32 := 1#32
  let v202 : BitVec 32 := Scalar.muli c2_i32_160 c1_i32_159
  let c1_i32_259 : BitVec 32 := 1#32
  let v319 : BitVec 32 := Scalar.addi v202 c1_i32_259
  let c512_i32_260 : BitVec 32 := 512#32
  let v320 : BitVec 32 := Scalar.muli v319 c512_i32_260
  v320
def k0_mult15 : BitVec 32 :=
  let c2_i32_284 : BitVec 32 := 2#32
  let c2_i32_283 : BitVec 32 := 2#32
  let v360 : BitVec 32 := Scalar.muli c2_i32_284 c2_i32_283
  let c1_i32_285 : BitVec 32 := 1#32
  let v361 : BitVec 32 := Scalar.addi v360 c1_i32_285
  let c512_i32_286 : BitVec 32 := 512#32
  let v362 : BitVec 32 := Scalar.muli v361 c512_i32_286
  v362
def k0_mult16 (k0_t1 : Fin k0_t1_loop.trips) : BitVec 32 :=
  let c0_i32_33 : BitVec 32 := 0#32
  let c1_i32 : BitVec 32 := 1#32
  let arg8 : BitVec 32 := Scf.iv c0_i32_33 c1_i32 k0_t1
  let c512_i32_287 : BitVec 32 := 512#32
  let v364 : BitVec 32 := Scalar.muli arg8 c512_i32_287
  v364
def k0_mult17 : BitVec 32 :=
  let c2_i32_284 : BitVec 32 := 2#32
  let c2_i32_283 : BitVec 32 := 2#32
  let v360 : BitVec 32 := Scalar.muli c2_i32_284 c2_i32_283
  let c512_i32_320 : BitVec 32 := 512#32
  let v396 : BitVec 32 := Scalar.muli v360 c512_i32_320
  v396
def k0_mult18 : BitVec 32 :=
  let c2_i32_284 : BitVec 32 := 2#32
  let c2_i32_283 : BitVec 32 := 2#32
  let v360 : BitVec 32 := Scalar.muli c2_i32_284 c2_i32_283
  let c2_i32_343 : BitVec 32 := 2#32
  let v436 : BitVec 32 := Scalar.addi v360 c2_i32_343
  let c16_i32_344 : BitVec 32 := 16#32
  let v437 : BitVec 1 := Scalar.cmpi .sge v436 c16_i32_344
  let c0_i32_348 : BitVec 32 := 0#32
  let c2_i32_347 : BitVec 32 := 2#32
  let v441 : BitVec 32 := Scalar.addi v360 c2_i32_347
  let v442 : BitVec 32 := Scalar.select v437 c0_i32_348 v441
  let c512_i32_349 : BitVec 32 := 512#32
  let v443 : BitVec 32 := Scalar.muli v442 c512_i32_349
  v443
def k0_mult19 (k0_t1 : Fin k0_t1_loop.trips) : BitVec 32 :=
  let c2_i32_284 : BitVec 32 := 2#32
  let c2_i32_283 : BitVec 32 := 2#32
  let v360 : BitVec 32 := Scalar.muli c2_i32_284 c2_i32_283
  let c2_i32_343 : BitVec 32 := 2#32
  let v436 : BitVec 32 := Scalar.addi v360 c2_i32_343
  let c16_i32_344 : BitVec 32 := 16#32
  let v437 : BitVec 1 := Scalar.cmpi .sge v436 c16_i32_344
  let c0_i32_33 : BitVec 32 := 0#32
  let c1_i32 : BitVec 32 := 1#32
  let arg8 : BitVec 32 := Scf.iv c0_i32_33 c1_i32 k0_t1
  let c1_i32_345 : BitVec 32 := 1#32
  let v438 : BitVec 32 := Scalar.addi arg8 c1_i32_345
  let c15_i32_346 : BitVec 32 := 15#32
  let v439 : BitVec 32 := Scalar.minsi v438 c15_i32_346
  let v440 : BitVec 32 := Scalar.select v437 v439 arg8
  let c512_i32_350 : BitVec 32 := 512#32
  let v445 : BitVec 32 := Scalar.muli v440 c512_i32_350
  v445
def k0_mult20 : BitVec 32 :=
  let c2_i32_284 : BitVec 32 := 2#32
  let c2_i32_283 : BitVec 32 := 2#32
  let v360 : BitVec 32 := Scalar.muli c2_i32_284 c2_i32_283
  let c1_i32_383 : BitVec 32 := 1#32
  let v477 : BitVec 32 := Scalar.addi v360 c1_i32_383
  let c512_i32_384 : BitVec 32 := 512#32
  let v478 : BitVec 32 := Scalar.muli v477 c512_i32_384
  v478
def k0_mult21 : BitVec 32 :=
  let c2_i32_407 : BitVec 32 := 2#32
  let c3_i32 : BitVec 32 := 3#32
  let v518 : BitVec 32 := Scalar.muli c2_i32_407 c3_i32
  let c1_i32_408 : BitVec 32 := 1#32
  let v519 : BitVec 32 := Scalar.addi v518 c1_i32_408
  let c512_i32_409 : BitVec 32 := 512#32
  let v520 : BitVec 32 := Scalar.muli v519 c512_i32_409
  v520
def k0_mult22 (k0_t1 : Fin k0_t1_loop.trips) : BitVec 32 :=
  let c0_i32_33 : BitVec 32 := 0#32
  let c1_i32 : BitVec 32 := 1#32
  let arg8 : BitVec 32 := Scf.iv c0_i32_33 c1_i32 k0_t1
  let c512_i32_410 : BitVec 32 := 512#32
  let v522 : BitVec 32 := Scalar.muli arg8 c512_i32_410
  v522
def k0_mult23 : BitVec 32 :=
  let c2_i32_407 : BitVec 32 := 2#32
  let c3_i32 : BitVec 32 := 3#32
  let v518 : BitVec 32 := Scalar.muli c2_i32_407 c3_i32
  let c512_i32_443 : BitVec 32 := 512#32
  let v554 : BitVec 32 := Scalar.muli v518 c512_i32_443
  v554
def k0_mult24 : BitVec 32 :=
  let c2_i32_407 : BitVec 32 := 2#32
  let c3_i32 : BitVec 32 := 3#32
  let v518 : BitVec 32 := Scalar.muli c2_i32_407 c3_i32
  let c2_i32_466 : BitVec 32 := 2#32
  let v594 : BitVec 32 := Scalar.addi v518 c2_i32_466
  let c16_i32_467 : BitVec 32 := 16#32
  let v595 : BitVec 1 := Scalar.cmpi .sge v594 c16_i32_467
  let c0_i32_471 : BitVec 32 := 0#32
  let c2_i32_470 : BitVec 32 := 2#32
  let v599 : BitVec 32 := Scalar.addi v518 c2_i32_470
  let v600 : BitVec 32 := Scalar.select v595 c0_i32_471 v599
  let c512_i32_472 : BitVec 32 := 512#32
  let v601 : BitVec 32 := Scalar.muli v600 c512_i32_472
  v601
def k0_mult25 (k0_t1 : Fin k0_t1_loop.trips) : BitVec 32 :=
  let c2_i32_407 : BitVec 32 := 2#32
  let c3_i32 : BitVec 32 := 3#32
  let v518 : BitVec 32 := Scalar.muli c2_i32_407 c3_i32
  let c2_i32_466 : BitVec 32 := 2#32
  let v594 : BitVec 32 := Scalar.addi v518 c2_i32_466
  let c16_i32_467 : BitVec 32 := 16#32
  let v595 : BitVec 1 := Scalar.cmpi .sge v594 c16_i32_467
  let c0_i32_33 : BitVec 32 := 0#32
  let c1_i32 : BitVec 32 := 1#32
  let arg8 : BitVec 32 := Scf.iv c0_i32_33 c1_i32 k0_t1
  let c1_i32_468 : BitVec 32 := 1#32
  let v596 : BitVec 32 := Scalar.addi arg8 c1_i32_468
  let c15_i32_469 : BitVec 32 := 15#32
  let v597 : BitVec 32 := Scalar.minsi v596 c15_i32_469
  let v598 : BitVec 32 := Scalar.select v595 v597 arg8
  let c512_i32_473 : BitVec 32 := 512#32
  let v603 : BitVec 32 := Scalar.muli v598 c512_i32_473
  v603
def k0_mult26 : BitVec 32 :=
  let c2_i32_407 : BitVec 32 := 2#32
  let c3_i32 : BitVec 32 := 3#32
  let v518 : BitVec 32 := Scalar.muli c2_i32_407 c3_i32
  let c1_i32_506 : BitVec 32 := 1#32
  let v635 : BitVec 32 := Scalar.addi v518 c1_i32_506
  let c512_i32_507 : BitVec 32 := 512#32
  let v636 : BitVec 32 := Scalar.muli v635 c512_i32_507
  v636
def k0_mult27 : BitVec 32 :=
  let c2_i32_530 : BitVec 32 := 2#32
  let c4_i32 : BitVec 32 := 4#32
  let v676 : BitVec 32 := Scalar.muli c2_i32_530 c4_i32
  let c1_i32_531 : BitVec 32 := 1#32
  let v677 : BitVec 32 := Scalar.addi v676 c1_i32_531
  let c512_i32_532 : BitVec 32 := 512#32
  let v678 : BitVec 32 := Scalar.muli v677 c512_i32_532
  v678
def k0_mult28 (k0_t1 : Fin k0_t1_loop.trips) : BitVec 32 :=
  let c0_i32_33 : BitVec 32 := 0#32
  let c1_i32 : BitVec 32 := 1#32
  let arg8 : BitVec 32 := Scf.iv c0_i32_33 c1_i32 k0_t1
  let c512_i32_533 : BitVec 32 := 512#32
  let v680 : BitVec 32 := Scalar.muli arg8 c512_i32_533
  v680
def k0_mult29 : BitVec 32 :=
  let c2_i32_530 : BitVec 32 := 2#32
  let c4_i32 : BitVec 32 := 4#32
  let v676 : BitVec 32 := Scalar.muli c2_i32_530 c4_i32
  let c512_i32_566 : BitVec 32 := 512#32
  let v712 : BitVec 32 := Scalar.muli v676 c512_i32_566
  v712
def k0_mult30 : BitVec 32 :=
  let c2_i32_530 : BitVec 32 := 2#32
  let c4_i32 : BitVec 32 := 4#32
  let v676 : BitVec 32 := Scalar.muli c2_i32_530 c4_i32
  let c2_i32_589 : BitVec 32 := 2#32
  let v752 : BitVec 32 := Scalar.addi v676 c2_i32_589
  let c16_i32_590 : BitVec 32 := 16#32
  let v753 : BitVec 1 := Scalar.cmpi .sge v752 c16_i32_590
  let c0_i32_594 : BitVec 32 := 0#32
  let c2_i32_593 : BitVec 32 := 2#32
  let v757 : BitVec 32 := Scalar.addi v676 c2_i32_593
  let v758 : BitVec 32 := Scalar.select v753 c0_i32_594 v757
  let c512_i32_595 : BitVec 32 := 512#32
  let v759 : BitVec 32 := Scalar.muli v758 c512_i32_595
  v759
def k0_mult31 (k0_t1 : Fin k0_t1_loop.trips) : BitVec 32 :=
  let c2_i32_530 : BitVec 32 := 2#32
  let c4_i32 : BitVec 32 := 4#32
  let v676 : BitVec 32 := Scalar.muli c2_i32_530 c4_i32
  let c2_i32_589 : BitVec 32 := 2#32
  let v752 : BitVec 32 := Scalar.addi v676 c2_i32_589
  let c16_i32_590 : BitVec 32 := 16#32
  let v753 : BitVec 1 := Scalar.cmpi .sge v752 c16_i32_590
  let c0_i32_33 : BitVec 32 := 0#32
  let c1_i32 : BitVec 32 := 1#32
  let arg8 : BitVec 32 := Scf.iv c0_i32_33 c1_i32 k0_t1
  let c1_i32_591 : BitVec 32 := 1#32
  let v754 : BitVec 32 := Scalar.addi arg8 c1_i32_591
  let c15_i32_592 : BitVec 32 := 15#32
  let v755 : BitVec 32 := Scalar.minsi v754 c15_i32_592
  let v756 : BitVec 32 := Scalar.select v753 v755 arg8
  let c512_i32_596 : BitVec 32 := 512#32
  let v761 : BitVec 32 := Scalar.muli v756 c512_i32_596
  v761
def k0_mult32 : BitVec 32 :=
  let c2_i32_530 : BitVec 32 := 2#32
  let c4_i32 : BitVec 32 := 4#32
  let v676 : BitVec 32 := Scalar.muli c2_i32_530 c4_i32
  let c1_i32_629 : BitVec 32 := 1#32
  let v793 : BitVec 32 := Scalar.addi v676 c1_i32_629
  let c512_i32_630 : BitVec 32 := 512#32
  let v794 : BitVec 32 := Scalar.muli v793 c512_i32_630
  v794
def k0_mult33 : BitVec 32 :=
  let c2_i32_653 : BitVec 32 := 2#32
  let c5_i32 : BitVec 32 := 5#32
  let v834 : BitVec 32 := Scalar.muli c2_i32_653 c5_i32
  let c1_i32_654 : BitVec 32 := 1#32
  let v835 : BitVec 32 := Scalar.addi v834 c1_i32_654
  let c512_i32_655 : BitVec 32 := 512#32
  let v836 : BitVec 32 := Scalar.muli v835 c512_i32_655
  v836
def k0_mult34 (k0_t1 : Fin k0_t1_loop.trips) : BitVec 32 :=
  let c0_i32_33 : BitVec 32 := 0#32
  let c1_i32 : BitVec 32 := 1#32
  let arg8 : BitVec 32 := Scf.iv c0_i32_33 c1_i32 k0_t1
  let c512_i32_656 : BitVec 32 := 512#32
  let v838 : BitVec 32 := Scalar.muli arg8 c512_i32_656
  v838
def k0_mult35 : BitVec 32 :=
  let c2_i32_653 : BitVec 32 := 2#32
  let c5_i32 : BitVec 32 := 5#32
  let v834 : BitVec 32 := Scalar.muli c2_i32_653 c5_i32
  let c512_i32_689 : BitVec 32 := 512#32
  let v870 : BitVec 32 := Scalar.muli v834 c512_i32_689
  v870
def k0_mult36 : BitVec 32 :=
  let c2_i32_653 : BitVec 32 := 2#32
  let c5_i32 : BitVec 32 := 5#32
  let v834 : BitVec 32 := Scalar.muli c2_i32_653 c5_i32
  let c2_i32_712 : BitVec 32 := 2#32
  let v910 : BitVec 32 := Scalar.addi v834 c2_i32_712
  let c16_i32_713 : BitVec 32 := 16#32
  let v911 : BitVec 1 := Scalar.cmpi .sge v910 c16_i32_713
  let c0_i32_717 : BitVec 32 := 0#32
  let c2_i32_716 : BitVec 32 := 2#32
  let v915 : BitVec 32 := Scalar.addi v834 c2_i32_716
  let v916 : BitVec 32 := Scalar.select v911 c0_i32_717 v915
  let c512_i32_718 : BitVec 32 := 512#32
  let v917 : BitVec 32 := Scalar.muli v916 c512_i32_718
  v917
def k0_mult37 (k0_t1 : Fin k0_t1_loop.trips) : BitVec 32 :=
  let c2_i32_653 : BitVec 32 := 2#32
  let c5_i32 : BitVec 32 := 5#32
  let v834 : BitVec 32 := Scalar.muli c2_i32_653 c5_i32
  let c2_i32_712 : BitVec 32 := 2#32
  let v910 : BitVec 32 := Scalar.addi v834 c2_i32_712
  let c16_i32_713 : BitVec 32 := 16#32
  let v911 : BitVec 1 := Scalar.cmpi .sge v910 c16_i32_713
  let c0_i32_33 : BitVec 32 := 0#32
  let c1_i32 : BitVec 32 := 1#32
  let arg8 : BitVec 32 := Scf.iv c0_i32_33 c1_i32 k0_t1
  let c1_i32_714 : BitVec 32 := 1#32
  let v912 : BitVec 32 := Scalar.addi arg8 c1_i32_714
  let c15_i32_715 : BitVec 32 := 15#32
  let v913 : BitVec 32 := Scalar.minsi v912 c15_i32_715
  let v914 : BitVec 32 := Scalar.select v911 v913 arg8
  let c512_i32_719 : BitVec 32 := 512#32
  let v919 : BitVec 32 := Scalar.muli v914 c512_i32_719
  v919
def k0_mult38 : BitVec 32 :=
  let c2_i32_653 : BitVec 32 := 2#32
  let c5_i32 : BitVec 32 := 5#32
  let v834 : BitVec 32 := Scalar.muli c2_i32_653 c5_i32
  let c1_i32_752 : BitVec 32 := 1#32
  let v951 : BitVec 32 := Scalar.addi v834 c1_i32_752
  let c512_i32_753 : BitVec 32 := 512#32
  let v952 : BitVec 32 := Scalar.muli v951 c512_i32_753
  v952
def k0_mult39 : BitVec 32 :=
  let c2_i32_776 : BitVec 32 := 2#32
  let c6_i32 : BitVec 32 := 6#32
  let v992 : BitVec 32 := Scalar.muli c2_i32_776 c6_i32
  let c1_i32_777 : BitVec 32 := 1#32
  let v993 : BitVec 32 := Scalar.addi v992 c1_i32_777
  let c512_i32_778 : BitVec 32 := 512#32
  let v994 : BitVec 32 := Scalar.muli v993 c512_i32_778
  v994
def k0_mult40 (k0_t1 : Fin k0_t1_loop.trips) : BitVec 32 :=
  let c0_i32_33 : BitVec 32 := 0#32
  let c1_i32 : BitVec 32 := 1#32
  let arg8 : BitVec 32 := Scf.iv c0_i32_33 c1_i32 k0_t1
  let c512_i32_779 : BitVec 32 := 512#32
  let v996 : BitVec 32 := Scalar.muli arg8 c512_i32_779
  v996
def k0_mult41 : BitVec 32 :=
  let c2_i32_776 : BitVec 32 := 2#32
  let c6_i32 : BitVec 32 := 6#32
  let v992 : BitVec 32 := Scalar.muli c2_i32_776 c6_i32
  let c512_i32_812 : BitVec 32 := 512#32
  let v1028 : BitVec 32 := Scalar.muli v992 c512_i32_812
  v1028
def k0_mult42 : BitVec 32 :=
  let c2_i32_776 : BitVec 32 := 2#32
  let c6_i32 : BitVec 32 := 6#32
  let v992 : BitVec 32 := Scalar.muli c2_i32_776 c6_i32
  let c2_i32_835 : BitVec 32 := 2#32
  let v1068 : BitVec 32 := Scalar.addi v992 c2_i32_835
  let c16_i32_836 : BitVec 32 := 16#32
  let v1069 : BitVec 1 := Scalar.cmpi .sge v1068 c16_i32_836
  let c0_i32_840 : BitVec 32 := 0#32
  let c2_i32_839 : BitVec 32 := 2#32
  let v1073 : BitVec 32 := Scalar.addi v992 c2_i32_839
  let v1074 : BitVec 32 := Scalar.select v1069 c0_i32_840 v1073
  let c512_i32_841 : BitVec 32 := 512#32
  let v1075 : BitVec 32 := Scalar.muli v1074 c512_i32_841
  v1075
def k0_mult43 (k0_t1 : Fin k0_t1_loop.trips) : BitVec 32 :=
  let c2_i32_776 : BitVec 32 := 2#32
  let c6_i32 : BitVec 32 := 6#32
  let v992 : BitVec 32 := Scalar.muli c2_i32_776 c6_i32
  let c2_i32_835 : BitVec 32 := 2#32
  let v1068 : BitVec 32 := Scalar.addi v992 c2_i32_835
  let c16_i32_836 : BitVec 32 := 16#32
  let v1069 : BitVec 1 := Scalar.cmpi .sge v1068 c16_i32_836
  let c0_i32_33 : BitVec 32 := 0#32
  let c1_i32 : BitVec 32 := 1#32
  let arg8 : BitVec 32 := Scf.iv c0_i32_33 c1_i32 k0_t1
  let c1_i32_837 : BitVec 32 := 1#32
  let v1070 : BitVec 32 := Scalar.addi arg8 c1_i32_837
  let c15_i32_838 : BitVec 32 := 15#32
  let v1071 : BitVec 32 := Scalar.minsi v1070 c15_i32_838
  let v1072 : BitVec 32 := Scalar.select v1069 v1071 arg8
  let c512_i32_842 : BitVec 32 := 512#32
  let v1077 : BitVec 32 := Scalar.muli v1072 c512_i32_842
  v1077
def k0_mult44 : BitVec 32 :=
  let c2_i32_776 : BitVec 32 := 2#32
  let c6_i32 : BitVec 32 := 6#32
  let v992 : BitVec 32 := Scalar.muli c2_i32_776 c6_i32
  let c1_i32_875 : BitVec 32 := 1#32
  let v1109 : BitVec 32 := Scalar.addi v992 c1_i32_875
  let c512_i32_876 : BitVec 32 := 512#32
  let v1110 : BitVec 32 := Scalar.muli v1109 c512_i32_876
  v1110
def k0_mult45 : BitVec 32 :=
  let c2_i32_899 : BitVec 32 := 2#32
  let c7_i32 : BitVec 32 := 7#32
  let v1150 : BitVec 32 := Scalar.muli c2_i32_899 c7_i32
  let c1_i32_900 : BitVec 32 := 1#32
  let v1151 : BitVec 32 := Scalar.addi v1150 c1_i32_900
  let c512_i32_901 : BitVec 32 := 512#32
  let v1152 : BitVec 32 := Scalar.muli v1151 c512_i32_901
  v1152
def k0_mult46 (k0_t1 : Fin k0_t1_loop.trips) : BitVec 32 :=
  let c0_i32_33 : BitVec 32 := 0#32
  let c1_i32 : BitVec 32 := 1#32
  let arg8 : BitVec 32 := Scf.iv c0_i32_33 c1_i32 k0_t1
  let c512_i32_902 : BitVec 32 := 512#32
  let v1154 : BitVec 32 := Scalar.muli arg8 c512_i32_902
  v1154
def k0_mult47 : BitVec 32 :=
  let c2_i32_899 : BitVec 32 := 2#32
  let c7_i32 : BitVec 32 := 7#32
  let v1150 : BitVec 32 := Scalar.muli c2_i32_899 c7_i32
  let c512_i32_935 : BitVec 32 := 512#32
  let v1186 : BitVec 32 := Scalar.muli v1150 c512_i32_935
  v1186
def k0_mult48 : BitVec 32 :=
  let c2_i32_899 : BitVec 32 := 2#32
  let c7_i32 : BitVec 32 := 7#32
  let v1150 : BitVec 32 := Scalar.muli c2_i32_899 c7_i32
  let c2_i32_958 : BitVec 32 := 2#32
  let v1226 : BitVec 32 := Scalar.addi v1150 c2_i32_958
  let c16_i32_959 : BitVec 32 := 16#32
  let v1227 : BitVec 1 := Scalar.cmpi .sge v1226 c16_i32_959
  let c0_i32_963 : BitVec 32 := 0#32
  let c2_i32_962 : BitVec 32 := 2#32
  let v1231 : BitVec 32 := Scalar.addi v1150 c2_i32_962
  let v1232 : BitVec 32 := Scalar.select v1227 c0_i32_963 v1231
  let c512_i32_964 : BitVec 32 := 512#32
  let v1233 : BitVec 32 := Scalar.muli v1232 c512_i32_964
  v1233
def k0_mult49 (k0_t1 : Fin k0_t1_loop.trips) : BitVec 32 :=
  let c2_i32_899 : BitVec 32 := 2#32
  let c7_i32 : BitVec 32 := 7#32
  let v1150 : BitVec 32 := Scalar.muli c2_i32_899 c7_i32
  let c2_i32_958 : BitVec 32 := 2#32
  let v1226 : BitVec 32 := Scalar.addi v1150 c2_i32_958
  let c16_i32_959 : BitVec 32 := 16#32
  let v1227 : BitVec 1 := Scalar.cmpi .sge v1226 c16_i32_959
  let c0_i32_33 : BitVec 32 := 0#32
  let c1_i32 : BitVec 32 := 1#32
  let arg8 : BitVec 32 := Scf.iv c0_i32_33 c1_i32 k0_t1
  let c1_i32_960 : BitVec 32 := 1#32
  let v1228 : BitVec 32 := Scalar.addi arg8 c1_i32_960
  let c15_i32_961 : BitVec 32 := 15#32
  let v1229 : BitVec 32 := Scalar.minsi v1228 c15_i32_961
  let v1230 : BitVec 32 := Scalar.select v1227 v1229 arg8
  let c512_i32_965 : BitVec 32 := 512#32
  let v1235 : BitVec 32 := Scalar.muli v1230 c512_i32_965
  v1235
def k0_mult50 : BitVec 32 :=
  let c2_i32_899 : BitVec 32 := 2#32
  let c7_i32 : BitVec 32 := 7#32
  let v1150 : BitVec 32 := Scalar.muli c2_i32_899 c7_i32
  let c1_i32_998 : BitVec 32 := 1#32
  let v1267 : BitVec 32 := Scalar.addi v1150 c1_i32_998
  let c512_i32_999 : BitVec 32 := 512#32
  let v1268 : BitVec 32 := Scalar.muli v1267 c512_i32_999
  v1268
def k0_mult51 (k0_t1 : Fin k0_t1_loop.trips) : BitVec 32 :=
  let c0_i32_33 : BitVec 32 := 0#32
  let c1_i32 : BitVec 32 := 1#32
  let arg8 : BitVec 32 := Scf.iv c0_i32_33 c1_i32 k0_t1
  let c512_i32_1024 : BitVec 32 := 512#32
  let v1322 : BitVec 32 := Scalar.muli arg8 c512_i32_1024
  v1322
def k0_off13 (k0_t1 : Fin k0_t1_loop.trips) : Fin 3 → Nat :=
  let c0_1025 : Index := 0#32
  let c0_i32_33 : BitVec 32 := 0#32
  let c1_i32 : BitVec 32 := 1#32
  let arg8 : BitVec 32 := Scf.iv c0_i32_33 c1_i32 k0_t1
  let c512_i32_1024 : BitVec 32 := 512#32
  let v1322 : BitVec 32 := Scalar.muli arg8 c512_i32_1024
  let v1323 : BitVec 32 := v1322
  let v1324 : Index := Scalar.indexCast v1323
  let c0_1026 : Index := 0#32
  ![0, v1324.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8192x8x64 : Shape := ⟨4, ![2, 8192, 8, 64]⟩
abbrev S2x8192x8x32 : Shape := ⟨4, ![2, 8192, 8, 32]⟩
abbrev S2x8192x32 : Shape := ⟨3, ![2, 8192, 32]⟩
abbrev S_ : Shape := ⟨0, ![]⟩
abbrev S2x8x8192x8192 : Shape := ⟨4, ![2, 8, 8192, 8192]⟩
abbrev S2x8192x8192x8 : Shape := ⟨4, ![2, 8192, 8192, 8]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x8192x512 : Shape := ⟨3, ![2, 8192, 512]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x32, .f32⟩
  | .hbm, ⟨2, _⟩ => ⟨S2x8192x8x64, .f32⟩
  | .hbm, ⟨3, _⟩ => ⟨S2x8192x32, .f32⟩
  | .hbm, ⟨4, _⟩ => ⟨S2x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x8x8192x8192, .f32⟩
  | .hbm, ⟨10, _⟩ => ⟨S2x8192x8192x8, .f32⟩
  | .hbm, ⟨11, _⟩ => ⟨S2x8x8192x8192, .f32⟩
  | .hbm, ⟨12, _⟩ => ⟨S2x8x8192x8192, .f32⟩
  | .hbm, ⟨13, _⟩ => ⟨S2x8x8192x8192, .f32⟩
  | .hbm, ⟨14, _⟩ => ⟨S2x8x8192x8192, .f32⟩
  | .hbm, ⟨15, _⟩ => ⟨S_, .f32⟩
  | .hbm, ⟨16, _⟩ => ⟨S2x8x8192, .f32⟩
  | .hbm, ⟨17, _⟩ => ⟨S_, .f32⟩
  | .hbm, ⟨18, _⟩ => ⟨S2x8x8192, .f32⟩
  | .hbm, ⟨19, _⟩ => ⟨S2x8x8192, .f32⟩
  | .hbm, ⟨20, _⟩ => ⟨S2x8x8192x1, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S_, .f32⟩
  | .hbm, ⟨25, _⟩ => ⟨S2x8x8192, .f32⟩
  | .hbm, ⟨26, _⟩ => ⟨S2x8x8192x1, .f32⟩
  | .hbm, ⟨27, _⟩ => ⟨S2x8x8192x8192, .f32⟩
  | .hbm, ⟨28, _⟩ => ⟨S2x8x8192x8192, .f32⟩
  | .hbm, ⟨29, _⟩ => ⟨S2x8x64x8192, .f32⟩
  | .hbm, ⟨30, _⟩ => ⟨S2x8192x8x64, .f32⟩
  | .hbm, ⟨31, _⟩ => ⟨S2x8192x512, .f32⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel2.lean ====
abbrev S2x16x1024x1024 : Shape := ⟨4, ![2, 16, 1024, 1024]⟩
abbrev S16x1024x1024 : Shape := ⟨3, ![16, 1024, 1024]⟩
abbrev S16x2x1024x1024 : Shape := ⟨4, ![16, 2, 1024, 1024]⟩
abbrev S16x2048x1024 : Shape := ⟨3, ![16, 2048, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S2x16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x2x1024x1024, .f32⟩
  | .hbm, ⟨5, _⟩ => ⟨S16x2048x1024, .f32⟩
  | .hbm, ⟨6, _⟩ => ⟨S16x2048x1024, .bf16⟩
  | .hbm, ⟨7, _⟩ => ⟨S16x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S2x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x16x1024x1024 : Shape := ⟨4, ![2, 16, 1024, 1024]⟩
abbrev S16x1024x1024 : Shape := ⟨3, ![16, 1024, 1024]⟩
abbrev S16x1024x2x1024 : Shape := ⟨4, ![16, 1024, 2, 1024]⟩
abbrev S_ : Shape := ⟨0, ![]⟩
abbrev S16x2x1024x1024 : Shape := ⟨4, ![16, 2, 1024, 1024]⟩
abbrev S16x2048x1024 : Shape := ⟨3, ![16, 2048, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x1024x2x1024, .f32⟩
  | .hbm, ⟨5, _⟩ => ⟨S2x16x1024x1024, .f32⟩
  | .hbm, ⟨6, _⟩ => ⟨S2x16x1024x1024, .f32⟩
  | .hbm, ⟨7, _⟩ => ⟨S2x16x1024x1024, .f32⟩
  | .hbm, ⟨8, _⟩ => ⟨S_, .f32⟩
  | .hbm, ⟨9, _⟩ => ⟨S2x16x1024x1024, .f32⟩
  | .hbm, ⟨10, _⟩ => ⟨S2x16x1024x1024, .f32⟩
  | .hbm, ⟨11, _⟩ => ⟨S_, .f32⟩
  | .hbm, ⟨12, _⟩ => ⟨S2x16x1024x1024, .f32⟩
  | .hbm, ⟨13, _⟩ => ⟨S2x16x1024x1024, .f32⟩
  | .hbm, ⟨14, _⟩ => ⟨S2x16x1024x1024, .f32⟩
  | .hbm, ⟨15, _⟩ => ⟨S16x1024x2x1024, .f32⟩
  | .hbm, ⟨16, _⟩ => ⟨S2x16x1024x1024, .f32⟩
  | .hbm, ⟨17, _⟩ => ⟨S2x16x1024x1024, .f32⟩
  | .hbm, ⟨18, _⟩ => ⟨S16x1024x2x1024, .f32⟩
  | .hbm, ⟨19, _⟩ => ⟨S2x16x1024x1024, .f32⟩
  | .hbm, ⟨20, _⟩ => ⟨S16x2x1024x1024, .f32⟩
  | .hbm, ⟨21, _⟩ => ⟨S16x2048x1024, .f32⟩
  | .hbm, ⟨22, _⟩ => ⟨S16x2048x1024, .bf16⟩
  | _, _ => ⟨S2x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x1024 : Shape := ⟨2, ![2, 1024]⟩
abbrev S2x8192x16 : Shape := ⟨3, ![2, 8192, 16]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S3x1536 : Shape := ⟨2, ![3, 1536]⟩
abbrev S1536 : Shape := ⟨1, ![1536]⟩
abbrev S1024x32 : Shape := ⟨2, ![1024, 32]⟩
abbrev S_ : Shape := ⟨0, ![]⟩
abbrev S1024x64 : Shape := ⟨2, ![1024, 64]⟩
abbrev S1024x384 : Shape := ⟨2, ![1024, 384]⟩
abbrev S1024x16 : Shape := ⟨2, ![1024, 16]⟩
abbrev S1024x1536 : Shape := ⟨2, ![1024, 1536]⟩
abbrev S1024x2176 : Shape := ⟨2, ![1024, 2176]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S256x8x64 : Shape := ⟨3, ![256, 8, 64]⟩
abbrev S256x8x16 : Shape := ⟨3, ![256, 8, 16]⟩
abbrev S128x8x128 : Shape := ⟨3, ![128, 8, 128]⟩
abbrev S128x8x64 : Shape := ⟨3, ![128, 8, 64]⟩
abbrev S128x512 : Shape := ⟨2, ![128, 512]⟩
abbrev S2x16x8192 : Shape := ⟨3, ![2, 16, 8192]⟩
abbrev S2x64x8192 : Shape := ⟨3, ![2, 64, 8192]⟩
abbrev S2x32x8192 : Shape := ⟨3, ![2, 32, 8192]⟩
abbrev S2x128x8192 : Shape := ⟨3, ![2, 128, 8192]⟩
abbrev S2x1x1024 : Shape := ⟨3, ![2, 1, 1024]⟩
abbrev S1x256 : Shape := ⟨2, ![1, 256]⟩
abbrev S1x128 : Shape := ⟨2, ![1, 128]⟩
abbrev S1x1536 : Shape := ⟨2, ![1, 1536]⟩
abbrev S2x8x128x8192 : Shape := ⟨4, ![2, 8, 128, 8192]⟩
abbrev S2x8x8192x128 : Shape := ⟨4, ![2, 8, 8192, 128]⟩
abbrev S2x512x8192 : Shape := ⟨3, ![2, 512, 8192]⟩
abbrev S2x8192x1536 : Shape := ⟨3, ![2, 8192, 1536]⟩
abbrev S1x512x1024 : Shape := ⟨3, ![1, 512, 1024]⟩
abbrev S1x8x1024 : Shape := ⟨3, ![1, 8, 1024]⟩
abbrev S1x1x1024 : Shape := ⟨3, ![1, 1, 1024]⟩
abbrev S1x128x512 : Shape := ⟨3, ![1, 128, 512]⟩
abbrev S1x8x128x512 : Shape := ⟨4, ![1, 8, 128, 512]⟩
abbrev S1x8x512x128 : Shape := ⟨4, ![1, 8, 512, 128]⟩
abbrev S1x512x512 : Shape := ⟨3, ![1, 512, 512]⟩
abbrev S1x512x1536 : Shape := ⟨3, ![1, 512, 1536]⟩
abbrev S512x1024 : Shape := ⟨2, ![512, 1024]⟩
abbrev S1x1024 : Shape := ⟨2, ![1, 1024]⟩
abbrev S512x128 : Shape := ⟨2, ![512, 128]⟩
abbrev S512x1536 : Shape := ⟨2, ![512, 1536]⟩
abbrev S8x1024 : Shape := ⟨2, ![8, 1024]⟩
abbrev S16x1024 : Shape := ⟨2, ![16, 1024]⟩
abbrev S16x1536 : Shape := ⟨2, ![16, 1536]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S1x1x128x512 : Shape := ⟨4, ![1, 1, 128, 512]⟩
abbrev S1024x128 : Shape := ⟨2, ![1024, 128]⟩
abbrev S1x1x512x128 : Shape := ⟨4, ![1, 1, 512, 128]⟩
abbrev S512x512 : Shape := ⟨2, ![512, 512]⟩

abbrev nBuf : Space → Nat
  | .hbm => 72
  | .vmem => 31
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S2x8192x16, .f32⟩
  | .hbm, ⟨4, _⟩ => ⟨S2x8192x16, .f32⟩
  | .hbm, ⟨5, _⟩ => ⟨S1024x1952, .f32⟩
  | .hbm, ⟨6, _⟩ => ⟨S256, .f32⟩
  | .hbm, ⟨7, _⟩ => ⟨S256x768, .f32⟩
  | .hbm, ⟨8, _⟩ => ⟨S128, .f32⟩
  | .hbm, ⟨9, _⟩ => ⟨S128x1024, .f32⟩
  | .hbm, ⟨10, _⟩ => ⟨S3x1536, .f32⟩
  | .hbm, ⟨11, _⟩ => ⟨S1536, .f32⟩
  | .hbm, ⟨12, _⟩ => ⟨S1024x32, .f32⟩
  | .hbm, ⟨13, _⟩ => ⟨S_, .f32⟩
  | .hbm, ⟨14, _⟩ => ⟨S1024x64, .f32⟩
  | .hbm, ⟨15, _⟩ => ⟨S_, .f32⟩
  | .hbm, ⟨16, _⟩ => ⟨S1024x32, .f32⟩
  | .hbm, ⟨17, _⟩ => ⟨S1024x384, .f32⟩
  | .hbm, ⟨18, _⟩ => ⟨S1024x16, .f32⟩
  | .hbm, ⟨19, _⟩ => ⟨S1024x16, .f32⟩
  | .hbm, ⟨20, _⟩ => ⟨S1024x16, .f32⟩
  | .hbm, ⟨21, _⟩ => ⟨S1024x32, .f32⟩
  | .hbm, ⟨22, _⟩ => ⟨S1024x1536, .f32⟩
  | .hbm, ⟨23, _⟩ => ⟨S1024x2176, .f32⟩
  | .hbm, ⟨24, _⟩ => ⟨S1024x2176, .bf16⟩
  | .hbm, ⟨25, _⟩ => ⟨S256x8x96, .f32⟩
  | .hbm, ⟨26, _⟩ => ⟨S_, .f32⟩
  | .hbm, ⟨27, _⟩ => ⟨S256x8x32, .f32⟩
  | .hbm, ⟨28, _⟩ => ⟨S256x8x128, .f32⟩
  | .hbm, ⟨29, _⟩ => ⟨S256x1024, .f32⟩
  | .hbm, ⟨30, _⟩ => ⟨S256x1024, .bf16⟩
  | .hbm, ⟨31, _⟩ => ⟨S_, .f32⟩
  | .hbm, ⟨32, _⟩ => ⟨S256x8x64, .f32⟩
  | .hbm, ⟨33, _⟩ => ⟨S256x8x32, .f32⟩
  | .hbm, ⟨34, _⟩ => ⟨S256x8x16, .f32⟩
  | .hbm, ⟨35, _⟩ => ⟨S256x8x16, .f32⟩
  | .hbm, ⟨36, _⟩ => ⟨S256x8x16, .f32⟩
  | .hbm, ⟨37, _⟩ => ⟨S256x8x32, .f32⟩
  | .hbm, ⟨38, _⟩ => ⟨S256x8x128, .f32⟩
  | .hbm, ⟨39, _⟩ => ⟨S256x1024, .f32⟩
  | .hbm, ⟨40, _⟩ => ⟨S256x1024, .bf16⟩
  | .hbm, ⟨41, _⟩ => ⟨S128x8x128, .f32⟩
  | .hbm, ⟨42, _⟩ => ⟨S128x8x64, .f32⟩
  | .hbm, ⟨43, _⟩ => ⟨S_, .f32⟩
  | .hbm, ⟨44, _⟩ => ⟨S128x8x64, .f32⟩
  | .hbm, ⟨45, _⟩ => ⟨S128x8x128, .f32⟩
  | .hbm, ⟨46, _⟩ => ⟨S128x1024, .f32⟩
  | .hbm, ⟨47, _⟩ => ⟨S128x1024, .bf16⟩
  | .hbm, ⟨48, _⟩ => ⟨S128x8x64, .f32⟩
  | .hbm, ⟨49, _⟩ => ⟨S128x512, .f32⟩
  | .hbm, ⟨50, _⟩ => ⟨S128x512, .bf16⟩
  | .hbm, ⟨51, _⟩ => ⟨S2x16x8192, .f32⟩
  | .hbm, ⟨52, _⟩ => ⟨S2x16x8192, .f32⟩
  | .hbm, ⟨53, _⟩ => ⟨S_, .f32⟩
  | .hbm, ⟨54, _⟩ => ⟨S2x64x8192, .f32⟩
  | .hbm, ⟨55, _⟩ => ⟨S_, .f32⟩
  | .hbm, ⟨56, _⟩ => ⟨S2x32x8192, .f32⟩
  | .hbm, ⟨57, _⟩ => ⟨S2x128x8192, .f32⟩
  | .hbm, ⟨58, _⟩ => ⟨S_, .f32⟩
  | .hbm, ⟨59, _⟩ => ⟨S2x64x8192, .f32⟩
  | .hbm, ⟨60, _⟩ => ⟨S_, .f32⟩
  | .hbm, ⟨61, _⟩ => ⟨S2x32x8192, .f32⟩
  | .hbm, ⟨62, _⟩ => ⟨S2x128x8192, .f32⟩
  | .hbm, ⟨63, _⟩ => ⟨S2x1x1024, .f32⟩
  | .hbm, ⟨64, _⟩ => ⟨S2x1x1024, .f32⟩
  | .hbm, ⟨65, _⟩ => ⟨S1x256, .f32⟩
  | .hbm, ⟨66, _⟩ => ⟨S1x128, .f32⟩
  | .hbm, ⟨67, _⟩ => ⟨S1x1536, .f32⟩
  | .hbm, ⟨68, _⟩ => ⟨S2x8x128x8192, .bf16⟩
  | .hbm, ⟨69, _⟩ => ⟨S2x8x8192x128, .bf16⟩
  | .hbm, ⟨70, _⟩ => ⟨S2x512x8192, .bf16⟩
  | .hbm, ⟨71, _⟩ => ⟨S2x8192x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1024x2176, .bf16⟩
  | .local _ .vmem, ⟨15, _⟩ => ⟨S1x256, .f32⟩
  | .local _ .vmem, ⟨16, _⟩ => ⟨S256x1024, .bf16⟩
  | .local _ .vmem, ⟨17, _⟩ => ⟨S256x1024, .bf16⟩
  | .local _ .vmem, ⟨18, _⟩ => ⟨S1x128, .f32⟩
  | .local _ .vmem, ⟨19, _⟩ => ⟨S128x1024, .bf16⟩
  | .local _ .vmem, ⟨20, _⟩ => ⟨S128x512, .bf16⟩
  | .local _ .vmem, ⟨21, _⟩ => ⟨S3x1536, .f32⟩
  | .local _ .vmem, ⟨22, _⟩ => ⟨S1x1536, .f32⟩
  | .local _ .vmem, ⟨23, _⟩ => ⟨S1x8x128x512, .bf16⟩
  | .local _ .vmem, ⟨24, _⟩ => ⟨S1x8x128x512, .bf16⟩
  | .local _ .vmem, ⟨25, _⟩ => ⟨S1x8x512x128, .bf16⟩
  | .local _ .vmem, ⟨26, _⟩ => ⟨S1x8x512x128, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x1536, .f32⟩
  | .local _ .vmem, ⟨30, _⟩ => ⟨S1x512x1536, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev main_v47_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x2176 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x8x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S2x8192x1024 : Shape := ⟨3, ![2, 8192, 1024]⟩
abbrev S2x1024 : Shape := ⟨2, ![2, 1024]⟩
abbrev S2x8192x16 : Shape := ⟨3, ![2, 8192, 16]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S3x1536 : Shape := ⟨2, ![3, 1536]⟩
abbrev S1536 : Shape := ⟨1, ![1536]⟩
abbrev S2x1x1024 : Shape := ⟨3, ![2, 1, 1024]⟩
abbrev S_ : Shape := ⟨0, ![]⟩
abbrev S2x8192x1952 : Shape := ⟨3, ![2, 8192, 1952]⟩
abbrev S2x8192x128 : Shape := ⟨3, ![2, 8192, 128]⟩
abbrev S2x8192x1536 : Shape := ⟨3, ![2, 8192, 1536]⟩
abbrev S2x8192 : Shape := ⟨2, ![2, 8192]⟩
abbrev S2x8192x1 : Shape := ⟨3, ![2, 8192, 1]⟩
abbrev S1x1x128 : Shape := ⟨3, ![1, 1, 128]⟩
abbrev S2x8192x8x128 : Shape := ⟨4, ![2, 8192, 8, 128]⟩
abbrev S2x8192x8x64 : Shape := ⟨4, ![2, 8192, 8, 64]⟩
abbrev S2x8194x1536 : Shape := ⟨3, ![2, 8194, 1536]⟩
abbrev S1x1536 : Shape := ⟨2, ![1, 1536]⟩
abbrev S1x1x1536 : Shape := ⟨3, ![1, 1, 1536]⟩
abbrev S2x8x64x8192 : Shape := ⟨4, ![2, 8, 64, 8192]⟩
abbrev S2x512x8192 : Shape := ⟨3, ![2, 512, 8192]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S2x8192x16, .f32⟩
  | .hbm, ⟨4, _⟩ => ⟨S2x8192x16, .f32⟩
  | .hbm, ⟨5, _⟩ => ⟨S1024x1952, .f32⟩
  | .hbm, ⟨6, _⟩ => ⟨S256, .f32⟩
  | .hbm, ⟨7, _⟩ => ⟨S256x768, .f32⟩
  | .hbm, ⟨8, _⟩ => ⟨S128, .f32⟩
  | .hbm, ⟨9, _⟩ => ⟨S128x1024, .f32⟩
  | .hbm, ⟨10, _⟩ => ⟨S3x1536, .f32⟩
  | .hbm, ⟨11, _⟩ => ⟨S1536, .f32⟩
  | .hbm, ⟨12, _⟩ => ⟨S2x1x1024, .f32⟩
  | .hbm, ⟨13, _⟩ => ⟨S_, .f32⟩
  | .hbm, ⟨14, _⟩ => ⟨S2x1x1024, .f32⟩
  | .hbm, ⟨15, _⟩ => ⟨S2x1x1024, .f32⟩
  | .hbm, ⟨16, _⟩ => ⟨S2x8192x1024, .f32⟩
  | .hbm, ⟨17, _⟩ => ⟨S2x8192x1024, .f32⟩
  | .hbm, ⟨18, _⟩ => ⟨S2x1x1024, .f32⟩
  | .hbm, ⟨19, _⟩ => ⟨S2x8192x1024, .f32⟩
  | .hbm, ⟨20, _⟩ => ⟨S2x8192x1024, .f32⟩
  | .hbm, ⟨21, _⟩ => ⟨S2x8192x1952, .f32⟩
  | .hbm, ⟨22, _⟩ => ⟨S2x8192x128, .f32⟩
  | .hbm, ⟨23, _⟩ => ⟨S2x8192x1536, .f32⟩
  | .hbm, ⟨24, _⟩ => ⟨S2x8192x128, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x128, .f32⟩
  | .hbm, ⟨36, _⟩ => ⟨S2x8192x128, .f32⟩
  | .hbm, ⟨37, _⟩ => ⟨S1x1x128, .f32⟩
  | .hbm, ⟨38, _⟩ => ⟨S2x8192x128, .f32⟩
  | .hbm, ⟨39, _⟩ => ⟨S2x8192x128, .f32⟩
  | .hbm, ⟨40, _⟩ => ⟨S2x8192x1024, .f32⟩
  | .hbm, ⟨41, _⟩ => ⟨S2x8192x8x128, .f32⟩
  | .hbm, ⟨42, _⟩ => ⟨S2x8192x8x64, .f32⟩
  | .hbm, ⟨43, _⟩ => ⟨S_, .i32⟩
  | .hbm, ⟨44, _⟩ => ⟨S_, .f32⟩
  | .hbm, ⟨45, _⟩ => ⟨S2x8194x1536, .f32⟩
  | .hbm, ⟨46, _⟩ => ⟨S2x8192x1536, .f32⟩
  | .hbm, ⟨47, _⟩ => ⟨S1x1536, .f32⟩
  | .hbm, ⟨48, _⟩ => ⟨S1536, .f32⟩
  | .hbm, ⟨49, _⟩ => ⟨S1x1x1536, .f32⟩
  | .hbm, ⟨50, _⟩ => ⟨S2x8192x1536, .f32⟩
  | .hbm, ⟨51, _⟩ => ⟨S2x8192x1536, .f32⟩
  | .hbm, ⟨52, _⟩ => ⟨S2x8192x1536, .f32⟩
  | .hbm, ⟨53, _⟩ => ⟨S1x1536, .f32⟩
  | .hbm, ⟨54, _⟩ => ⟨S1536, .f32⟩
  | .hbm, ⟨55, _⟩ => ⟨S1x1x1536, .f32⟩
  | .hbm, ⟨56, _⟩ => ⟨S2x8192x1536, .f32⟩
  | .hbm, ⟨57, _⟩ => ⟨S2x8192x1536, .f32⟩
  | .hbm, ⟨58, _⟩ => ⟨S2x8192x1536, .f32⟩
  | .hbm, ⟨59, _⟩ => ⟨S2x8192x1536, .f32⟩
  | .hbm, ⟨60, _⟩ => ⟨S1x1536, .f32⟩
  | .hbm, ⟨61, _⟩ => ⟨S1536, .f32⟩
  | .hbm, ⟨62, _⟩ => ⟨S1x1x1536, .f32⟩
  | .hbm, ⟨63, _⟩ => ⟨S2x8192x1536, .f32⟩
  | .hbm, ⟨64, _⟩ => ⟨S2x8192x1536, .f32⟩
  | .hbm, ⟨65, _⟩ => ⟨S2x8192x1536, .f32⟩
  | .hbm, ⟨66, _⟩ => ⟨S1x1x1536, .f32⟩
  | .hbm, ⟨67, _⟩ => ⟨S2x8192x1536, .f32⟩
  | .hbm, ⟨68, _⟩ => ⟨S2x8192x1536, .f32⟩
  | .hbm, ⟨69, _⟩ => ⟨S2x8x64x8192, .f32⟩
  | .hbm, ⟨70, _⟩ => ⟨S2x512x8192, .f32⟩
  | .hbm, ⟨71, _⟩ => ⟨S2x512x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel4.lean ====
abbrev S2x8192x512 : Shape := ⟨3, ![2, 8192, 512]⟩
abbrev S2x8192x1024 : Shape := ⟨3, ![2, 8192, 1024]⟩
abbrev S2x1024 : Shape := ⟨2, ![2, 1024]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S2x1x1024 : Shape := ⟨3, ![2, 1, 1024]⟩
abbrev S1x512 : Shape := ⟨2, ![1, 512]⟩
abbrev S1x1024 : Shape := ⟨2, ![1, 1024]⟩
abbrev S2x16x8192 : Shape := ⟨3, ![2, 16, 8192]⟩
abbrev S1x512x512 : Shape := ⟨3, ![1, 512, 512]⟩
abbrev S1x512x1024 : Shape := ⟨3, ![1, 512, 1024]⟩
abbrev S1x1x1024 : Shape := ⟨3, ![1, 1, 1024]⟩
abbrev S1x16x512 : Shape := ⟨3, ![1, 16, 512]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S1x256x1024 : Shape := ⟨3, ![1, 256, 1024]⟩
abbrev S256x128 : Shape := ⟨2, ![256, 128]⟩
abbrev S128x256 : Shape := ⟨2, ![128, 256]⟩
abbrev S16x256 : Shape := ⟨2, ![16, 256]⟩
abbrev S1x16x256 : Shape := ⟨3, ![1, 16, 256]⟩

abbrev nBuf : Space → Nat
  | .hbm => 26
  | .vmem => 24
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x16, .f32⟩
  | .hbm, ⟨12, _⟩ => ⟨S_, .f32⟩
  | .hbm, ⟨13, _⟩ => ⟨S1024x112, .f32⟩
  | .hbm, ⟨14, _⟩ => ⟨S1024x128, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S1x512, .f32⟩
  | .hbm, ⟨19, _⟩ => ⟨S1x512, .f32⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S2x8192x1024, .f32⟩
  | .hbm, ⟨24, _⟩ => ⟨S2x8192x1024, .bf16⟩
  | .hbm, ⟨25, _⟩ => ⟨S2x16x8192, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x128, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S1x16x512, .f32⟩
  | .local _ .vmem, ⟨23, _⟩ => ⟨S1x16x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S2x8192x512 : Shape := ⟨3, ![2, 8192, 512]⟩
abbrev S2x8192x1024 : Shape := ⟨3, ![2, 8192, 1024]⟩
abbrev S2x1024 : Shape := ⟨2, ![2, 1024]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x1x1024 : Shape := ⟨3, ![2, 1, 1024]⟩
abbrev S1x1x1024 : Shape := ⟨3, ![1, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x16, .f32⟩
  | .hbm, ⟨12, _⟩ => ⟨S2x8192x512, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x512, .f32⟩
  | .hbm, ⟨24, _⟩ => ⟨S2x8192x512, .f32⟩
  | .hbm, ⟨25, _⟩ => ⟨S1x1x512, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x512, .f32⟩
  | .hbm, ⟨40, _⟩ => ⟨S2x8192x512, .f32⟩
  | .hbm, ⟨41, _⟩ => ⟨S1x1x512, .f32⟩
  | .hbm, ⟨42, _⟩ => ⟨S2x8192x512, .f32⟩
  | .hbm, ⟨43, _⟩ => ⟨S2x8192x512, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1024, .f32⟩
  | .hbm, ⟨48, _⟩ => ⟨S2x8192x1024, .f32⟩
  | .hbm, ⟨49, _⟩ => ⟨S2x1x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x8192, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S2x8192x1024, .f32⟩
  | .hbm, ⟨69, _⟩ => ⟨S2x8192x1024, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S1x1x1024, .f32⟩
  | .hbm, ⟨80, _⟩ => ⟨S2x8192x1024, .f32⟩
  | .hbm, ⟨81, _⟩ => ⟨S2x8192x1024, .f32⟩
  | .hbm, ⟨82, _⟩ => ⟨S2x1x1024, .f32⟩
  | .hbm, ⟨83, _⟩ => ⟨S_, .f32⟩
  | .hbm, ⟨84, _⟩ => ⟨S2x1x1024, .f32⟩
  | .hbm, ⟨85, _⟩ => ⟨S2x1x1024, .f32⟩
  | .hbm, ⟨86, _⟩ => ⟨S2x8192x1024, .f32⟩
  | .hbm, ⟨87, _⟩ => ⟨S2x8192x1024, .f32⟩
  | .hbm, ⟨88, _⟩ => ⟨S2x1x1024, .f32⟩
  | .hbm, ⟨89, _⟩ => ⟨S2x8192x1024, .f32⟩
  | .hbm, ⟨90, _⟩ => ⟨S2x8192x1024, .f32⟩
  | .hbm, ⟨91, _⟩ => ⟨S2x8192x1024, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Kernel5.lean ====
abbrev S2x1024 : Shape := ⟨2, ![2, 1024]⟩
abbrev S1024x6144 : Shape := ⟨2, ![1024, 6144]⟩
abbrev S6144 : Shape := ⟨1, ![6144]⟩
abbrev S1x6144 : Shape := ⟨2, ![1, 6144]⟩
abbrev S1024x2 : Shape := ⟨2, ![1024, 2]⟩
abbrev S2x6144 : Shape := ⟨2, ![2, 6144]⟩
abbrev S1024x1024 : Shape := ⟨2, ![1024, 1024]⟩
abbrev S1x1024 : Shape := ⟨2, ![1, 1024]⟩
abbrev S1024x1 : Shape := ⟨2, ![1024, 1]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S1024x2, .f32⟩
  | .hbm, ⟨5, _⟩ => ⟨S2x6144, .f32⟩
  | .local _ .vmem, ⟨0, _⟩ => ⟨S1024x2, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x1024 : Shape := ⟨2, ![2, 1024]⟩
abbrev S1024x6144 : Shape := ⟨2, ![1024, 6144]⟩
abbrev S6144 : Shape := ⟨1, ![6144]⟩
abbrev S_ : Shape := ⟨0, ![]⟩
abbrev S2x6144 : Shape := ⟨2, ![2, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024x6144, .f32⟩
  | .hbm, ⟨2, _⟩ => ⟨S6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x6144, .f32⟩
  | .hbm, ⟨13, _⟩ => ⟨S1x6144, .f32⟩
  | .hbm, ⟨14, _⟩ => ⟨S2x6144, .f32⟩
  | .hbm, ⟨15, _⟩ => ⟨S2x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel6.lean ====
abbrev S2x8192x1024 : Shape := ⟨3, ![2, 8192, 1024]⟩
abbrev S2x1024 : Shape := ⟨2, ![2, 1024]⟩
abbrev S2x8192x16 : Shape := ⟨3, ![2, 8192, 16]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S3x1536 : Shape := ⟨2, ![3, 1536]⟩
abbrev S1536 : Shape := ⟨1, ![1536]⟩
abbrev S1024x32 : Shape := ⟨2, ![1024, 32]⟩
abbrev S_ : Shape := ⟨0, ![]⟩
abbrev S1024x64 : Shape := ⟨2, ![1024, 64]⟩
abbrev S1024x384 : Shape := ⟨2, ![1024, 384]⟩
abbrev S1024x16 : Shape := ⟨2, ![1024, 16]⟩
abbrev S1024x1536 : Shape := ⟨2, ![1024, 1536]⟩
abbrev S1024x2176 : Shape := ⟨2, ![1024, 2176]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S256x8x64 : Shape := ⟨3, ![256, 8, 64]⟩
abbrev S256x8x16 : Shape := ⟨3, ![256, 8, 16]⟩
abbrev S128x8x128 : Shape := ⟨3, ![128, 8, 128]⟩
abbrev S128x8x64 : Shape := ⟨3, ![128, 8, 64]⟩
abbrev S128x512 : Shape := ⟨2, ![128, 512]⟩
abbrev S2x16x8192 : Shape := ⟨3, ![2, 16, 8192]⟩
abbrev S2x64x8192 : Shape := ⟨3, ![2, 64, 8192]⟩
abbrev S2x32x8192 : Shape := ⟨3, ![2, 32, 8192]⟩
abbrev S2x128x8192 : Shape := ⟨3, ![2, 128, 8192]⟩
abbrev S2x1x1024 : Shape := ⟨3, ![2, 1, 1024]⟩
abbrev S1x256 : Shape := ⟨2, ![1, 256]⟩
abbrev S1x128 : Shape := ⟨2, ![1, 128]⟩
abbrev S1x1536 : Shape := ⟨2, ![1, 1536]⟩
abbrev S2x8x128x8192 : Shape := ⟨4, ![2, 8, 128, 8192]⟩
abbrev S2x8x8192x128 : Shape := ⟨4, ![2, 8, 8192, 128]⟩
abbrev S2x512x8192 : Shape := ⟨3, ![2, 512, 8192]⟩
abbrev S2x8192x1536 : Shape := ⟨3, ![2, 8192, 1536]⟩
abbrev S1x512x1024 : Shape := ⟨3, ![1, 512, 1024]⟩
abbrev S1x8x1024 : Shape := ⟨3, ![1, 8, 1024]⟩
abbrev S1x1x1024 : Shape := ⟨3, ![1, 1, 1024]⟩
abbrev S1x128x512 : Shape := ⟨3, ![1, 128, 512]⟩
abbrev S1x8x128x512 : Shape := ⟨4, ![1, 8, 128, 512]⟩
abbrev S1x8x512x128 : Shape := ⟨4, ![1, 8, 512, 128]⟩
abbrev S1x512x512 : Shape := ⟨3, ![1, 512, 512]⟩
abbrev S1x512x1536 : Shape := ⟨3, ![1, 512, 1536]⟩
abbrev S512x1024 : Shape := ⟨2, ![512, 1024]⟩
abbrev S1x1024 : Shape := ⟨2, ![1, 1024]⟩
abbrev S512x128 : Shape := ⟨2, ![512, 128]⟩
abbrev S512x1536 : Shape := ⟨2, ![512, 1536]⟩
abbrev S8x1024 : Shape := ⟨2, ![8, 1024]⟩
abbrev S16x1024 : Shape := ⟨2, ![16, 1024]⟩
abbrev S16x1536 : Shape := ⟨2, ![16, 1536]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S1x1x128x512 : Shape := ⟨4, ![1, 1, 128, 512]⟩
abbrev S1024x128 : Shape := ⟨2, ![1024, 128]⟩
abbrev S1x1x512x128 : Shape := ⟨4, ![1, 1, 512, 128]⟩
abbrev S512x512 : Shape := ⟨2, ![512, 512]⟩

abbrev nBuf : Space → Nat
  | .hbm => 72
  | .vmem => 31
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S2x8192x16, .f32⟩
  | .hbm, ⟨4, _⟩ => ⟨S2x8192x16, .f32⟩
  | .hbm, ⟨5, _⟩ => ⟨S1024x1952, .f32⟩
  | .hbm, ⟨6, _⟩ => ⟨S256, .f32⟩
  | .hbm, ⟨7, _⟩ => ⟨S256x768, .f32⟩
  | .hbm, ⟨8, _⟩ => ⟨S128, .f32⟩
  | .hbm, ⟨9, _⟩ => ⟨S128x1024, .f32⟩
  | .hbm, ⟨10, _⟩ => ⟨S3x1536, .f32⟩
  | .hbm, ⟨11, _⟩ => ⟨S1536, .f32⟩
  | .hbm, ⟨12, _⟩ => ⟨S1024x32, .f32⟩
  | .hbm, ⟨13, _⟩ => ⟨S_, .f32⟩
  | .hbm, ⟨14, _⟩ => ⟨S1024x64, .f32⟩
  | .hbm, ⟨15, _⟩ => ⟨S_, .f32⟩
  | .hbm, ⟨16, _⟩ => ⟨S1024x32, .f32⟩
  | .hbm, ⟨17, _⟩ => ⟨S1024x384, .f32⟩
  | .hbm, ⟨18, _⟩ => ⟨S1024x16, .f32⟩
  | .hbm, ⟨19, _⟩ => ⟨S1024x16, .f32⟩
  | .hbm, ⟨20, _⟩ => ⟨S1024x16, .f32⟩
  | .hbm, ⟨21, _⟩ => ⟨S1024x32, .f32⟩
  | .hbm, ⟨22, _⟩ => ⟨S1024x1536, .f32⟩
  | .hbm, ⟨23, _⟩ => ⟨S1024x2176, .f32⟩
  | .hbm, ⟨24, _⟩ => ⟨S1024x2176, .bf16⟩
  | .hbm, ⟨25, _⟩ => ⟨S256x8x96, .f32⟩
  | .hbm, ⟨26, _⟩ => ⟨S_, .f32⟩
  | .hbm, ⟨27, _⟩ => ⟨S256x8x32, .f32⟩
  | .hbm, ⟨28, _⟩ => ⟨S256x8x128, .f32⟩
  | .hbm, ⟨29, _⟩ => ⟨S256x1024, .f32⟩
  | .hbm, ⟨30, _⟩ => ⟨S256x1024, .bf16⟩
  | .hbm, ⟨31, _⟩ => ⟨S_, .f32⟩
  | .hbm, ⟨32, _⟩ => ⟨S256x8x64, .f32⟩
  | .hbm, ⟨33, _⟩ => ⟨S256x8x32, .f32⟩
  | .hbm, ⟨34, _⟩ => ⟨S256x8x16, .f32⟩
  | .hbm, ⟨35, _⟩ => ⟨S256x8x16, .f32⟩
  | .hbm, ⟨36, _⟩ => ⟨S256x8x16, .f32⟩
  | .hbm, ⟨37, _⟩ => ⟨S256x8x32, .f32⟩
  | .hbm, ⟨38, _⟩ => ⟨S256x8x128, .f32⟩
  | .hbm, ⟨39, _⟩ => ⟨S256x1024, .f32⟩
  | .hbm, ⟨40, _⟩ => ⟨S256x1024, .bf16⟩
  | .hbm, ⟨41, _⟩ => ⟨S128x8x128, .f32⟩
  | .hbm, ⟨42, _⟩ => ⟨S128x8x64, .f32⟩
  | .hbm, ⟨43, _⟩ => ⟨S_, .f32⟩
  | .hbm, ⟨44, _⟩ => ⟨S128x8x64, .f32⟩
  | .hbm, ⟨45, _⟩ => ⟨S128x8x128, .f32⟩
  | .hbm, ⟨46, _⟩ => ⟨S128x1024, .f32⟩
  | .hbm, ⟨47, _⟩ => ⟨S128x1024, .bf16⟩
  | .hbm, ⟨48, _⟩ => ⟨S128x8x64, .f32⟩
  | .hbm, ⟨49, _⟩ => ⟨S128x512, .f32⟩
  | .hbm, ⟨50, _⟩ => ⟨S128x512, .bf16⟩
  | .hbm, ⟨51, _⟩ => ⟨S2x16x8192, .f32⟩
  | .hbm, ⟨52, _⟩ => ⟨S2x16x8192, .f32⟩
  | .hbm, ⟨53, _⟩ => ⟨S_, .f32⟩
  | .hbm, ⟨54, _⟩ => ⟨S2x64x8192, .f32⟩
  | .hbm, ⟨55, _⟩ => ⟨S_, .f32⟩
  | .hbm, ⟨56, _⟩ => ⟨S2x32x8192, .f32⟩
  | .hbm, ⟨57, _⟩ => ⟨S2x128x8192, .f32⟩
  | .hbm, ⟨58, _⟩ => ⟨S_, .f32⟩
  | .hbm, ⟨59, _⟩ => ⟨S2x64x8192, .f32⟩
  | .hbm, ⟨60, _⟩ => ⟨S_, .f32⟩
  | .hbm, ⟨61, _⟩ => ⟨S2x32x8192, .f32⟩
  | .hbm, ⟨62, _⟩ => ⟨S2x128x8192, .f32⟩
  | .hbm, ⟨63, _⟩ => ⟨S2x1x1024, .f32⟩
  | .hbm, ⟨64, _⟩ => ⟨S2x1x1024, .f32⟩
  | .hbm, ⟨65, _⟩ => ⟨S1x256, .f32⟩
  | .hbm, ⟨66, _⟩ => ⟨S1x128, .f32⟩
  | .hbm, ⟨67, _⟩ => ⟨S1x1536, .f32⟩
  | .hbm, ⟨68, _⟩ => ⟨S2x8x128x8192, .bf16⟩
  | .hbm, ⟨69, _⟩ => ⟨S2x8x8192x128, .bf16⟩
  | .hbm, ⟨70, _⟩ => ⟨S2x512x8192, .bf16⟩
  | .hbm, ⟨71, _⟩ => ⟨S2x8192x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1024x2176, .bf16⟩
  | .local _ .vmem, ⟨15, _⟩ => ⟨S1x256, .f32⟩
  | .local _ .vmem, ⟨16, _⟩ => ⟨S256x1024, .bf16⟩
  | .local _ .vmem, ⟨17, _⟩ => ⟨S256x1024, .bf16⟩
  | .local _ .vmem, ⟨18, _⟩ => ⟨S1x128, .f32⟩
  | .local _ .vmem, ⟨19, _⟩ => ⟨S128x1024, .bf16⟩
  | .local _ .vmem, ⟨20, _⟩ => ⟨S128x512, .bf16⟩
  | .local _ .vmem, ⟨21, _⟩ => ⟨S3x1536, .f32⟩
  | .local _ .vmem, ⟨22, _⟩ => ⟨S1x1536, .f32⟩
  | .local _ .vmem, ⟨23, _⟩ => ⟨S1x8x128x512, .bf16⟩
  | .local _ .vmem, ⟨24, _⟩ => ⟨S1x8x128x512, .bf16⟩
  | .local _ .vmem, ⟨25, _⟩ => ⟨S1x8x512x128, .bf16⟩
  | .local _ .vmem, ⟨26, _⟩ => ⟨S1x8x512x128, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x1536, .f32⟩
  | .local _ .vmem, ⟨30, _⟩ => ⟨S1x512x1536, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev main_v47_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x2176 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x8x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference6Ideal.lean ====
abbrev S2x8192x1024 : Shape := ⟨3, ![2, 8192, 1024]⟩
abbrev S2x1024 : Shape := ⟨2, ![2, 1024]⟩
abbrev S2x8192x16 : Shape := ⟨3, ![2, 8192, 16]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S3x1536 : Shape := ⟨2, ![3, 1536]⟩
abbrev S1536 : Shape := ⟨1, ![1536]⟩
abbrev S2x1x1024 : Shape := ⟨3, ![2, 1, 1024]⟩
abbrev S_ : Shape := ⟨0, ![]⟩
abbrev S2x8192x1952 : Shape := ⟨3, ![2, 8192, 1952]⟩
abbrev S2x8192x256 : Shape := ⟨3, ![2, 8192, 256]⟩
abbrev S2x8192x128 : Shape := ⟨3, ![2, 8192, 128]⟩
abbrev S2x8192x32 : Shape := ⟨3, ![2, 8192, 32]⟩
abbrev S2x8192 : Shape := ⟨2, ![2, 8192]⟩
abbrev S2x8192x1 : Shape := ⟨3, ![2, 8192, 1]⟩
abbrev S1x1x256 : Shape := ⟨3, ![1, 1, 256]⟩
abbrev S1x1x128 : Shape := ⟨3, ![1, 1, 128]⟩
abbrev S2x8192x768 : Shape := ⟨3, ![2, 8192, 768]⟩
abbrev S2x8192x8x96 : Shape := ⟨4, ![2, 8192, 8, 96]⟩
abbrev S2x8192x8x16 : Shape := ⟨4, ![2, 8192, 8, 16]⟩
abbrev S2x8192x1x16 : Shape := ⟨4, ![2, 8192, 1, 16]⟩
abbrev S2x8192x8x32 : Shape := ⟨4, ![2, 8192, 8, 32]⟩
abbrev S2x8192x8x64 : Shape := ⟨4, ![2, 8192, 8, 64]⟩
abbrev S2x8192x8x128 : Shape := ⟨4, ![2, 8192, 8, 128]⟩
abbrev S2x8192x1x32 : Shape := ⟨4, ![2, 8192, 1, 32]⟩
abbrev S2x8x128x8192 : Shape := ⟨4, ![2, 8, 128, 8192]⟩
abbrev S2x8x8192x128 : Shape := ⟨4, ![2, 8, 8192, 128]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S2x8192x16, .f32⟩
  | .hbm, ⟨4, _⟩ => ⟨S2x8192x16, .f32⟩
  | .hbm, ⟨5, _⟩ => ⟨S1024x1952, .f32⟩
  | .hbm, ⟨6, _⟩ => ⟨S256, .f32⟩
  | .hbm, ⟨7, _⟩ => ⟨S256x768, .f32⟩
  | .hbm, ⟨8, _⟩ => ⟨S128, .f32⟩
  | .hbm, ⟨9, _⟩ => ⟨S128x1024, .f32⟩
  | .hbm, ⟨10, _⟩ => ⟨S3x1536, .f32⟩
  | .hbm, ⟨11, _⟩ => ⟨S1536, .f32⟩
  | .hbm, ⟨12, _⟩ => ⟨S2x1x1024, .f32⟩
  | .hbm, ⟨13, _⟩ => ⟨S_, .f32⟩
  | .hbm, ⟨14, _⟩ => ⟨S2x1x1024, .f32⟩
  | .hbm, ⟨15, _⟩ => ⟨S2x1x1024, .f32⟩
  | .hbm, ⟨16, _⟩ => ⟨S2x8192x1024, .f32⟩
  | .hbm, ⟨17, _⟩ => ⟨S2x8192x1024, .f32⟩
  | .hbm, ⟨18, _⟩ => ⟨S2x1x1024, .f32⟩
  | .hbm, ⟨19, _⟩ => ⟨S2x8192x1024, .f32⟩
  | .hbm, ⟨20, _⟩ => ⟨S2x8192x1024, .f32⟩
  | .hbm, ⟨21, _⟩ => ⟨S2x8192x1952, .f32⟩
  | .hbm, ⟨22, _⟩ => ⟨S2x8192x256, .f32⟩
  | .hbm, ⟨23, _⟩ => ⟨S2x8192x128, .f32⟩
  | .hbm, ⟨24, _⟩ => ⟨S2x8192x32, .f32⟩
  | .hbm, ⟨25, _⟩ => ⟨S2x8192x256, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x256, .f32⟩
  | .hbm, ⟨37, _⟩ => ⟨S2x8192x256, .f32⟩
  | .hbm, ⟨38, _⟩ => ⟨S1x1x256, .f32⟩
  | .hbm, ⟨39, _⟩ => ⟨S2x8192x256, .f32⟩
  | .hbm, ⟨40, _⟩ => ⟨S2x8192x256, .f32⟩
  | .hbm, ⟨41, _⟩ => ⟨S2x8192x128, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1, .f32⟩
  | .hbm, ⟨52, _⟩ => ⟨S2x8192x128, .f32⟩
  | .hbm, ⟨53, _⟩ => ⟨S2x8192x128, .f32⟩
  | .hbm, ⟨54, _⟩ => ⟨S1x1x128, .f32⟩
  | .hbm, ⟨55, _⟩ => ⟨S2x8192x128, .f32⟩
  | .hbm, ⟨56, _⟩ => ⟨S2x8192x128, .f32⟩
  | .hbm, ⟨57, _⟩ => ⟨S2x8192x768, .f32⟩
  | .hbm, ⟨58, _⟩ => ⟨S2x8192x8x96, .f32⟩
  | .hbm, ⟨59, _⟩ => ⟨S2x8192x8x16, .f32⟩
  | .hbm, ⟨60, _⟩ => ⟨S2x8192x8x16, .f32⟩
  | .hbm, ⟨61, _⟩ => ⟨S2x8192x16, .f32⟩
  | .hbm, ⟨62, _⟩ => ⟨S2x8192x16, .f32⟩
  | .hbm, ⟨63, _⟩ => ⟨S2x8192x1x16, .f32⟩
  | .hbm, ⟨64, _⟩ => ⟨S2x8192x1x16, .f32⟩
  | .hbm, ⟨65, _⟩ => ⟨S_, .f32⟩
  | .hbm, ⟨66, _⟩ => ⟨S2x8192x8x32, .f32⟩
  | .hbm, ⟨67, _⟩ => ⟨S2x8192x8x64, .f32⟩
  | .hbm, ⟨68, _⟩ => ⟨S2x8192x8x16, .f32⟩
  | .hbm, ⟨69, _⟩ => ⟨S2x8192x8x16, .f32⟩
  | .hbm, ⟨70, _⟩ => ⟨S2x8192x8x16, .f32⟩
  | .hbm, ⟨71, _⟩ => ⟨S2x8192x8x16, .f32⟩
  | .hbm, ⟨72, _⟩ => ⟨S2x8192x8x16, .f32⟩
  | .hbm, ⟨73, _⟩ => ⟨S2x8192x8x16, .f32⟩
  | .hbm, ⟨74, _⟩ => ⟨S2x8192x8x16, .f32⟩
  | .hbm, ⟨75, _⟩ => ⟨S2x8192x8x16, .f32⟩
  | .hbm, ⟨76, _⟩ => ⟨S2x8192x8x16, .f32⟩
  | .hbm, ⟨77, _⟩ => ⟨S2x8192x8x16, .f32⟩
  | .hbm, ⟨78, _⟩ => ⟨S2x8192x8x128, .f32⟩
  | .hbm, ⟨79, _⟩ => ⟨S_, .f32⟩
  | .hbm, ⟨80, _⟩ => ⟨S2x8192x8x128, .f32⟩
  | .hbm, ⟨81, _⟩ => ⟨S2x8192x8x128, .f32⟩
  | .hbm, ⟨82, _⟩ => ⟨S2x8192x1024, .f32⟩
  | .hbm, ⟨83, _⟩ => ⟨S2x8192x8x128, .f32⟩
  | .hbm, ⟨84, _⟩ => ⟨S2x8192x8x64, .f32⟩
  | .hbm, ⟨85, _⟩ => ⟨S2x8192x16, .f32⟩
  | .hbm, ⟨86, _⟩ => ⟨S2x8192x16, .f32⟩
  | .hbm, ⟨87, _⟩ => ⟨S2x8192x16, .f32⟩
  | .hbm, ⟨88, _⟩ => ⟨S2x8192x16, .f32⟩
  | .hbm, ⟨89, _⟩ => ⟨S2x8192x16, .f32⟩
  | .hbm, ⟨90, _⟩ => ⟨S2x8192x16, .f32⟩
  | .hbm, ⟨91, _⟩ => ⟨S2x8192x32, .f32⟩
  | .hbm, ⟨92, _⟩ => ⟨S2x8192x1x32, .f32⟩
  | .hbm, ⟨93, _⟩ => ⟨S2x8192x8x32, .f32⟩
  | .hbm, ⟨94, _⟩ => ⟨S2x8192x8x128, .f32⟩
  | .hbm, ⟨95, _⟩ => ⟨S2x8x128x8192, .f32⟩
  | .hbm, ⟨96, _⟩ => ⟨S2x8x128x8192, .bf16⟩
  | .hbm, ⟨97, _⟩ => ⟨S2x8x8192x128, .f32⟩
  | .hbm, ⟨98, _⟩ => ⟨S2x8x8192x128, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Proof.Steps.lean ====
/-
  The attention kernel's arithmetic with the addresses named by what they mean: `head h` of the two a point holds,
  `chunk c` of the sixteen runs of 512 keys, `tile q` of the sixteen runs of 512 queries. `score` and `colMax` are what a
  chunk of keys stores for a tile, `runMax` and `runAcc` the running maximum and the rescaled accumulator after `n` chunks,
  `outTile` the tile the kernel stores. Everything here is over any carrier of floats.
-/
module

public import proofs.«01_k».proof.Proof.Gen.KernelIdeal.Loops
public import proofs.«01_k».proof.Proof.Gen.KernelIdeal.Frame
public import Idealize.ShloMosaic.Lib.Pipeline.FrameBody
public import Idealize.ShloMosaic.Lib.Pipeline.ValueKit
public import Idealize.ShloMosaic.Lib.WritesUnit

@[expose] public section

set_option maxRecDepth 16384

noncomputable section

namespace Cert.Attn

open Cert.KernelIdeal Cert.KernelIdeal.Gen
open Idealize.ShloMosaic Idealize.ShloMosaic.TcCoe

variable {F : FTy → Type} [FloatOps F]

/-- The keys a point holds, its two heads' 8192 rows of 128 columns. -/
abbrev KBlk (F : FTy → Type) : Type := Vec F S1x2x8192x128 .bf16
/-- The queries a point holds, transposed. -/
abbrev QBlk (F : FTy → Type) : Type := Vec F S1x2x128x8192 .bf16
/-- The values a point holds, transposed, the two heads one above the other. -/
abbrev VBlk (F : FTy → Type) : Type := Vec F S1x128x8192 .bf16

theorem kIn (h c : ℕ) (hh : h < 2) (hc : c < 16) :
    ∀ a, (![0, h, 512 * c, 0] : Fin 4 → ℕ) a + S1x1x512x128.size a ≤ S1x2x8192x128.size a
  | 0 => by simp [S1x1x512x128, S1x2x8192x128]
  | 1 => by show h + 1 ≤ 2; omega
  | 2 => by show 512 * c + 512 ≤ 8192; omega
  | 3 => by show 0 + 128 ≤ 128; omega

theorem qIn (h q : ℕ) (hh : h < 2) (hq : q < 16) :
    ∀ a, (![0, h, 0, 512 * q] : Fin 4 → ℕ) a + S1x1x128x512.size a ≤ S1x2x128x8192.size a
  | 0 => by show 0 + 1 ≤ 1; omega
  | 1 => by show h + 1 ≤ 2; omega
  | 2 => by show 0 + 128 ≤ 128; omega
  | 3 => by show 512 * q + 512 ≤ 8192; omega

theorem vIn (h c : ℕ) (hh : h < 2) (hc : c < 16) :
    ∀ a, (![0, 64 * h, 512 * c] : Fin 3 → ℕ) a + S1x64x512.size a ≤ S1x128x8192.size a
  | 0 => by show 0 + 1 ≤ 1; omega
  | 1 => by show 64 * h + 64 ≤ 128; omega
  | 2 => by show 512 * c + 512 ≤ 8192; omega

/-- Chunk `c` of head `h`'s keys. -/
def kChunk (K : KBlk F) (h : Fin 2) (c : Fin 16) : Vec F S1x1x512x128 .bf16 :=
  View.ld K (Rect.unit (s := S1x2x8192x128) ![0, h.val, 512 * c.val, 0] S1x1x512x128.size (kIn _ _ h.isLt c.isLt))
/-- Tile `q` of head `h`'s queries. -/
def qTile (Q : QBlk F) (h : Fin 2) (q : Fin 16) : Vec F S1x1x128x512 .bf16 :=
  View.ld Q (Rect.unit (s := S1x2x128x8192) ![0, h.val, 0, 512 * q.val] S1x1x128x512.size (qIn _ _ h.isLt q.isLt))
/-- Chunk `c` of head `h`'s values. -/
def vChunk (V : VBlk F) (h : Fin 2) (c : Fin 16) : Vec F S1x64x512 .bf16 :=
  View.ld V (Rect.unit (s := S1x128x8192) ![0, 64 * h.val, 512 * c.val] S1x64x512.size (vIn _ _ h.isLt c.isLt))

/-- The scores of chunk `c` against tile `q`, as stored. -/
def score (K : KBlk F) (Q : QBlk F) (h : Fin 2) (c q : Fin 16) : Vec F S1x1x512x512 .f32 := k0_pay10 (kChunk K h c) (qTile Q h q)
/-- Their maximum over the chunk's keys, a query a lane, as stored. -/
def colMax (K : KBlk F) (Q : QBlk F) (h : Fin 2) (c q : Fin 16) : Vec F S1x1x1x512 .f32 := k0_pay11 (kChunk K h c) (qTile Q h q)

/-- The running maximum after the first `n` chunks. -/
def runMax (K : KBlk F) (Q : QBlk F) (h : Fin 2) (q : Fin 16) : (n : ℕ) → n ≤ 16 → FVec F S1x512 .f32
  | 0, _ => k0_pay5
  | n + 1, hn => k0_pay16 (runMax K Q h q n (Nat.le_of_succ_le hn)) (colMax K Q h ⟨n, hn⟩ q)
/-- The accumulator after the first `n` chunks: rows 0 to 63 the weighted values, row 64 the weights' sum. -/
def runAcc (K : KBlk F) (Q : QBlk F) (V : VBlk F) (h : Fin 2) (q : Fin 16) : (n : ℕ) → n ≤ 16 → FVec F S80x512 .f32
  | 0, _ => k0_pay6
  | n + 1, hn => k0_pay17 k0_pay194 (runMax K Q h q n (Nat.le_of_succ_le hn)) (runAcc K Q V h q n (Nat.le_of_succ_le hn))
      (score K Q h ⟨n, hn⟩ q) (colMax K Q h ⟨n, hn⟩ q) (vChunk V h ⟨n, hn⟩)

theorem runMax_succ (K : KBlk F) (Q : QBlk F) (h : Fin 2) (q : Fin 16) (n : ℕ) (hn : n + 1 ≤ 16) :
    runMax K Q h q (n + 1) hn = k0_pay16 (runMax K Q h q n (Nat.le_of_succ_le hn)) (colMax K Q h ⟨n, hn⟩ q) := rfl
theorem runAcc_succ (K : KBlk F) (Q : QBlk F) (V : VBlk F) (h : Fin 2) (q : Fin 16) (n : ℕ) (hn : n + 1 ≤ 16) :
    runAcc K Q V h q (n + 1) hn = k0_pay17 k0_pay194 (runMax K Q h q n (Nat.le_of_succ_le hn)) (runAcc K Q V h q n (Nat.le_of_succ_le hn))
      (score K Q h ⟨n, hn⟩ q) (colMax K Q h ⟨n, hn⟩ q) (vChunk V h ⟨n, hn⟩) := rfl

/-- An accumulator's weighted values, and its weights' sum. -/
def accVals (a : FVec F S80x512 .f32) : FVec F S64x512 .f32 := extractStridedSlice S64x512 ![0, 0] a slices_S80x512_o0_0_S64x512
def accSum (a : FVec F S80x512 .f32) : FVec F S1x512 .f32 := extractStridedSlice S1x512 ![64, 0] a slices_S80x512_o64_0_S1x512
/-- The weighted values over the weights' sum: times its reciprocal. -/
def normed (a : FVec F S80x512 .f32) : FVec F S64x512 .f32 :=
  mulf (accVals a) (broadcastTo S64x512 (divf (broadcast S1x512 (Scalar.ofBits .f32 0x3F800000#32)) (accSum a)) broadcasts_S1x512_S64x512)

/-- The tile of the result the kernel stores for tile `q`: its rows queries, columns 0 to 63 head 0's, 64 to 127 head 1's. -/
def outTile (K : KBlk F) (Q : QBlk F) (V : VBlk F) (q : Fin 16) : Vec F S1x512x128 .f32 :=
  k0_pay4 (normed (runAcc K Q V 0 q 16 le_rfl)) (accVals (runAcc K Q V 1 q 16 le_rfl)) (accSum (runAcc K Q V 1 q 16 le_rfl))
    (Scalar.ofBits .f32 0x3F800000#32)

/-! ## Loads -/

/-- A load of the staged keys at a chunk's offsets reads the chunk. -/
theorem readAt_kChunk {arg3 : Memref sig .tc .vmem S1x2x8192x128 .bf16} {X : BufTy.Contents (Elt F) arg3.view.ty} (h : Fin 2) (c : Fin 16)
    {off : Fin 4 → ℕ} (inb) (e : off = ![0, h.val, 512 * c.val, 0]) :
    View.readAt (Elt F) arg3.view (Rect.unit (s := S1x2x8192x128) off S1x1x512x128.size inb).toLoadRect X = kChunk (arg3.view.read (Elt F) X) h c := by
  subst e; rfl
theorem readAt_qTile {arg2 : Memref sig .tc .vmem S1x2x128x8192 .bf16} {X : BufTy.Contents (Elt F) arg2.view.ty} (h : Fin 2) (q : Fin 16)
    {off : Fin 4 → ℕ} (inb) (e : off = ![0, h.val, 0, 512 * q.val]) :
    View.readAt (Elt F) arg2.view (Rect.unit (s := S1x2x128x8192) off S1x1x128x512.size inb).toLoadRect X = qTile (arg2.view.read (Elt F) X) h q := by
  subst e; rfl
theorem readAt_vChunk {arg4 : Memref sig .tc .vmem S1x128x8192 .bf16} {X : BufTy.Contents (Elt F) arg4.view.ty} (h : Fin 2) (c : Fin 16)
    {off : Fin 3 → ℕ} (inb) (e : off = ![0, 64 * h.val, 512 * c.val]) :
    View.readAt (Elt F) arg4.view (Rect.unit (s := S1x128x8192) off S1x64x512.size inb).toLoadRect X = vChunk (arg4.view.read (Elt F) X) h c := by
  subst e; rfl

/-! ## Reading back what was stored in the two scratch buffers -/

/-- A read back skips a piece that lies apart on some axis. -/
theorem readCov_skip {κ : Kind} {sp : Space} {s : Shape} {e : EltTy} (v : View sig κ sp s e) {off off' size size' : Fin s.rank → ℕ} (inb inb')
    (w : (Rect.unit (s := s) off size inb).shape.Idx → Elt F e) (L : List (View.Piece (Elt F) s e)) (a : Fin s.rank)
    (h : off a + size a ≤ off' a ∨ off' a + size' a ≤ off a) :
    v.readCov (⟨Rect.unit off size inb, w⟩ :: L) (Rect.unit (s := s) off' size' inb').toLoadRect = v.readCov L (Rect.unit (s := s) off' size' inb').toLoadRect :=
  View.readCov_cons_of_disjoint v _ L _ (Rect.unit_disjoint (inb := inb) (inb' := inb') a h)

/-- The scratch's read back at slot `t`, head `h`, from a list whose newest pieces store the other slot's two heads and then this slot's
    head 1: for head 1 the payload there, -/
theorem readCov_pair (v : View sig .tc .vmem S2x2x512x512 .f32) (s t : ℕ) (hst : s ≠ t) (i1 i2 i3 i4) (w1 w2 w3)
    (L : List (View.Piece (Elt F) S2x2x512x512 .f32)) :
    v.readCov (⟨Rect.unit ![s, 1, 0, 0] S1x1x512x512.size i1, w1⟩ :: ⟨Rect.unit ![s, 0, 0, 0] S1x1x512x512.size i2, w2⟩ ::
      ⟨Rect.unit ![t, 1, 0, 0] S1x1x512x512.size i3, w3⟩ :: L) (Rect.unit (s := S2x2x512x512) ![t, 1, 0, 0] S1x1x512x512.size i4).toLoadRect = w3 := by
  have h : s + 1 ≤ t ∨ t + 1 ≤ s := by omega
  rw [readCov_skip v i1 i4 w1 _ 0 h, readCov_skip v i2 i4 w2 _ 0 h]
  exact View.readCov_cons_toLoadRect v _ w3 L
/-- and for head 0 the payload of the piece after. -/
theorem readCov_pair0 (v : View sig .tc .vmem S2x2x512x512 .f32) (s t : ℕ) (hst : s ≠ t) (i1 i2 i3 i4 i5) (w1 w2 w3 w4)
    (L : List (View.Piece (Elt F) S2x2x512x512 .f32)) :
    v.readCov (⟨Rect.unit ![s, 1, 0, 0] S1x1x512x512.size i1, w1⟩ :: ⟨Rect.unit ![s, 0, 0, 0] S1x1x512x512.size i2, w2⟩ ::
      ⟨Rect.unit ![t, 1, 0, 0] S1x1x512x512.size i3, w3⟩ :: ⟨Rect.unit ![t, 0, 0, 0] S1x1x512x512.size i4, w4⟩ :: L)
      (Rect.unit (s := S2x2x512x512) ![t, 0, 0, 0] S1x1x512x512.size i5).toLoadRect = w4 := by
  have h : s + 1 ≤ t ∨ t + 1 ≤ s := by omega
  rw [readCov_skip v i1 i5 w1 _ 0 h, readCov_skip v i2 i5 w2 _ 0 h, readCov_skip v i3 i5 w3 _ 1 (.inr (by show 0 + 1 ≤ 1; omega))]
  exact View.readCov_cons_toLoadRect v _ w4 L
/-- The same for the chunks' maxima. -/
theorem readCov_maxPair (v : View sig .tc .vmem S2x2x1x512 .f32) (s t : ℕ) (hst : s ≠ t) (i1 i2 i3 i4) (w1 w2 w3)
    (L : List (View.Piece (Elt F) S2x2x1x512 .f32)) :
    v.readCov (⟨Rect.unit ![s, 1, 0, 0] S1x1x1x512.size i1, w1⟩ :: ⟨Rect.unit ![s, 0, 0, 0] S1x1x1x512.size i2, w2⟩ ::
      ⟨Rect.unit ![t, 1, 0, 0] S1x1x1x512.size i3, w3⟩ :: L) (Rect.unit (s := S2x2x1x512) ![t, 1, 0, 0] S1x1x1x512.size i4).toLoadRect = w3 := by
  have h : s + 1 ≤ t ∨ t + 1 ≤ s := by omega
  rw [readCov_skip v i1 i4 w1 _ 0 h, readCov_skip v i2 i4 w2 _ 0 h]
  exact View.readCov_cons_toLoadRect v _ w3 L
theorem readCov_maxPair0 (v : View sig .tc .vmem S2x2x1x512 .f32) (s t : ℕ) (hst : s ≠ t) (i1 i2 i3 i4 i5) (w1 w2 w3 w4)
    (L : List (View.Piece (Elt F) S2x2x1x512 .f32)) :
    v.readCov (⟨Rect.unit ![s, 1, 0, 0] S1x1x1x512.size i1, w1⟩ :: ⟨Rect.unit ![s, 0, 0, 0] S1x1x1x512.size i2, w2⟩ ::
      ⟨Rect.unit ![t, 1, 0, 0] S1x1x1x512.size i3, w3⟩ :: ⟨Rect.unit ![t, 0, 0, 0] S1x1x1x512.size i4, w4⟩ :: L)
      (Rect.unit (s := S2x2x1x512) ![t, 0, 0, 0] S1x1x1x512.size i5).toLoadRect = w4 := by
  have h : s + 1 ≤ t ∨ t + 1 ≤ s := by omega
  rw [readCov_skip v i1 i5 w1 _ 0 h, readCov_skip v i2 i5 w2 _ 0 h, readCov_skip v i3 i5 w3 _ 1 (.inr (by show 0 + 1 ≤ 1; omega))]
  exact View.readCov_cons_toLoadRect v _ w4 L

end Cert.Attn

end
-- ==== Proof.Trip.lean ====
/-
  One trip of the attention kernel's loop, read: every load of the scores and of the chunks' maxima finds what the trip before or
  this one stored there, so that the chain of the trip's values is the recursion of `Steps.lean`.
-/
module

public import proofs.«01_k».proof.Proof.Steps

@[expose] public section

set_option maxRecDepth 16384

noncomputable section

namespace Cert.Attn

open Cert.KernelIdeal Cert.KernelIdeal.Gen
open Idealize.ShloMosaic Idealize.ShloMosaic.TcCoe

variable {F : FTy → Type} [FloatOps F]

/-- The tile a trip works on, -/
def tile (k : Fin k0_t1_loop.trips) : Fin 16 := ⟨k.val, k.isLt⟩
/-- and the tile whose first scores it prepares: the next, the last one's trip the last again. -/
def nextTile (k : Fin k0_t1_loop.trips) : Fin 16 := ⟨min (k.val + 1) 15, by omega⟩

theorem off8_now (k : Fin k0_t1_loop.trips) (r : Fin 8) (hr : r.val < 7) : k0_off8 k (BitVec.ofNat 32 r.val) = ![0, 0, 0, 512 * k.val] := by
  rw [k0_off8_eq, if_neg (by omega)]
theorem off10_now (k : Fin k0_t1_loop.trips) (r : Fin 8) (hr : r.val < 7) : k0_off10 k (BitVec.ofNat 32 r.val) = ![0, 1, 0, 512 * k.val] := by
  rw [k0_off10_eq, if_neg (by omega)]
theorem off8_next (k : Fin k0_t1_loop.trips) : k0_off8 k 7#32 = ![0, 0, 0, 512 * min (k.val + 1) 15] :=
  (k0_off8_eq k ⟨7, by decide⟩).trans (by rw [if_pos (by decide)])
theorem off10_next (k : Fin k0_t1_loop.trips) : k0_off10 k 7#32 = ![0, 1, 0, 512 * min (k.val + 1) 15] :=
  (k0_off10_eq k ⟨7, by decide⟩).trans (by rw [if_pos (by decide)])

theorem qIn_of {q : Fin 16} {h : Fin 2} {off : Fin 4 → ℕ} (e : off = ![0, h.val, 0, 512 * q.val]) :
    ∀ a, off a + S1x1x128x512.size a ≤ S1x2x128x8192.size a := e ▸ qIn _ _ h.isLt q.isLt

theorem score_of {K : KBlk F} {Q : QBlk F} {h : Fin 2} {c q : Fin 16} {a b} (ha : a = kChunk K h c) (hb : b = qTile Q h q) :
    k0_pay10 a b = score K Q h c q := by rw [ha, hb]; rfl
theorem colMax_of {K : KBlk F} {Q : QBlk F} {h : Fin 2} {c q : Fin 16} {a b} (ha : a = kChunk K h c) (hb : b = qTile Q h q) :
    k0_pay11 a b = colMax K Q h c q := by rw [ha, hb]; rfl
theorem maxStep {K : KBlk F} {Q : QBlk F} {q : Fin 16} {m c} (h : Fin 2) (n : ℕ) (hn : n + 1 ≤ 16)
    (hm : m = runMax K Q h q n (Nat.le_of_succ_le hn)) (hc : c = colMax K Q h ⟨n, hn⟩ q) : k0_pay16 m c = runMax K Q h q (n + 1) hn := by
  rw [hm, hc]; rfl
theorem accStep {K : KBlk F} {Q : QBlk F} {V : VBlk F} {q : Fin 16} {m a s c b} (h : Fin 2) (n : ℕ) (hn : n + 1 ≤ 16)
    (hm : m = runMax K Q h q n (Nat.le_of_succ_le hn)) (ha : a = runAcc K Q V h q n (Nat.le_of_succ_le hn))
    (hs : s = score K Q h ⟨n, hn⟩ q) (hc : c = colMax K Q h ⟨n, hn⟩ q) (hb : b = vChunk V h ⟨n, hn⟩) :
    k0_pay17 k0_pay194 m a s c b = runAcc K Q V h q (n + 1) hn := by
  rw [hm, ha, hs, hc, hb]; rfl

variable (arg2 : Memref sig .tc .vmem S1x2x128x8192 .bf16) (arg3 : Memref sig .tc .vmem S1x2x8192x128 .bf16)
  (arg4 : Memref sig .tc .vmem S1x128x8192 .bf16) (arg6 : Memref sig .tc .vmem S2x2x512x512 .f32) (arg7 : Memref sig .tc .vmem S2x2x1x512 .f32)
  (X2 : BufTy.Contents (Elt F) arg2.view.ty) (X3 : BufTy.Contents (Elt F) arg3.view.ty) (X4 : BufTy.Contents (Elt F) arg4.view.ty)
  (f6 : BufTy.Contents (Elt F) arg6.view.ty) (f7 : BufTy.Contents (Elt F) arg7.view.ty) (k : Fin k0_t1_loop.trips)

theorem score_h0_c1 : trip_k0_t1.sl.v164 arg2 arg3 arg6 X2 X3 k = score (arg3.view.read (Elt F) X3) (arg2.view.read (Elt F) X2) 0 1 (tile k) := by
  refine (readCov_pair0 arg6.view 0 1 (by decide) _ _ _ _ _ _ _ _ _ _).trans ?_
  exact score_of (readAt_kChunk 0 1 _ rfl) (readAt_qTile 0 (tile k) _ (k0_off2_eq k))

theorem colMax_h0_c1 : trip_k0_t1.sl.v166 arg2 arg3 arg7 X2 X3 k = colMax (arg3.view.read (Elt F) X3) (arg2.view.read (Elt F) X2) 0 1 (tile k) := by
  refine (readCov_maxPair0 arg7.view 0 1 (by decide) _ _ _ _ _ _ _ _ _ _).trans ?_
  have e := colMax_of (readAt_kChunk (arg3 := arg3) (X := X3) 0 1 (kIn 0 1 (by decide) (by decide)) rfl)
    (readAt_qTile (arg2 := arg2) (X := X2) 0 (tile k) (qIn_of (h := 0) (q := tile k) (k0_off2_eq k)) (k0_off2_eq k))
  exact e

theorem score_h1_c1 : trip_k0_t1.sl.v183 arg2 arg3 arg6 X2 X3 k = score (arg3.view.read (Elt F) X3) (arg2.view.read (Elt F) X2) 1 1 (tile k) := by
  refine (readCov_pair arg6.view 0 1 (by decide) _ _ _ _ _ _ _ _).trans ?_
  exact score_of (readAt_kChunk 1 1 _ rfl) (readAt_qTile 1 (tile k) _ (k0_off4_eq k))

theorem colMax_h1_c1 : trip_k0_t1.sl.v185 arg2 arg3 arg7 X2 X3 k = colMax (arg3.view.read (Elt F) X3) (arg2.view.read (Elt F) X2) 1 1 (tile k) := by
  refine (readCov_maxPair arg7.view 0 1 (by decide) _ _ _ _ _ _ _ _).trans ?_
  have e := colMax_of (readAt_kChunk (arg3 := arg3) (X := X3) 1 1 (kIn 1 1 (by decide) (by decide)) rfl)
    (readAt_qTile (arg2 := arg2) (X := X2) 1 (tile k) (qIn_of (h := 1) (q := tile k) (k0_off4_eq k)) (k0_off4_eq k))
  exact e

theorem score_h0_c2 : trip_k0_t1.sl.v240 arg2 arg3 arg6 X2 X3 k = score (arg3.view.read (Elt F) X3) (arg2.view.read (Elt F) X2) 0 2 (tile k) := by
  refine (readCov_pair0 arg6.view 1 0 (by decide) _ _ _ _ _ _ _ _ _ _).trans ?_
  exact score_of (readAt_kChunk 0 2 _ rfl) (readAt_qTile 0 (tile k) _ (off8_now k 0 (by decide)))

theorem colMax_h0_c2 : trip_k0_t1.sl.v242 arg2 arg3 arg7 X2 X3 k = colMax (arg3.view.read (Elt F) X3) (arg2.view.read (Elt F) X2) 0 2 (tile k) := by
  refine (readCov_maxPair0 arg7.view 1 0 (by decide) _ _ _ _ _ _ _ _ _ _).trans ?_
  have e := colMax_of (readAt_kChunk (arg3 := arg3) (X := X3) 0 2 (kIn 0 2 (by decide) (by decide)) rfl)
    (readAt_qTile (arg2 := arg2) (X := X2) 0 (tile k) (qIn_of (h := 0) (q := tile k) (off8_now k 0 (by decide))) (off8_now k 0 (by decide)))
  exact e

theorem score_h1_c2 : trip_k0_t1.sl.v259 arg2 arg3 arg6 X2 X3 k = score (arg3.view.read (Elt F) X3) (arg2.view.read (Elt F) X2) 1 2 (tile k) := by
  refine (readCov_pair arg6.view 1 0 (by decide) _ _ _ _ _ _ _ _).trans ?_
  exact score_of (readAt_kChunk 1 2 _ rfl) (readAt_qTile 1 (tile k) _ (off10_now k 0 (by decide)))

theorem colMax_h1_c2 : trip_k0_t1.sl.v261 arg2 arg3 arg7 X2 X3 k = colMax (arg3.view.read (Elt F) X3) (arg2.view.read (Elt F) X2) 1 2 (tile k) := by
  refine (readCov_maxPair arg7.view 1 0 (by decide) _ _ _ _ _ _ _ _).trans ?_
  have e := colMax_of (readAt_kChunk (arg3 := arg3) (X := X3) 1 2 (kIn 1 2 (by decide) (by decide)) rfl)
    (readAt_qTile (arg2 := arg2) (X := X2) 1 (tile k) (qIn_of (h := 1) (q := tile k) (off10_now k 0 (by decide))) (off10_now k 0 (by decide)))
  exact e

theorem score_h0_c3 : trip_k0_t1.sl.v322 arg2 arg3 arg6 X2 X3 k = score (arg3.view.read (Elt F) X3) (arg2.view.read (Elt F) X2) 0 3 (tile k) := by
  refine (readCov_pair0 arg6.view 0 1 (by decide) _ _ _ _ _ _ _ _ _ _).trans ?_
  exact score_of (readAt_kChunk 0 3 _ rfl) (readAt_qTile 0 (tile k) _ (k0_off2_eq k))

theorem colMax_h0_c3 : trip_k0_t1.sl.v324 arg2 arg3 arg7 X2 X3 k = colMax (arg3.view.read (Elt F) X3) (arg2.view.read (Elt F) X2) 0 3 (tile k) := by
  refine (readCov_maxPair0 arg7.view 0 1 (by decide) _ _ _ _ _ _ _ _ _ _).trans ?_
  have e := colMax_of (readAt_kChunk (arg3 := arg3) (X := X3) 0 3 (kIn 0 3 (by decide) (by decide)) rfl)
    (readAt_qTile (arg2 := arg2) (X := X2) 0 (tile k) (qIn_of (h := 0) (q := tile k) (k0_off2_eq k)) (k0_off2_eq k))
  exact e

theorem score_h1_c3 : trip_k0_t1.sl.v341 arg2 arg3 arg6 X2 X3 k = score (arg3.view.read (Elt F) X3) (arg2.view.read (Elt F) X2) 1 3 (tile k) := by
  refine (readCov_pair arg6.view 0 1 (by decide) _ _ _ _ _ _ _ _).trans ?_
  exact score_of (readAt_kChunk 1 3 _ rfl) (readAt_qTile 1 (tile k) _ (k0_off4_eq k))

theorem colMax_h1_c3 : trip_k0_t1.sl.v343 arg2 arg3 arg7 X2 X3 k = colMax (arg3.view.read (Elt F) X3) (arg2.view.read (Elt F) X2) 1 3 (tile k) := by
  refine (readCov_maxPair arg7.view 0 1 (by decide) _ _ _ _ _ _ _ _).trans ?_
  have e := colMax_of (readAt_kChunk (arg3 := arg3) (X := X3) 1 3 (kIn 1 3 (by decide) (by decide)) rfl)
    (readAt_qTile (arg2 := arg2) (X := X2) 1 (tile k) (qIn_of (h := 1) (q := tile k) (k0_off4_eq k)) (k0_off4_eq k))
  exact e

theorem score_h0_c4 : trip_k0_t1.sl.v398 arg2 arg3 arg6 X2 X3 k = score (arg3.view.read (Elt F) X3) (arg2.view.read (Elt F) X2) 0 4 (tile k) := by
  refine (readCov_pair0 arg6.view 1 0 (by decide) _ _ _ _ _ _ _ _ _ _).trans ?_
  exact score_of (readAt_kChunk 0 4 _ rfl) (readAt_qTile 0 (tile k) _ (off8_now k 1 (by decide)))

theorem colMax_h0_c4 : trip_k0_t1.sl.v400 arg2 arg3 arg7 X2 X3 k = colMax (arg3.view.read (Elt F) X3) (arg2.view.read (Elt F) X2) 0 4 (tile k) := by
  refine (readCov_maxPair0 arg7.view 1 0 (by decide) _ _ _ _ _ _ _ _ _ _).trans ?_
  have e := colMax_of (readAt_kChunk (arg3 := arg3) (X := X3) 0 4 (kIn 0 4 (by decide) (by decide)) rfl)
    (readAt_qTile (arg2 := arg2) (X := X2) 0 (tile k) (qIn_of (h := 0) (q := tile k) (off8_now k 1 (by decide))) (off8_now k 1 (by decide)))
  exact e

theorem score_h1_c4 : trip_k0_t1.sl.v417 arg2 arg3 arg6 X2 X3 k = score (arg3.view.read (Elt F) X3) (arg2.view.read (Elt F) X2) 1 4 (tile k) := by
  refine (readCov_pair arg6.view 1 0 (by decide) _ _ _ _ _ _ _ _).trans ?_
  exact score_of (readAt_kChunk 1 4 _ rfl) (readAt_qTile 1 (tile k) _ (off10_now k 1 (by decide)))

theorem colMax_h1_c4 : trip_k0_t1.sl.v419 arg2 arg3 arg7 X2 X3 k = colMax (arg3.view.read (Elt F) X3) (arg2.view.read (Elt F) X2) 1 4 (tile k) := by
  refine (readCov_maxPair arg7.view 1 0 (by decide) _ _ _ _ _ _ _ _).trans ?_
  have e := colMax_of (readAt_kChunk (arg3 := arg3) (X := X3) 1 4 (kIn 1 4 (by decide) (by decide)) rfl)
    (readAt_qTile (arg2 := arg2) (X := X2) 1 (tile k) (qIn_of (h := 1) (q := tile k) (off10_now k 1 (by decide))) (off10_now k 1 (by decide)))
  exact e

theorem score_h0_c5 : trip_k0_t1.sl.v480 arg2 arg3 arg6 X2 X3 k = score (arg3.view.read (Elt F) X3) (arg2.view.read (Elt F) X2) 0 5 (tile k) := by
  refine (readCov_pair0 arg6.view 0 1 (by decide) _ _ _ _ _ _ _ _ _ _).trans ?_
  exact score_of (readAt_kChunk 0 5 _ rfl) (readAt_qTile 0 (tile k) _ (k0_off2_eq k))

theorem colMax_h0_c5 : trip_k0_t1.sl.v482 arg2 arg3 arg7 X2 X3 k = colMax (arg3.view.read (Elt F) X3) (arg2.view.read (Elt F) X2) 0 5 (tile k) := by
  refine (readCov_maxPair0 arg7.view 0 1 (by decide) _ _ _ _ _ _ _ _ _ _).trans ?_
  have e := colMax_of (readAt_kChunk (arg3 := arg3) (X := X3) 0 5 (kIn 0 5 (by decide) (by decide)) rfl)
    (readAt_qTile (arg2 := arg2) (X := X2) 0 (tile k) (qIn_of (h := 0) (q := tile k) (k0_off2_eq k)) (k0_off2_eq k))
  exact e

theorem score_h1_c5 : trip_k0_t1.sl.v499 arg2 arg3 arg6 X2 X3 k = score (arg3.view.read (Elt F) X3) (arg2.view.read (Elt F) X2) 1 5 (tile k) := by
  refine (readCov_pair arg6.view 0 1 (by decide) _ _ _ _ _ _ _ _).trans ?_
  exact score_of (readAt_kChunk 1 5 _ rfl) (readAt_qTile 1 (tile k) _ (k0_off4_eq k))

theorem colMax_h1_c5 : trip_k0_t1.sl.v501 arg2 arg3 arg7 X2 X3 k = colMax (arg3.view.read (Elt F) X3) (arg2.view.read (Elt F) X2) 1 5 (tile k) := by
  refine (readCov_maxPair arg7.view 0 1 (by decide) _ _ _ _ _ _ _ _).trans ?_
  have e := colMax_of (readAt_kChunk (arg3 := arg3) (X := X3) 1 5 (kIn 1 5 (by decide) (by decide)) rfl)
    (readAt_qTile (arg2 := arg2) (X := X2) 1 (tile k) (qIn_of (h := 1) (q := tile k) (k0_off4_eq k)) (k0_off4_eq k))
  exact e

theorem score_h0_c6 : trip_k0_t1.sl.v556 arg2 arg3 arg6 X2 X3 k = score (arg3.view.read (Elt F) X3) (arg2.view.read (Elt F) X2) 0 6 (tile k) := by
  refine (readCov_pair0 arg6.view 1 0 (by decide) _ _ _ _ _ _ _ _ _ _).trans ?_
  exact score_of (readAt_kChunk 0 6 _ rfl) (readAt_qTile 0 (tile k) _ (off8_now k 2 (by decide)))

theorem colMax_h0_c6 : trip_k0_t1.sl.v558 arg2 arg3 arg7 X2 X3 k = colMax (arg3.view.read (Elt F) X3) (arg2.view.read (Elt F) X2) 0 6 (tile k) := by
  refine (readCov_maxPair0 arg7.view 1 0 (by decide) _ _ _ _ _ _ _ _ _ _).trans ?_
  have e := colMax_of (readAt_kChunk (arg3 := arg3) (X := X3) 0 6 (kIn 0 6 (by decide) (by decide)) rfl)
    (readAt_qTile (arg2 := arg2) (X := X2) 0 (tile k) (qIn_of (h := 0) (q := tile k) (off8_now k 2 (by decide))) (off8_now k 2 (by decide)))
  exact e

theorem score_h1_c6 : trip_k0_t1.sl.v575 arg2 arg3 arg6 X2 X3 k = score (arg3.view.read (Elt F) X3) (arg2.view.read (Elt F) X2) 1 6 (tile k) := by
  refine (readCov_pair arg6.view 1 0 (by decide) _ _ _ _ _ _ _ _).trans ?_
  exact score_of (readAt_kChunk 1 6 _ rfl) (readAt_qTile 1 (tile k) _ (off10_now k 2 (by decide)))

theorem colMax_h1_c6 : trip_k0_t1.sl.v577 arg2 arg3 arg7 X2 X3 k = colMax (arg3.view.read (Elt F) X3) (arg2.view.read (Elt F) X2) 1 6 (tile k) := by
  refine (readCov_maxPair arg7.view 1 0 (by decide) _ _ _ _ _ _ _ _).trans ?_
  have e := colMax_of (readAt_kChunk (arg3 := arg3) (X := X3) 1 6 (kIn 1 6 (by decide) (by decide)) rfl)
    (readAt_qTile (arg2 := arg2) (X := X2) 1 (tile k) (qIn_of (h := 1) (q := tile k) (off10_now k 2 (by decide))) (off10_now k 2 (by decide)))
  exact e

theorem score_h0_c7 : trip_k0_t1.sl.v638 arg2 arg3 arg6 X2 X3 k = score (arg3.view.read (Elt F) X3) (arg2.view.read (Elt F) X2) 0 7 (tile k) := by
  refine (readCov_pair0 arg6.view 0 1 (by decide) _ _ _ _ _ _ _ _ _ _).trans ?_
  exact score_of (readAt_kChunk 0 7 _ rfl) (readAt_qTile 0 (tile k) _ (k0_off2_eq k))

theorem colMax_h0_c7 : trip_k0_t1.sl.v640 arg2 arg3 arg7 X2 X3 k = colMax (arg3.view.read (Elt F) X3) (arg2.view.read (Elt F) X2) 0 7 (tile k) := by
  refine (readCov_maxPair0 arg7.view 0 1 (by decide) _ _ _ _ _ _ _ _ _ _).trans ?_
  have e := colMax_of (readAt_kChunk (arg3 := arg3) (X := X3) 0 7 (kIn 0 7 (by decide) (by decide)) rfl)
    (readAt_qTile (arg2 := arg2) (X := X2) 0 (tile k) (qIn_of (h := 0) (q := tile k) (k0_off2_eq k)) (k0_off2_eq k))
  exact e

theorem score_h1_c7 : trip_k0_t1.sl.v657 arg2 arg3 arg6 X2 X3 k = score (arg3.view.read (Elt F) X3) (arg2.view.read (Elt F) X2) 1 7 (tile k) := by
  refine (readCov_pair arg6.view 0 1 (by decide) _ _ _ _ _ _ _ _).trans ?_
  exact score_of (readAt_kChunk 1 7 _ rfl) (readAt_qTile 1 (tile k) _ (k0_off4_eq k))

theorem colMax_h1_c7 : trip_k0_t1.sl.v659 arg2 arg3 arg7 X2 X3 k = colMax (arg3.view.read (Elt F) X3) (arg2.view.read (Elt F) X2) 1 7 (tile k) := by
  refine (readCov_maxPair arg7.view 0 1 (by decide) _ _ _ _ _ _ _ _).trans ?_
  have e := colMax_of (readAt_kChunk (arg3 := arg3) (X := X3) 1 7 (kIn 1 7 (by decide) (by decide)) rfl)
    (readAt_qTile (arg2 := arg2) (X := X2) 1 (tile k) (qIn_of (h := 1) (q := tile k) (k0_off4_eq k)) (k0_off4_eq k))
  exact e

theorem score_h0_c8 : trip_k0_t1.sl.v714 arg2 arg3 arg6 X2 X3 k = score (arg3.view.read (Elt F) X3) (arg2.view.read (Elt F) X2) 0 8 (tile k) := by
  refine (readCov_pair0 arg6.view 1 0 (by decide) _ _ _ _ _ _ _ _ _ _).trans ?_
  exact score_of (readAt_kChunk 0 8 _ rfl) (readAt_qTile 0 (tile k) _ (off8_now k 3 (by decide)))

theorem colMax_h0_c8 : trip_k0_t1.sl.v716 arg2 arg3 arg7 X2 X3 k = colMax (arg3.view.read (Elt F) X3) (arg2.view.read (Elt F) X2) 0 8 (tile k) := by
  refine (readCov_maxPair0 arg7.view 1 0 (by decide) _ _ _ _ _ _ _ _ _ _).trans ?_
  have e := colMax_of (readAt_kChunk (arg3 := arg3) (X := X3) 0 8 (kIn 0 8 (by decide) (by decide)) rfl)
    (readAt_qTile (arg2 := arg2) (X := X2) 0 (tile k) (qIn_of (h := 0) (q := tile k) (off8_now k 3 (by decide))) (off8_now k 3 (by decide)))
  exact e

theorem score_h1_c8 : trip_k0_t1.sl.v733 arg2 arg3 arg6 X2 X3 k = score (arg3.view.read (Elt F) X3) (arg2.view.read (Elt F) X2) 1 8 (tile k) := by
  refine (readCov_pair arg6.view 1 0 (by decide) _ _ _ _ _ _ _ _).trans ?_
  exact score_of (readAt_kChunk 1 8 _ rfl) (readAt_qTile 1 (tile k) _ (off10_now k 3 (by decide)))

theorem colMax_h1_c8 : trip_k0_t1.sl.v735 arg2 arg3 arg7 X2 X3 k = colMax (arg3.view.read (Elt F) X3) (arg2.view.read (Elt F) X2) 1 8 (tile k) := by
  refine (readCov_maxPair arg7.view 1 0 (by decide) _ _ _ _ _ _ _ _).trans ?_
  have e := colMax_of (readAt_kChunk (arg3 := arg3) (X := X3) 1 8 (kIn 1 8 (by decide) (by decide)) rfl)
    (readAt_qTile (arg2 := arg2) (X := X2) 1 (tile k) (qIn_of (h := 1) (q := tile k) (off10_now k 3 (by decide))) (off10_now k 3 (by decide)))
  exact e

theorem score_h0_c9 : trip_k0_t1.sl.v796 arg2 arg3 arg6 X2 X3 k = score (arg3.view.read (Elt F) X3) (arg2.view.read (Elt F) X2) 0 9 (tile k) := by
  refine (readCov_pair0 arg6.view 0 1 (by decide) _ _ _ _ _ _ _ _ _ _).trans ?_
  exact score_of (readAt_kChunk 0 9 _ rfl) (readAt_qTile 0 (tile k) _ (k0_off2_eq k))

theorem colMax_h0_c9 : trip_k0_t1.sl.v798 arg2 arg3 arg7 X2 X3 k = colMax (arg3.view.read (Elt F) X3) (arg2.view.read (Elt F) X2) 0 9 (tile k) := by
  refine (readCov_maxPair0 arg7.view 0 1 (by decide) _ _ _ _ _ _ _ _ _ _).trans ?_
  have e := colMax_of (readAt_kChunk (arg3 := arg3) (X := X3) 0 9 (kIn 0 9 (by decide) (by decide)) rfl)
    (readAt_qTile (arg2 := arg2) (X := X2) 0 (tile k) (qIn_of (h := 0) (q := tile k) (k0_off2_eq k)) (k0_off2_eq k))
  exact e

theorem score_h1_c9 : trip_k0_t1.sl.v815 arg2 arg3 arg6 X2 X3 k = score (arg3.view.read (Elt F) X3) (arg2.view.read (Elt F) X2) 1 9 (tile k) := by
  refine (readCov_pair arg6.view 0 1 (by decide) _ _ _ _ _ _ _ _).trans ?_
  exact score_of (readAt_kChunk 1 9 _ rfl) (readAt_qTile 1 (tile k) _ (k0_off4_eq k))

theorem colMax_h1_c9 : trip_k0_t1.sl.v817 arg2 arg3 arg7 X2 X3 k = colMax (arg3.view.read (Elt F) X3) (arg2.view.read (Elt F) X2) 1 9 (tile k) := by
  refine (readCov_maxPair arg7.view 0 1 (by decide) _ _ _ _ _ _ _ _).trans ?_
  have e := colMax_of (readAt_kChunk (arg3 := arg3) (X := X3) 1 9 (kIn 1 9 (by decide) (by decide)) rfl)
    (readAt_qTile (arg2 := arg2) (X := X2) 1 (tile k) (qIn_of (h := 1) (q := tile k) (k0_off4_eq k)) (k0_off4_eq k))
  exact e

theorem score_h0_c10 : trip_k0_t1.sl.v872 arg2 arg3 arg6 X2 X3 k = score (arg3.view.read (Elt F) X3) (arg2.view.read (Elt F) X2) 0 10 (tile k) := by
  refine (readCov_pair0 arg6.view 1 0 (by decide) _ _ _ _ _ _ _ _ _ _).trans ?_
  exact score_of (readAt_kChunk 0 10 _ rfl) (readAt_qTile 0 (tile k) _ (off8_now k 4 (by decide)))

theorem colMax_h0_c10 : trip_k0_t1.sl.v874 arg2 arg3 arg7 X2 X3 k = colMax (arg3.view.read (Elt F) X3) (arg2.view.read (Elt F) X2) 0 10 (tile k) := by
  refine (readCov_maxPair0 arg7.view 1 0 (by decide) _ _ _ _ _ _ _ _ _ _).trans ?_
  have e := colMax_of (readAt_kChunk (arg3 := arg3) (X := X3) 0 10 (kIn 0 10 (by decide) (by decide)) rfl)
    (readAt_qTile (arg2 := arg2) (X := X2) 0 (tile k) (qIn_of (h := 0) (q := tile k) (off8_now k 4 (by decide))) (off8_now k 4 (by decide)))
  exact e

theorem score_h1_c10 : trip_k0_t1.sl.v891 arg2 arg3 arg6 X2 X3 k = score (arg3.view.read (Elt F) X3) (arg2.view.read (Elt F) X2) 1 10 (tile k) := by
  refine (readCov_pair arg6.view 1 0 (by decide) _ _ _ _ _ _ _ _).trans ?_
  exact score_of (readAt_kChunk 1 10 _ rfl) (readAt_qTile 1 (tile k) _ (off10_now k 4 (by decide)))

theorem colMax_h1_c10 : trip_k0_t1.sl.v893 arg2 arg3 arg7 X2 X3 k = colMax (arg3.view.read (Elt F) X3) (arg2.view.read (Elt F) X2) 1 10 (tile k) := by
  refine (readCov_maxPair arg7.view 1 0 (by decide) _ _ _ _ _ _ _ _).trans ?_
  have e := colMax_of (readAt_kChunk (arg3 := arg3) (X := X3) 1 10 (kIn 1 10 (by decide) (by decide)) rfl)
    (readAt_qTile (arg2 := arg2) (X := X2) 1 (tile k) (qIn_of (h := 1) (q := tile k) (off10_now k 4 (by decide))) (off10_now k 4 (by decide)))
  exact e

theorem score_h0_c11 : trip_k0_t1.sl.v954 arg2 arg3 arg6 X2 X3 k = score (arg3.view.read (Elt F) X3) (arg2.view.read (Elt F) X2) 0 11 (tile k) := by
  refine (readCov_pair0 arg6.view 0 1 (by decide) _ _ _ _ _ _ _ _ _ _).trans ?_
  exact score_of (readAt_kChunk 0 11 _ rfl) (readAt_qTile 0 (tile k) _ (k0_off2_eq k))

theorem colMax_h0_c11 : trip_k0_t1.sl.v956 arg2 arg3 arg7 X2 X3 k = colMax (arg3.view.read (Elt F) X3) (arg2.view.read (Elt F) X2) 0 11 (tile k) := by
  refine (readCov_maxPair0 arg7.view 0 1 (by decide) _ _ _ _ _ _ _ _ _ _).trans ?_
  have e := colMax_of (readAt_kChunk (arg3 := arg3) (X := X3) 0 11 (kIn 0 11 (by decide) (by decide)) rfl)
    (readAt_qTile (arg2 := arg2) (X := X2) 0 (tile k) (qIn_of (h := 0) (q := tile k) (k0_off2_eq k)) (k0_off2_eq k))
  exact e

theorem score_h1_c11 : trip_k0_t1.sl.v973 arg2 arg3 arg6 X2 X3 k = score (arg3.view.read (Elt F) X3) (arg2.view.read (Elt F) X2) 1 11 (tile k) := by
  refine (readCov_pair arg6.view 0 1 (by decide) _ _ _ _ _ _ _ _).trans ?_
  exact score_of (readAt_kChunk 1 11 _ rfl) (readAt_qTile 1 (tile k) _ (k0_off4_eq k))

theorem colMax_h1_c11 : trip_k0_t1.sl.v975 arg2 arg3 arg7 X2 X3 k = colMax (arg3.view.read (Elt F) X3) (arg2.view.read (Elt F) X2) 1 11 (tile k) := by
  refine (readCov_maxPair arg7.view 0 1 (by decide) _ _ _ _ _ _ _ _).trans ?_
  have e := colMax_of (readAt_kChunk (arg3 := arg3) (X := X3) 1 11 (kIn 1 11 (by decide) (by decide)) rfl)
    (readAt_qTile (arg2 := arg2) (X := X2) 1 (tile k) (qIn_of (h := 1) (q := tile k) (k0_off4_eq k)) (k0_off4_eq k))
  exact e

theorem score_h0_c12 : trip_k0_t1.sl.v1030 arg2 arg3 arg6 X2 X3 k = score (arg3.view.read (Elt F) X3) (arg2.view.read (Elt F) X2) 0 12 (tile k) := by
  refine (readCov_pair0 arg6.view 1 0 (by decide) _ _ _ _ _ _ _ _ _ _).trans ?_
  exact score_of (readAt_kChunk 0 12 _ rfl) (readAt_qTile 0 (tile k) _ (off8_now k 5 (by decide)))

theorem colMax_h0_c12 : trip_k0_t1.sl.v1032 arg2 arg3 arg7 X2 X3 k = colMax (arg3.view.read (Elt F) X3) (arg2.view.read (Elt F) X2) 0 12 (tile k) := by
  refine (readCov_maxPair0 arg7.view 1 0 (by decide) _ _ _ _ _ _ _ _ _ _).trans ?_
  have e := colMax_of (readAt_kChunk (arg3 := arg3) (X := X3) 0 12 (kIn 0 12 (by decide) (by decide)) rfl)
    (readAt_qTile (arg2 := arg2) (X := X2) 0 (tile k) (qIn_of (h := 0) (q := tile k) (off8_now k 5 (by decide))) (off8_now k 5 (by decide)))
  exact e

theorem score_h1_c12 : trip_k0_t1.sl.v1049 arg2 arg3 arg6 X2 X3 k = score (arg3.view.read (Elt F) X3) (arg2.view.read (Elt F) X2) 1 12 (tile k) := by
  refine (readCov_pair arg6.view 1 0 (by decide) _ _ _ _ _ _ _ _).trans ?_
  exact score_of (readAt_kChunk 1 12 _ rfl) (readAt_qTile 1 (tile k) _ (off10_now k 5 (by decide)))

theorem colMax_h1_c12 : trip_k0_t1.sl.v1051 arg2 arg3 arg7 X2 X3 k = colMax (arg3.view.read (Elt F) X3) (arg2.view.read (Elt F) X2) 1 12 (tile k) := by
  refine (readCov_maxPair arg7.view 1 0 (by decide) _ _ _ _ _ _ _ _).trans ?_
  have e := colMax_of (readAt_kChunk (arg3 := arg3) (X := X3) 1 12 (kIn 1 12 (by decide) (by decide)) rfl)
    (readAt_qTile (arg2 := arg2) (X := X2) 1 (tile k) (qIn_of (h := 1) (q := tile k) (off10_now k 5 (by decide))) (off10_now k 5 (by decide)))
  exact e

theorem score_h0_c13 : trip_k0_t1.sl.v1112 arg2 arg3 arg6 X2 X3 k = score (arg3.view.read (Elt F) X3) (arg2.view.read (Elt F) X2) 0 13 (tile k) := by
  refine (readCov_pair0 arg6.view 0 1 (by decide) _ _ _ _ _ _ _ _ _ _).trans ?_
  exact score_of (readAt_kChunk 0 13 _ rfl) (readAt_qTile 0 (tile k) _ (k0_off2_eq k))

theorem colMax_h0_c13 : trip_k0_t1.sl.v1114 arg2 arg3 arg7 X2 X3 k = colMax (arg3.view.read (Elt F) X3) (arg2.view.read (Elt F) X2) 0 13 (tile k) := by
  refine (readCov_maxPair0 arg7.view 0 1 (by decide) _ _ _ _ _ _ _ _ _ _).trans ?_
  have e := colMax_of (readAt_kChunk (arg3 := arg3) (X := X3) 0 13 (kIn 0 13 (by decide) (by decide)) rfl)
    (readAt_qTile (arg2 := arg2) (X := X2) 0 (tile k) (qIn_of (h := 0) (q := tile k) (k0_off2_eq k)) (k0_off2_eq k))
  exact e

theorem score_h1_c13 : trip_k0_t1.sl.v1131 arg2 arg3 arg6 X2 X3 k = score (arg3.view.read (Elt F) X3) (arg2.view.read (Elt F) X2) 1 13 (tile k) := by
  refine (readCov_pair arg6.view 0 1 (by decide) _ _ _ _ _ _ _ _).trans ?_
  exact score_of (readAt_kChunk 1 13 _ rfl) (readAt_qTile 1 (tile k) _ (k0_off4_eq k))

theorem colMax_h1_c13 : trip_k0_t1.sl.v1133 arg2 arg3 arg7 X2 X3 k = colMax (arg3.view.read (Elt F) X3) (arg2.view.read (Elt F) X2) 1 13 (tile k) := by
  refine (readCov_maxPair arg7.view 0 1 (by decide) _ _ _ _ _ _ _ _).trans ?_
  have e := colMax_of (readAt_kChunk (arg3 := arg3) (X := X3) 1 13 (kIn 1 13 (by decide) (by decide)) rfl)
    (readAt_qTile (arg2 := arg2) (X := X2) 1 (tile k) (qIn_of (h := 1) (q := tile k) (k0_off4_eq k)) (k0_off4_eq k))
  exact e

theorem score_h0_c14 : trip_k0_t1.sl.v1188 arg2 arg3 arg6 X2 X3 k = score (arg3.view.read (Elt F) X3) (arg2.view.read (Elt F) X2) 0 14 (tile k) := by
  refine (readCov_pair0 arg6.view 1 0 (by decide) _ _ _ _ _ _ _ _ _ _).trans ?_
  exact score_of (readAt_kChunk 0 14 _ rfl) (readAt_qTile 0 (tile k) _ (off8_now k 6 (by decide)))

theorem colMax_h0_c14 : trip_k0_t1.sl.v1190 arg2 arg3 arg7 X2 X3 k = colMax (arg3.view.read (Elt F) X3) (arg2.view.read (Elt F) X2) 0 14 (tile k) := by
  refine (readCov_maxPair0 arg7.view 1 0 (by decide) _ _ _ _ _ _ _ _ _ _).trans ?_
  have e := colMax_of (readAt_kChunk (arg3 := arg3) (X := X3) 0 14 (kIn 0 14 (by decide) (by decide)) rfl)
    (readAt_qTile (arg2 := arg2) (X := X2) 0 (tile k) (qIn_of (h := 0) (q := tile k) (off8_now k 6 (by decide))) (off8_now k 6 (by decide)))
  exact e

theorem score_h1_c14 : trip_k0_t1.sl.v1207 arg2 arg3 arg6 X2 X3 k = score (arg3.view.read (Elt F) X3) (arg2.view.read (Elt F) X2) 1 14 (tile k) := by
  refine (readCov_pair arg6.view 1 0 (by decide) _ _ _ _ _ _ _ _).trans ?_
  exact score_of (readAt_kChunk 1 14 _ rfl) (readAt_qTile 1 (tile k) _ (off10_now k 6 (by decide)))

theorem colMax_h1_c14 : trip_k0_t1.sl.v1209 arg2 arg3 arg7 X2 X3 k = colMax (arg3.view.read (Elt F) X3) (arg2.view.read (Elt F) X2) 1 14 (tile k) := by
  refine (readCov_maxPair arg7.view 1 0 (by decide) _ _ _ _ _ _ _ _).trans ?_
  have e := colMax_of (readAt_kChunk (arg3 := arg3) (X := X3) 1 14 (kIn 1 14 (by decide) (by decide)) rfl)
    (readAt_qTile (arg2 := arg2) (X := X2) 1 (tile k) (qIn_of (h := 1) (q := tile k) (off10_now k 6 (by decide))) (off10_now k 6 (by decide)))
  exact e

theorem score_h0_c15 : trip_k0_t1.sl.v1270 arg2 arg3 arg6 X2 X3 k = score (arg3.view.read (Elt F) X3) (arg2.view.read (Elt F) X2) 0 15 (tile k) := by
  refine (readCov_pair0 arg6.view 0 1 (by decide) _ _ _ _ _ _ _ _ _ _).trans ?_
  exact score_of (readAt_kChunk 0 15 _ rfl) (readAt_qTile 0 (tile k) _ (k0_off2_eq k))

theorem colMax_h0_c15 : trip_k0_t1.sl.v1272 arg2 arg3 arg7 X2 X3 k = colMax (arg3.view.read (Elt F) X3) (arg2.view.read (Elt F) X2) 0 15 (tile k) := by
  refine (readCov_maxPair0 arg7.view 0 1 (by decide) _ _ _ _ _ _ _ _ _ _).trans ?_
  have e := colMax_of (readAt_kChunk (arg3 := arg3) (X := X3) 0 15 (kIn 0 15 (by decide) (by decide)) rfl)
    (readAt_qTile (arg2 := arg2) (X := X2) 0 (tile k) (qIn_of (h := 0) (q := tile k) (k0_off2_eq k)) (k0_off2_eq k))
  exact e

theorem score_h1_c15 : trip_k0_t1.sl.v1289 arg2 arg3 arg6 X2 X3 k = score (arg3.view.read (Elt F) X3) (arg2.view.read (Elt F) X2) 1 15 (tile k) := by
  refine (readCov_pair arg6.view 0 1 (by decide) _ _ _ _ _ _ _ _).trans ?_
  exact score_of (readAt_kChunk 1 15 _ rfl) (readAt_qTile 1 (tile k) _ (k0_off4_eq k))

theorem colMax_h1_c15 : trip_k0_t1.sl.v1291 arg2 arg3 arg7 X2 X3 k = colMax (arg3.view.read (Elt F) X3) (arg2.view.read (Elt F) X2) 1 15 (tile k) := by
  refine (readCov_maxPair arg7.view 0 1 (by decide) _ _ _ _ _ _ _ _).trans ?_
  have e := colMax_of (readAt_kChunk (arg3 := arg3) (X := X3) 1 15 (kIn 1 15 (by decide) (by decide)) rfl)
    (readAt_qTile (arg2 := arg2) (X := X2) 1 (tile k) (qIn_of (h := 1) (q := tile k) (k0_off4_eq k)) (k0_off4_eq k))
  exact e

theorem runMax_h0_1 (H01 : trip_k0_t1.sl.v84 arg7 f7 = colMax (arg3.view.read (Elt F) X3) (arg2.view.read (Elt F) X2) 0 0 (tile k)) : trip_k0_t1.sl.r_1 arg7 f7 = runMax (arg3.view.read (Elt F) X3) (arg2.view.read (Elt F) X2) 0 (tile k) 1 (by decide) :=
  maxStep 0 0 (by decide) rfl (H01)

theorem runMax_h0_2 (H01 : trip_k0_t1.sl.v84 arg7 f7 = colMax (arg3.view.read (Elt F) X3) (arg2.view.read (Elt F) X2) 0 0 (tile k)) : trip_k0_t1.sl.r_7 arg2 arg3 arg7 X2 X3 k f7 = runMax (arg3.view.read (Elt F) X3) (arg2.view.read (Elt F) X2) 0 (tile k) 2 (by decide) :=
  maxStep 0 1 (by decide) (runMax_h0_1 arg2 arg3 arg7 X2 X3 f7 k H01) (colMax_h0_c1 arg2 arg3 arg7 X2 X3 k)

theorem runMax_h0_3 (H01 : trip_k0_t1.sl.v84 arg7 f7 = colMax (arg3.view.read (Elt F) X3) (arg2.view.read (Elt F) X2) 0 0 (tile k)) : trip_k0_t1.sl.r_12 arg2 arg3 arg7 X2 X3 k f7 = runMax (arg3.view.read (Elt F) X3) (arg2.view.read (Elt F) X2) 0 (tile k) 3 (by decide) :=
  maxStep 0 2 (by decide) (runMax_h0_2 arg2 arg3 arg7 X2 X3 f7 k H01) (colMax_h0_c2 arg2 arg3 arg7 X2 X3 k)

theorem runMax_h0_4 (H01 : trip_k0_t1.sl.v84 arg7 f7 = colMax (arg3.view.read (Elt F) X3) (arg2.view.read (Elt F) X2) 0 0 (tile k)) : trip_k0_t1.sl.r_19 arg2 arg3 arg7 X2 X3 k f7 = runMax (arg3.view.read (Elt F) X3) (arg2.view.read (Elt F) X2) 0 (tile k) 4 (by decide) :=
  maxStep 0 3 (by decide) (runMax_h0_3 arg2 arg3 arg7 X2 X3 f7 k H01) (colMax_h0_c3 arg2 arg3 arg7 X2 X3 k)

theorem runMax_h0_5 (H01 : trip_k0_t1.sl.v84 arg7 f7 = colMax (arg3.view.read (Elt F) X3) (arg2.view.read (Elt F) X2) 0 0 (tile k)) : trip_k0_t1.sl.r_24 arg2 arg3 arg7 X2 X3 k f7 = runMax (arg3.view.read (Elt F) X3) (arg2.view.read (Elt F) X2) 0 (tile k) 5 (by decide) :=
  maxStep 0 4 (by decide) (runMax_h0_4 arg2 arg3 arg7 X2 X3 f7 k H01) (colMax_h0_c4 arg2 arg3 arg7 X2 X3 k)

theorem runMax_h0_6 (H01 : trip_k0_t1.sl.v84 arg7 f7 = colMax (arg3.view.read (Elt F) X3) (arg2.view.read (Elt F) X2) 0 0 (tile k)) : trip_k0_t1.sl.r_31 arg2 arg3 arg7 X2 X3 k f7 = runMax (arg3.view.read (Elt F) X3) (arg2.view.read (Elt F) X2) 0 (tile k) 6 (by decide) :=
  maxStep 0 5 (by decide) (runMax_h0_5 arg2 arg3 arg7 X2 X3 f7 k H01) (colMax_h0_c5 arg2 arg3 arg7 X2 X3 k)

theorem runMax_h0_7 (H01 : trip_k0_t1.sl.v84 arg7 f7 = colMax (arg3.view.read (Elt F) X3) (arg2.view.read (Elt F) X2) 0 0 (tile k)) : trip_k0_t1.sl.r_38 arg2 arg3 arg7 X2 X3 k f7 = runMax (arg3.view.read (Elt F) X3) (arg2.view.read (Elt F) X2) 0 (tile k) 7 (by decide) :=
  maxStep 0 6 (by decide) (runMax_h0_6 arg2 arg3 arg7 X2 X3 f7 k H01) (colMax_h0_c6 arg2 arg3 arg7 X2 X3 k)

theorem runMax_h0_8 (H01 : trip_k0_t1.sl.v84 arg7 f7 = colMax (arg3.view.read (Elt F) X3) (arg2.view.read (Elt F) X2) 0 0 (tile k)) : trip_k0_t1.sl.r_43 arg2 arg3 arg7 X2 X3 k f7 = runMax (arg3.view.read (Elt F) X3) (arg2.view.read (Elt F) X2) 0 (tile k) 8 (by decide) :=
  maxStep 0 7 (by decide) (runMax_h0_7 arg2 arg3 arg7 X2 X3 f7 k H01) (colMax_h0_c7 arg2 arg3 arg7 X2 X3 k)

theorem runMax_h0_9 (H01 : trip_k0_t1.sl.v84 arg7 f7 = colMax (arg3.view.read (Elt F) X3) (arg2.view.read (Elt F) X2) 0 0 (tile k)) : trip_k0_t1.sl.r_49 arg2 arg3 arg7 X2 X3 k f7 = runMax (arg3.view.read (Elt F) X3) (arg2.view.read (Elt F) X2) 0 (tile k) 9 (by decide) :=
  maxStep 0 8 (by decide) (runMax_h0_8 arg2 arg3 arg7 X2 X3 f7 k H01) (colMax_h0_c8 arg2 arg3 arg7 X2 X3 k)

theorem runMax_h0_10 (H01 : trip_k0_t1.sl.v84 arg7 f7 = colMax (arg3.view.read (Elt F) X3) (arg2.view.read (Elt F) X2) 0 0 (tile k)) : trip_k0_t1.sl.r_54 arg2 arg3 arg7 X2 X3 k f7 = runMax (arg3.view.read (Elt F) X3) (arg2.view.read (Elt F) X2) 0 (tile k) 10 (by decide) :=
  maxStep 0 9 (by decide) (runMax_h0_9 arg2 arg3 arg7 X2 X3 f7 k H01) (colMax_h0_c9 arg2 arg3 arg7 X2 X3 k)

theorem runMax_h0_11 (H01 : trip_k0_t1.sl.v84 arg7 f7 = colMax (arg3.view.read (Elt F) X3) (arg2.view.read (Elt F) X2) 0 0 (tile k)) : trip_k0_t1.sl.r_60 arg2 arg3 arg7 X2 X3 k f7 = runMax (arg3.view.read (Elt F) X3) (arg2.view.read (Elt F) X2) 0 (tile k) 11 (by decide) :=
  maxStep 0 10 (by decide) (runMax_h0_10 arg2 arg3 arg7 X2 X3 f7 k H01) (colMax_h0_c10 arg2 arg3 arg7 X2 X3 k)

theorem runMax_h0_12 (H01 : trip_k0_t1.sl.v84 arg7 f7 = colMax (arg3.view.read (Elt F) X3) (arg2.view.read (Elt F) X2) 0 0 (tile k)) : trip_k0_t1.sl.r_67 arg2 arg3 arg7 X2 X3 k f7 = runMax (arg3.view.read (Elt F) X3) (arg2.view.read (Elt F) X2) 0 (tile k) 12 (by decide) :=
  maxStep 0 11 (by decide) (runMax_h0_11 arg2 arg3 arg7 X2 X3 f7 k H01) (colMax_h0_c11 arg2 arg3 arg7 X2 X3 k)

theorem runMax_h0_13 (H01 : trip_k0_t1.sl.v84 arg7 f7 = colMax (arg3.view.read (Elt F) X3) (arg2.view.read (Elt F) X2) 0 0 (tile k)) : trip_k0_t1.sl.r_74 arg2 arg3 arg7 X2 X3 k f7 = runMax (arg3.view.read (Elt F) X3) (arg2.view.read (Elt F) X2) 0 (tile k) 13 (by decide) :=
  maxStep 0 12 (by decide) (runMax_h0_12 arg2 arg3 arg7 X2 X3 f7 k H01) (colMax_h0_c12 arg2 arg3 arg7 X2 X3 k)

theorem runMax_h0_14 (H01 : trip_k0_t1.sl.v84 arg7 f7 = colMax (arg3.view.read (Elt F) X3) (arg2.view.read (Elt F) X2) 0 0 (tile k)) : trip_k0_t1.sl.r_80 arg2 arg3 arg7 X2 X3 k f7 = runMax (arg3.view.read (Elt F) X3) (arg2.view.read (Elt F) X2) 0 (tile k) 14 (by decide) :=
  maxStep 0 13 (by decide) (runMax_h0_13 arg2 arg3 arg7 X2 X3 f7 k H01) (colMax_h0_c13 arg2 arg3 arg7 X2 X3 k)

theorem runMax_h0_15 (H01 : trip_k0_t1.sl.v84 arg7 f7 = colMax (arg3.view.read (Elt F) X3) (arg2.view.read (Elt F) X2) 0 0 (tile k)) : trip_k0_t1.sl.r_85 arg2 arg3 arg7 X2 X3 k f7 = runMax (arg3.view.read (Elt F) X3) (arg2.view.read (Elt F) X2) 0 (tile k) 15 (by decide) :=
  maxStep 0 14 (by decide) (runMax_h0_14 arg2 arg3 arg7 X2 X3 f7 k H01) (colMax_h0_c14 arg2 arg3 arg7 X2 X3 k)

theorem runAcc_h0_1 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_2 arg4 arg6 arg7 k0_pay194 X4 f6 f7 = runAcc (arg3.view.read (Elt F) X3) (arg2.view.read (Elt F) X2) (arg4.view.read (Elt F) X4) 0 (tile k) 1 (by decide) := by
  exact accStep 0 0 (by decide) rfl rfl H00 H01 (readAt_vChunk 0 0 _ rfl)

theorem runAcc_h0_2 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_8 arg2 arg3 arg4 arg6 arg7 k0_pay194 X2 X3 X4 k f6 f7 = runAcc (arg3.view.read (Elt F) X3) (arg2.view.read (Elt F) X2) (arg4.view.read (Elt F) X4) 0 (tile k) 2 (by decide) := by
  exact accStep 0 1 (by decide) (runMax_h0_1 arg2 arg3 arg7 X2 X3 f7 k H01) (runAcc_h0_1 arg2 arg3 arg4 arg6 arg7 X2 X3 X4 f6 f7 k H00 H01) (score_h0_c1 arg2 arg3 arg6 X2 X3 k) (colMax_h0_c1 arg2 arg3 arg7 X2 X3 k) (readAt_vChunk 0 1 _ rfl)

theorem runAcc_h0_3 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_13 arg2 arg3 arg4 arg6 arg7 k0_pay194 X2 X3 X4 k f6 f7 = runAcc (arg3.view.read (Elt F) X3) (arg2.view.read (Elt F) X2) (arg4.view.read (Elt F) X4) 0 (tile k) 3 (by decide) := by
  exact accStep 0 2 (by decide) (runMax_h0_2 arg2 arg3 arg7 X2 X3 f7 k H01) (runAcc_h0_2 arg2 arg3 arg4 arg6 arg7 X2 X3 X4 f6 f7 k H00 H01) (score_h0_c2 arg2 arg3 arg6 X2 X3 k) (colMax_h0_c2 arg2 arg3 arg7 X2 X3 k) (readAt_vChunk 0 2 _ rfl)

theorem runAcc_h0_4 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_20 arg2 arg3 arg4 arg6 arg7 k0_pay194 X2 X3 X4 k f6 f7 = runAcc (arg3.view.read (Elt F) X3) (arg2.view.read (Elt F) X2) (arg4.view.read (Elt F) X4) 0 (tile k) 4 (by decide) := by
  exact accStep 0 3 (by decide) (runMax_h0_3 arg2 arg3 arg7 X2 X3 f7 k H01) (runAcc_h0_3 arg2 arg3 arg4 arg6 arg7 X2 X3 X4 f6 f7 k H00 H01) (score_h0_c3 arg2 arg3 arg6 X2 X3 k) (colMax_h0_c3 arg2 arg3 arg7 X2 X3 k) (readAt_vChunk 0 3 _ rfl)

theorem runAcc_h0_5 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_25 arg2 arg3 arg4 arg6 arg7 k0_pay194 X2 X3 X4 k f6 f7 = runAcc (arg3.view.read (Elt F) X3) (arg2.view.read (Elt F) X2) (arg4.view.read (Elt F) X4) 0 (tile k) 5 (by decide) := by
  exact accStep 0 4 (by decide) (runMax_h0_4 arg2 arg3 arg7 X2 X3 f7 k H01) (runAcc_h0_4 arg2 arg3 arg4 arg6 arg7 X2 X3 X4 f6 f7 k H00 H01) (score_h0_c4 arg2 arg3 arg6 X2 X3 k) (colMax_h0_c4 arg2 arg3 arg7 X2 X3 k) (readAt_vChunk 0 4 _ rfl)

theorem runAcc_h0_6 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_34 arg2 arg3 arg4 arg6 arg7 k0_pay194 X2 X3 X4 k f6 f7 = runAcc (arg3.view.read (Elt F) X3) (arg2.view.read (Elt F) X2) (arg4.view.read (Elt F) X4) 0 (tile k) 6 (by decide) := by
  exact accStep 0 5 (by decide) (runMax_h0_5 arg2 arg3 arg7 X2 X3 f7 k H01) (runAcc_h0_5 arg2 arg3 arg4 arg6 arg7 X2 X3 X4 f6 f7 k H00 H01) (score_h0_c5 arg2 arg3 arg6 X2 X3 k) (colMax_h0_c5 arg2 arg3 arg7 X2 X3 k) (readAt_vChunk 0 5 _ rfl)

theorem runAcc_h0_7 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_39 arg2 arg3 arg4 arg6 arg7 k0_pay194 X2 X3 X4 k f6 f7 = runAcc (arg3.view.read (Elt F) X3) (arg2.view.read (Elt F) X2) (arg4.view.read (Elt F) X4) 0 (tile k) 7 (by decide) := by
  exact accStep 0 6 (by decide) (runMax_h0_6 arg2 arg3 arg7 X2 X3 f7 k H01) (runAcc_h0_6 arg2 arg3 arg4 arg6 arg7 X2 X3 X4 f6 f7 k H00 H01) (score_h0_c6 arg2 arg3 arg6 X2 X3 k) (colMax_h0_c6 arg2 arg3 arg7 X2 X3 k) (readAt_vChunk 0 6 _ rfl)

theorem runAcc_h0_8 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_44 arg2 arg3 arg4 arg6 arg7 k0_pay194 X2 X3 X4 k f6 f7 = runAcc (arg3.view.read (Elt F) X3) (arg2.view.read (Elt F) X2) (arg4.view.read (Elt F) X4) 0 (tile k) 8 (by decide) := by
  exact accStep 0 7 (by decide) (runMax_h0_7 arg2 arg3 arg7 X2 X3 f7 k H01) (runAcc_h0_7 arg2 arg3 arg4 arg6 arg7 X2 X3 X4 f6 f7 k H00 H01) (score_h0_c7 arg2 arg3 arg6 X2 X3 k) (colMax_h0_c7 arg2 arg3 arg7 X2 X3 k) (readAt_vChunk 0 7 _ rfl)

theorem runAcc_h0_9 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_50 arg2 arg3 arg4 arg6 arg7 k0_pay194 X2 X3 X4 k f6 f7 = runAcc (arg3.view.read (Elt F) X3) (arg2.view.read (Elt F) X2) (arg4.view.read (Elt F) X4) 0 (tile k) 9 (by decide) := by
  exact accStep 0 8 (by decide) (runMax_h0_8 arg2 arg3 arg7 X2 X3 f7 k H01) (runAcc_h0_8 arg2 arg3 arg4 arg6 arg7 X2 X3 X4 f6 f7 k H00 H01) (score_h0_c8 arg2 arg3 arg6 X2 X3 k) (colMax_h0_c8 arg2 arg3 arg7 X2 X3 k) (readAt_vChunk 0 8 _ rfl)

theorem runAcc_h0_10 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_55 arg2 arg3 arg4 arg6 arg7 k0_pay194 X2 X3 X4 k f6 f7 = runAcc (arg3.view.read (Elt F) X3) (arg2.view.read (Elt F) X2) (arg4.view.read (Elt F) X4) 0 (tile k) 10 (by decide) := by
  exact accStep 0 9 (by decide) (runMax_h0_9 arg2 arg3 arg7 X2 X3 f7 k H01) (runAcc_h0_9 arg2 arg3 arg4 arg6 arg7 X2 X3 X4 f6 f7 k H00 H01) (score_h0_c9 arg2 arg3 arg6 X2 X3 k) (colMax_h0_c9 arg2 arg3 arg7 X2 X3 k) (readAt_vChunk 0 9 _ rfl)

theorem runAcc_h0_11 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_63 arg2 arg3 arg4 arg6 arg7 k0_pay194 X2 X3 X4 k f6 f7 = runAcc (arg3.view.read (Elt F) X3) (arg2.view.read (Elt F) X2) (arg4.view.read (Elt F) X4) 0 (tile k) 11 (by decide) := by
  exact accStep 0 10 (by decide) (runMax_h0_10 arg2 arg3 arg7 X2 X3 f7 k H01) (runAcc_h0_10 arg2 arg3 arg4 arg6 arg7 X2 X3 X4 f6 f7 k H00 H01) (score_h0_c10 arg2 arg3 arg6 X2 X3 k) (colMax_h0_c10 arg2 arg3 arg7 X2 X3 k) (readAt_vChunk 0 10 _ rfl)

theorem runAcc_h0_12 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_68 arg2 arg3 arg4 arg6 arg7 k0_pay194 X2 X3 X4 k f6 f7 = runAcc (arg3.view.read (Elt F) X3) (arg2.view.read (Elt F) X2) (arg4.view.read (Elt F) X4) 0 (tile k) 12 (by decide) := by
  exact accStep 0 11 (by decide) (runMax_h0_11 arg2 arg3 arg7 X2 X3 f7 k H01) (runAcc_h0_11 arg2 arg3 arg4 arg6 arg7 X2 X3 X4 f6 f7 k H00 H01) (score_h0_c11 arg2 arg3 arg6 X2 X3 k) (colMax_h0_c11 arg2 arg3 arg7 X2 X3 k) (readAt_vChunk 0 11 _ rfl)

theorem runAcc_h0_13 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_75 arg2 arg3 arg4 arg6 arg7 k0_pay194 X2 X3 X4 k f6 f7 = runAcc (arg3.view.read (Elt F) X3) (arg2.view.read (Elt F) X2) (arg4.view.read (Elt F) X4) 0 (tile k) 13 (by decide) := by
  exact accStep 0 12 (by decide) (runMax_h0_12 arg2 arg3 arg7 X2 X3 f7 k H01) (runAcc_h0_12 arg2 arg3 arg4 arg6 arg7 X2 X3 X4 f6 f7 k H00 H01) (score_h0_c12 arg2 arg3 arg6 X2 X3 k) (colMax_h0_c12 arg2 arg3 arg7 X2 X3 k) (readAt_vChunk 0 12 _ rfl)

theorem runAcc_h0_14 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_81 arg2 arg3 arg4 arg6 arg7 k0_pay194 X2 X3 X4 k f6 f7 = runAcc (arg3.view.read (Elt F) X3) (arg2.view.read (Elt F) X2) (arg4.view.read (Elt F) X4) 0 (tile k) 14 (by decide) := by
  exact accStep 0 13 (by decide) (runMax_h0_13 arg2 arg3 arg7 X2 X3 f7 k H01) (runAcc_h0_13 arg2 arg3 arg4 arg6 arg7 X2 X3 X4 f6 f7 k H00 H01) (score_h0_c13 arg2 arg3 arg6 X2 X3 k) (colMax_h0_c13 arg2 arg3 arg7 X2 X3 k) (readAt_vChunk 0 13 _ rfl)

theorem runAcc_h0_15 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_86 arg2 arg3 arg4 arg6 arg7 k0_pay194 X2 X3 X4 k f6 f7 = runAcc (arg3.view.read (Elt F) X3) (arg2.view.read (Elt F) X2) (arg4.view.read (Elt F) X4) 0 (tile k) 15 (by decide) := by
  exact accStep 0 14 (by decide) (runMax_h0_14 arg2 arg3 arg7 X2 X3 f7 k H01) (runAcc_h0_14 arg2 arg3 arg4 arg6 arg7 X2 X3 X4 f6 f7 k H00 H01) (score_h0_c14 arg2 arg3 arg6 X2 X3 k) (colMax_h0_c14 arg2 arg3 arg7 X2 X3 k) (readAt_vChunk 0 14 _ rfl)

theorem runMax_h1_1 (H11 : trip_k0_t1.sl.v103 arg7 f7 = colMax (arg3.view.read (Elt F) X3) (arg2.view.read (Elt F) X2) 1 0 (tile k)) : trip_k0_t1.sl.r_3 arg7 f7 = runMax (arg3.view.read (Elt F) X3) (arg2.view.read (Elt F) X2) 1 (tile k) 1 (by decide) :=
  maxStep 1 0 (by decide) rfl (H11)

theorem runMax_h1_2 (H11 : trip_k0_t1.sl.v103 arg7 f7 = colMax (arg3.view.read (Elt F) X3) (arg2.view.read (Elt F) X2) 1 0 (tile k)) : trip_k0_t1.sl.r_9 arg2 arg3 arg7 X2 X3 k f7 = runMax (arg3.view.read (Elt F) X3) (arg2.view.read (Elt F) X2) 1 (tile k) 2 (by decide) :=
  maxStep 1 1 (by decide) (runMax_h1_1 arg2 arg3 arg7 X2 X3 f7 k H11) (colMax_h1_c1 arg2 arg3 arg7 X2 X3 k)

theorem runMax_h1_3 (H11 : trip_k0_t1.sl.v103 arg7 f7 = colMax (arg3.view.read (Elt F) X3) (arg2.view.read (Elt F) X2) 1 0 (tile k)) : trip_k0_t1.sl.r_15 arg2 arg3 arg7 X2 X3 k f7 = runMax (arg3.view.read (Elt F) X3) (arg2.view.read (Elt F) X2) 1 (tile k) 3 (by decide) :=
  maxStep 1 2 (by decide) (runMax_h1_2 arg2 arg3 arg7 X2 X3 f7 k H11) (colMax_h1_c2 arg2 arg3 arg7 X2 X3 k)

theorem runMax_h1_4 (H11 : trip_k0_t1.sl.v103 arg7 f7 = colMax (arg3.view.read (Elt F) X3) (arg2.view.read (Elt F) X2) 1 0 (tile k)) : trip_k0_t1.sl.r_21 arg2 arg3 arg7 X2 X3 k f7 = runMax (arg3.view.read (Elt F) X3) (arg2.view.read (Elt F) X2) 1 (tile k) 4 (by decide) :=
  maxStep 1 3 (by decide) (runMax_h1_3 arg2 arg3 arg7 X2 X3 f7 k H11) (colMax_h1_c3 arg2 arg3 arg7 X2 X3 k)

theorem runMax_h1_5 (H11 : trip_k0_t1.sl.v103 arg7 f7 = colMax (arg3.view.read (Elt F) X3) (arg2.view.read (Elt F) X2) 1 0 (tile k)) : trip_k0_t1.sl.r_26 arg2 arg3 arg7 X2 X3 k f7 = runMax (arg3.view.read (Elt F) X3) (arg2.view.read (Elt F) X2) 1 (tile k) 5 (by decide) :=
  maxStep 1 4 (by decide) (runMax_h1_4 arg2 arg3 arg7 X2 X3 f7 k H11) (colMax_h1_c4 arg2 arg3 arg7 X2 X3 k)

theorem runMax_h1_6 (H11 : trip_k0_t1.sl.v103 arg7 f7 = colMax (arg3.view.read (Elt F) X3) (arg2.view.read (Elt F) X2) 1 0 (tile k)) : trip_k0_t1.sl.r_35 arg2 arg3 arg7 X2 X3 k f7 = runMax (arg3.view.read (Elt F) X3) (arg2.view.read (Elt F) X2) 1 (tile k) 6 (by decide) :=
  maxStep 1 5 (by decide) (runMax_h1_5 arg2 arg3 arg7 X2 X3 f7 k H11) (colMax_h1_c5 arg2 arg3 arg7 X2 X3 k)

theorem runMax_h1_7 (H11 : trip_k0_t1.sl.v103 arg7 f7 = colMax (arg3.view.read (Elt F) X3) (arg2.view.read (Elt F) X2) 1 0 (tile k)) : trip_k0_t1.sl.r_40 arg2 arg3 arg7 X2 X3 k f7 = runMax (arg3.view.read (Elt F) X3) (arg2.view.read (Elt F) X2) 1 (tile k) 7 (by decide) :=
  maxStep 1 6 (by decide) (runMax_h1_6 arg2 arg3 arg7 X2 X3 f7 k H11) (colMax_h1_c6 arg2 arg3 arg7 X2 X3 k)

theorem runMax_h1_8 (H11 : trip_k0_t1.sl.v103 arg7 f7 = colMax (arg3.view.read (Elt F) X3) (arg2.view.read (Elt F) X2) 1 0 (tile k)) : trip_k0_t1.sl.r_45 arg2 arg3 arg7 X2 X3 k f7 = runMax (arg3.view.read (Elt F) X3) (arg2.view.read (Elt F) X2) 1 (tile k) 8 (by decide) :=
  maxStep 1 7 (by decide) (runMax_h1_7 arg2 arg3 arg7 X2 X3 f7 k H11) (colMax_h1_c7 arg2 arg3 arg7 X2 X3 k)

theorem runMax_h1_9 (H11 : trip_k0_t1.sl.v103 arg7 f7 = colMax (arg3.view.read (Elt F) X3) (arg2.view.read (Elt F) X2) 1 0 (tile k)) : trip_k0_t1.sl.r_51 arg2 arg3 arg7 X2 X3 k f7 = runMax (arg3.view.read (Elt F) X3) (arg2.view.read (Elt F) X2) 1 (tile k) 9 (by decide) :=
  maxStep 1 8 (by decide) (runMax_h1_8 arg2 arg3 arg7 X2 X3 f7 k H11) (colMax_h1_c8 arg2 arg3 arg7 X2 X3 k)

theorem runMax_h1_10 (H11 : trip_k0_t1.sl.v103 arg7 f7 = colMax (arg3.view.read (Elt F) X3) (arg2.view.read (Elt F) X2) 1 0 (tile k)) : trip_k0_t1.sl.r_57 arg2 arg3 arg7 X2 X3 k f7 = runMax (arg3.view.read (Elt F) X3) (arg2.view.read (Elt F) X2) 1 (tile k) 10 (by decide) :=
  maxStep 1 9 (by decide) (runMax_h1_9 arg2 arg3 arg7 X2 X3 f7 k H11) (colMax_h1_c9 arg2 arg3 arg7 X2 X3 k)

theorem runMax_h1_11 (H11 : trip_k0_t1.sl.v103 arg7 f7 = colMax (arg3.view.read (Elt F) X3) (arg2.view.read (Elt F) X2) 1 0 (tile k)) : trip_k0_t1.sl.r_64 arg2 arg3 arg7 X2 X3 k f7 = runMax (arg3.view.read (Elt F) X3) (arg2.view.read (Elt F) X2) 1 (tile k) 11 (by decide) :=
  maxStep 1 10 (by decide) (runMax_h1_10 arg2 arg3 arg7 X2 X3 f7 k H11) (colMax_h1_c10 arg2 arg3 arg7 X2 X3 k)

theorem runMax_h1_12 (H11 : trip_k0_t1.sl.v103 arg7 f7 = colMax (arg3.view.read (Elt F) X3) (arg2.view.read (Elt F) X2) 1 0 (tile k)) : trip_k0_t1.sl.r_69 arg2 arg3 arg7 X2 X3 k f7 = runMax (arg3.view.read (Elt F) X3) (arg2.view.read (Elt F) X2) 1 (tile k) 12 (by decide) :=
  maxStep 1 11 (by decide) (runMax_h1_11 arg2 arg3 arg7 X2 X3 f7 k H11) (colMax_h1_c11 arg2 arg3 arg7 X2 X3 k)

theorem runMax_h1_13 (H11 : trip_k0_t1.sl.v103 arg7 f7 = colMax (arg3.view.read (Elt F) X3) (arg2.view.read (Elt F) X2) 1 0 (tile k)) : trip_k0_t1.sl.r_76 arg2 arg3 arg7 X2 X3 k f7 = runMax (arg3.view.read (Elt F) X3) (arg2.view.read (Elt F) X2) 1 (tile k) 13 (by decide) :=
  maxStep 1 12 (by decide) (runMax_h1_12 arg2 arg3 arg7 X2 X3 f7 k H11) (colMax_h1_c12 arg2 arg3 arg7 X2 X3 k)

theorem runMax_h1_14 (H11 : trip_k0_t1.sl.v103 arg7 f7 = colMax (arg3.view.read (Elt F) X3) (arg2.view.read (Elt F) X2) 1 0 (tile k)) : trip_k0_t1.sl.r_82 arg2 arg3 arg7 X2 X3 k f7 = runMax (arg3.view.read (Elt F) X3) (arg2.view.read (Elt F) X2) 1 (tile k) 14 (by decide) :=
  maxStep 1 13 (by decide) (runMax_h1_13 arg2 arg3 arg7 X2 X3 f7 k H11) (colMax_h1_c13 arg2 arg3 arg7 X2 X3 k)

theorem runMax_h1_15 (H11 : trip_k0_t1.sl.v103 arg7 f7 = colMax (arg3.view.read (Elt F) X3) (arg2.view.read (Elt F) X2) 1 0 (tile k)) : trip_k0_t1.sl.r_88 arg2 arg3 arg7 X2 X3 k f7 = runMax (arg3.view.read (Elt F) X3) (arg2.view.read (Elt F) X2) 1 (tile k) 15 (by decide) :=
  maxStep 1 14 (by decide) (runMax_h1_14 arg2 arg3 arg7 X2 X3 f7 k H11) (colMax_h1_c14 arg2 arg3 arg7 X2 X3 k)

theorem runAcc_h1_1 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_4 arg4 arg6 arg7 k0_pay194 X4 f6 f7 = runAcc (arg3.view.read (Elt F) X3) (arg2.view.read (Elt F) X2) (arg4.view.read (Elt F) X4) 1 (tile k) 1 (by decide) := by
  exact accStep 1 0 (by decide) rfl rfl H10 H11 (readAt_vChunk 1 0 _ rfl)

theorem runAcc_h1_2 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_10 arg2 arg3 arg4 arg6 arg7 k0_pay194 X2 X3 X4 k f6 f7 = runAcc (arg3.view.read (Elt F) X3) (arg2.view.read (Elt F) X2) (arg4.view.read (Elt F) X4) 1 (tile k) 2 (by decide) := by
  exact accStep 1 1 (by decide) (runMax_h1_1 arg2 arg3 arg7 X2 X3 f7 k H11) (runAcc_h1_1 arg2 arg3 arg4 arg6 arg7 X2 X3 X4 f6 f7 k H10 H11) (score_h1_c1 arg2 arg3 arg6 X2 X3 k) (colMax_h1_c1 arg2 arg3 arg7 X2 X3 k) (readAt_vChunk 1 1 _ rfl)

theorem runAcc_h1_3 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_16 arg2 arg3 arg4 arg6 arg7 k0_pay194 X2 X3 X4 k f6 f7 = runAcc (arg3.view.read (Elt F) X3) (arg2.view.read (Elt F) X2) (arg4.view.read (Elt F) X4) 1 (tile k) 3 (by decide) := by
  exact accStep 1 2 (by decide) (runMax_h1_2 arg2 arg3 arg7 X2 X3 f7 k H11) (runAcc_h1_2 arg2 arg3 arg4 arg6 arg7 X2 X3 X4 f6 f7 k H10 H11) (score_h1_c2 arg2 arg3 arg6 X2 X3 k) (colMax_h1_c2 arg2 arg3 arg7 X2 X3 k) (readAt_vChunk 1 2 _ rfl)

theorem runAcc_h1_4 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_22 arg2 arg3 arg4 arg6 arg7 k0_pay194 X2 X3 X4 k f6 f7 = runAcc (arg3.view.read (Elt F) X3) (arg2.view.read (Elt F) X2) (arg4.view.read (Elt F) X4) 1 (tile k) 4 (by decide) := by
  exact accStep 1 3 (by decide) (runMax_h1_3 arg2 arg3 arg7 X2 X3 f7 k H11) (runAcc_h1_3 arg2 arg3 arg4 arg6 arg7 X2 X3 X4 f6 f7 k H10 H11) (score_h1_c3 arg2 arg3 arg6 X2 X3 k) (colMax_h1_c3 arg2 arg3 arg7 X2 X3 k) (readAt_vChunk 1 3 _ rfl)

theorem runAcc_h1_5 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_29 arg2 arg3 arg4 arg6 arg7 k0_pay194 X2 X3 X4 k f6 f7 = runAcc (arg3.view.read (Elt F) X3) (arg2.view.read (Elt F) X2) (arg4.view.read (Elt F) X4) 1 (tile k) 5 (by decide) := by
  exact accStep 1 4 (by decide) (runMax_h1_4 arg2 arg3 arg7 X2 X3 f7 k H11) (runAcc_h1_4 arg2 arg3 arg4 arg6 arg7 X2 X3 X4 f6 f7 k H10 H11) (score_h1_c4 arg2 arg3 arg6 X2 X3 k) (colMax_h1_c4 arg2 arg3 arg7 X2 X3 k) (readAt_vChunk 1 4 _ rfl)

theorem runAcc_h1_6 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_36 arg2 arg3 arg4 arg6 arg7 k0_pay194 X2 X3 X4 k f6 f7 = runAcc (arg3.view.read (Elt F) X3) (arg2.view.read (Elt F) X2) (arg4.view.read (Elt F) X4) 1 (tile k) 6 (by decide) := by
  exact accStep 1 5 (by decide) (runMax_h1_5 arg2 arg3 arg7 X2 X3 f7 k H11) (runAcc_h1_5 arg2 arg3 arg4 arg6 arg7 X2 X3 X4 f6 f7 k H10 H11) (score_h1_c5 arg2 arg3 arg6 X2 X3 k) (colMax_h1_c5 arg2 arg3 arg7 X2 X3 k) (readAt_vChunk 1 5 _ rfl)

theorem runAcc_h1_7 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_41 arg2 arg3 arg4 arg6 arg7 k0_pay194 X2 X3 X4 k f6 f7 = runAcc (arg3.view.read (Elt F) X3) (arg2.view.read (Elt F) X2) (arg4.view.read (Elt F) X4) 1 (tile k) 7 (by decide) := by
  exact accStep 1 6 (by decide) (runMax_h1_6 arg2 arg3 arg7 X2 X3 f7 k H11) (runAcc_h1_6 arg2 arg3 arg4 arg6 arg7 X2 X3 X4 f6 f7 k H10 H11) (score_h1_c6 arg2 arg3 arg6 X2 X3 k) (colMax_h1_c6 arg2 arg3 arg7 X2 X3 k) (readAt_vChunk 1 6 _ rfl)

theorem runAcc_h1_8 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_46 arg2 arg3 arg4 arg6 arg7 k0_pay194 X2 X3 X4 k f6 f7 = runAcc (arg3.view.read (Elt F) X3) (arg2.view.read (Elt F) X2) (arg4.view.read (Elt F) X4) 1 (tile k) 8 (by decide) := by
  exact accStep 1 7 (by decide) (runMax_h1_7 arg2 arg3 arg7 X2 X3 f7 k H11) (runAcc_h1_7 arg2 arg3 arg4 arg6 arg7 X2 X3 X4 f6 f7 k H10 H11) (score_h1_c7 arg2 arg3 arg6 X2 X3 k) (colMax_h1_c7 arg2 arg3 arg7 X2 X3 k) (readAt_vChunk 1 7 _ rfl)

theorem runAcc_h1_9 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_52 arg2 arg3 arg4 arg6 arg7 k0_pay194 X2 X3 X4 k f6 f7 = runAcc (arg3.view.read (Elt F) X3) (arg2.view.read (Elt F) X2) (arg4.view.read (Elt F) X4) 1 (tile k) 9 (by decide) := by
  exact accStep 1 8 (by decide) (runMax_h1_8 arg2 arg3 arg7 X2 X3 f7 k H11) (runAcc_h1_8 arg2 arg3 arg4 arg6 arg7 X2 X3 X4 f6 f7 k H10 H11) (score_h1_c8 arg2 arg3 arg6 X2 X3 k) (colMax_h1_c8 arg2 arg3 arg7 X2 X3 k) (readAt_vChunk 1 8 _ rfl)

theorem runAcc_h1_10 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_58 arg2 arg3 arg4 arg6 arg7 k0_pay194 X2 X3 X4 k f6 f7 = runAcc (arg3.view.read (Elt F) X3) (arg2.view.read (Elt F) X2) (arg4.view.read (Elt F) X4) 1 (tile k) 10 (by decide) := by
  exact accStep 1 9 (by decide) (runMax_h1_9 arg2 arg3 arg7 X2 X3 f7 k H11) (runAcc_h1_9 arg2 arg3 arg4 arg6 arg7 X2 X3 X4 f6 f7 k H10 H11) (score_h1_c9 arg2 arg3 arg6 X2 X3 k) (colMax_h1_c9 arg2 arg3 arg7 X2 X3 k) (readAt_vChunk 1 9 _ rfl)

theorem runAcc_h1_11 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_65 arg2 arg3 arg4 arg6 arg7 k0_pay194 X2 X3 X4 k f6 f7 = runAcc (arg3.view.read (Elt F) X3) (arg2.view.read (Elt F) X2) (arg4.view.read (Elt F) X4) 1 (tile k) 11 (by decide) := by
  exact accStep 1 10 (by decide) (runMax_h1_10 arg2 arg3 arg7 X2 X3 f7 k H11) (runAcc_h1_10 arg2 arg3 arg4 arg6 arg7 X2 X3 X4 f6 f7 k H10 H11) (score_h1_c10 arg2 arg3 arg6 X2 X3 k) (colMax_h1_c10 arg2 arg3 arg7 X2 X3 k) (readAt_vChunk 1 10 _ rfl)

theorem runAcc_h1_12 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_72 arg2 arg3 arg4 arg6 arg7 k0_pay194 X2 X3 X4 k f6 f7 = runAcc (arg3.view.read (Elt F) X3) (arg2.view.read (Elt F) X2) (arg4.view.read (Elt F) X4) 1 (tile k) 12 (by decide) := by
  exact accStep 1 11 (by decide) (runMax_h1_11 arg2 arg3 arg7 X2 X3 f7 k H11) (runAcc_h1_11 arg2 arg3 arg4 arg6 arg7 X2 X3 X4 f6 f7 k H10 H11) (score_h1_c11 arg2 arg3 arg6 X2 X3 k) (colMax_h1_c11 arg2 arg3 arg7 X2 X3 k) (readAt_vChunk 1 11 _ rfl)

theorem runAcc_h1_13 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_77 arg2 arg3 arg4 arg6 arg7 k0_pay194 X2 X3 X4 k f6 f7 = runAcc (arg3.view.read (Elt F) X3) (arg2.view.read (Elt F) X2) (arg4.view.read (Elt F) X4) 1 (tile k) 13 (by decide) := by
  exact accStep 1 12 (by decide) (runMax_h1_12 arg2 arg3 arg7 X2 X3 f7 k H11) (runAcc_h1_12 arg2 arg3 arg4 arg6 arg7 X2 X3 X4 f6 f7 k H10 H11) (score_h1_c12 arg2 arg3 arg6 X2 X3 k) (colMax_h1_c12 arg2 arg3 arg7 X2 X3 k) (readAt_vChunk 1 12 _ rfl)

theorem runAcc_h1_14 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_83 arg2 arg3 arg4 arg6 arg7 k0_pay194 X2 X3 X4 k f6 f7 = runAcc (arg3.view.read (Elt F) X3) (arg2.view.read (Elt F) X2) (arg4.view.read (Elt F) X4) 1 (tile k) 14 (by decide) := by
  exact accStep 1 13 (by decide) (runMax_h1_13 arg2 arg3 arg7 X2 X3 f7 k H11) (runAcc_h1_13 arg2 arg3 arg4 arg6 arg7 X2 X3 X4 f6 f7 k H10 H11) (score_h1_c13 arg2 arg3 arg6 X2 X3 k) (colMax_h1_c13 arg2 arg3 arg7 X2 X3 k) (readAt_vChunk 1 13 _ rfl)

theorem runAcc_h1_15 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_89 arg2 arg3 arg4 arg6 arg7 k0_pay194 X2 X3 X4 k f6 f7 = runAcc (arg3.view.read (Elt F) X3) (arg2.view.read (Elt F) X2) (arg4.view.read (Elt F) X4) 1 (tile k) 15 (by decide) := by
  exact accStep 1 14 (by decide) (runMax_h1_14 arg2 arg3 arg7 X2 X3 f7 k H11) (runAcc_h1_14 arg2 arg3 arg4 arg6 arg7 X2 X3 X4 f6 f7 k H10 H11) (score_h1_c14 arg2 arg3 arg6 X2 X3 k) (colMax_h1_c14 arg2 arg3 arg7 X2 X3 k) (readAt_vChunk 1 14 _ rfl)

/-- Head 0's weighted values over their sum, after the last chunk. -/
theorem normed_h0 (H00 : trip_k0_t1.sl.v82 arg6 f6 = score (arg3.view.read (Elt F) X3) (arg2.view.read (Elt F) X2) 0 0 (tile k)) (H01 : trip_k0_t1.sl.v84 arg7 f7 = colMax (arg3.view.read (Elt F) X3) (arg2.view.read (Elt F) X2) 0 0 (tile k)) : trip_k0_t1.sl.r_92 arg2 arg3 arg4 arg6 arg7 k0_pay194 X2 X3 X4 k f6 f7 = normed (runAcc (arg3.view.read (Elt F) X3) (arg2.view.read (Elt F) X2) (arg4.view.read (Elt F) X4) 0 (tile k) 16 le_rfl) := by
  have e := accStep 0 15 (by decide) (runMax_h0_15 arg2 arg3 arg7 X2 X3 f7 k H01) (runAcc_h0_15 arg2 arg3 arg4 arg6 arg7 X2 X3 X4 f6 f7 k H00 H01) (score_h0_c15 arg2 arg3 arg6 X2 X3 k)
    (colMax_h0_c15 arg2 arg3 arg7 X2 X3 k) (readAt_vChunk (arg4 := arg4) (X := X4) 0 15 (vIn 0 15 (by decide) (by decide)) rfl)
  exact congrArg normed e

theorem accVals_h1 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_93 arg2 arg3 arg4 arg6 arg7 k0_pay194 X2 X3 X4 k f6 f7 = accVals (runAcc (arg3.view.read (Elt F) X3) (arg2.view.read (Elt F) X2) (arg4.view.read (Elt F) X4) 1 (tile k) 16 le_rfl) := by
  have e := accStep 1 15 (by decide) (runMax_h1_15 arg2 arg3 arg7 X2 X3 f7 k H11) (runAcc_h1_15 arg2 arg3 arg4 arg6 arg7 X2 X3 X4 f6 f7 k H10 H11) (score_h1_c15 arg2 arg3 arg6 X2 X3 k)
    (colMax_h1_c15 arg2 arg3 arg7 X2 X3 k) (readAt_vChunk (arg4 := arg4) (X := X4) 1 15 (vIn 1 15 (by decide) (by decide)) rfl)
  exact congrArg accVals e

theorem accSum_h1 (H10 : trip_k0_t1.sl.v101 arg6 f6 = score (arg3.view.read (Elt F) X3) (arg2.view.read (Elt F) X2) 1 0 (tile k)) (H11 : trip_k0_t1.sl.v103 arg7 f7 = colMax (arg3.view.read (Elt F) X3) (arg2.view.read (Elt F) X2) 1 0 (tile k)) : trip_k0_t1.sl.r_94 arg2 arg3 arg4 arg6 arg7 k0_pay194 X2 X3 X4 k f6 f7 = accSum (runAcc (arg3.view.read (Elt F) X3) (arg2.view.read (Elt F) X2) (arg4.view.read (Elt F) X4) 1 (tile k) 16 le_rfl) := by
  have e := accStep 1 15 (by decide) (runMax_h1_15 arg2 arg3 arg7 X2 X3 f7 k H11) (runAcc_h1_15 arg2 arg3 arg4 arg6 arg7 X2 X3 X4 f6 f7 k H10 H11) (score_h1_c15 arg2 arg3 arg6 X2 X3 k)
    (colMax_h1_c15 arg2 arg3 arg7 X2 X3 k) (readAt_vChunk (arg4 := arg4) (X := X4) 1 15 (vIn 1 15 (by decide) (by decide)) rfl)
  exact congrArg accSum e

end Cert.Attn

end
-- ==== Proof.Loop.lean ====
/-
  The loop of sixteen trips: before trip `k` the scratch's slot 0 holds tile `k`'s first scores and their maxima, and the first `k`
  tiles of the result are stored; after the loop the staged result holds all sixteen.
-/
module

public import proofs.«01_k».proof.Proof.Trip
public import Idealize.ShloMosaic.Lib.ValueIdx

@[expose] public section

set_option maxRecDepth 16384

noncomputable section

namespace Cert.Attn

open Cert.KernelIdeal Cert.KernelIdeal.Gen
open Idealize.ShloMosaic Idealize.ShloMosaic.TcCoe

variable {F : FTy → Type} [FloatOps F]

/-- A load at the newest piece's own rectangle reads its payload. -/
theorem readAt_top {κ : Kind} {sp : Space} {s : Shape} {e : EltTy} (v : View sig κ sp s e) (f : v.ty.Contents (Elt F)) {off size : Fin s.rank → ℕ} (inb inb')
    (w : (Rect.unit (s := s) off size inb).shape.Idx → Elt F e) (L : List (View.Piece (Elt F) s e)) :
    v.readAt (Elt F) (Rect.unit (s := s) off size inb').toLoadRect (v.writes (Elt F) f (⟨Rect.unit off size inb, w⟩ :: L)) = w := by
  funext x
  rw [View.readAt_apply]
  refine View.read_writes_cons_unit_of_mem v f inb w L _ x rfl fun a => ?_
  show off a + 1 * (x a).val = _
  rw [Nat.one_mul]

/-- A load apart from the newest piece on some axis reads what the pieces before left. -/
theorem readAt_below {κ : Kind} {sp : Space} {s : Shape} {e : EltTy} (v : View sig κ sp s e) (f : v.ty.Contents (Elt F)) {off off' size size' : Fin s.rank → ℕ} (inb inb')
    (w : (Rect.unit (s := s) off size inb).shape.Idx → Elt F e) (L : List (View.Piece (Elt F) s e)) (a : Fin s.rank)
    (h : off a + size a ≤ off' a ∨ off' a + size' a ≤ off a) :
    v.readAt (Elt F) (Rect.unit (s := s) off' size' inb').toLoadRect (v.writes (Elt F) f (⟨Rect.unit off size inb, w⟩ :: L))
      = v.readAt (Elt F) (Rect.unit (s := s) off' size' inb').toLoadRect (v.writes (Elt F) f L) := by
  funext x
  rw [View.readAt_apply, View.readAt_apply]
  refine View.read_writes_cons_unit_of_not_mem v f inb w L _ rfl a ?_
  have hx : (x a).val < size' a := (x a).isLt
  show off' a + 1 * (x a).val < off a ∨ off a + size a ≤ off' a + 1 * (x a).val
  omega

/-- The staged result the kernel leaves: row `r` of tile `r / 512`. -/
def outAll (K : KBlk F) (Q : QBlk F) (V : VBlk F) : Vec F S1x8192x128 .f32 := fun y =>
  outTile K Q V ⟨(y 1).val / 512, by have : (y 1).val < 8192 := (y 1).isLt; omega⟩
    (ix3 (0 : Fin 1) (⟨(y 1).val % 512, Nat.mod_lt _ (by decide)⟩ : Fin 512) (⟨(y 2).val, (y 2).isLt⟩ : Fin 128))

variable (arg2 : Memref sig .tc .vmem S1x2x128x8192 .bf16) (harg2 : arg2.IsWhole) (arg3 : Memref sig .tc .vmem S1x2x8192x128 .bf16) (harg3 : arg3.IsWhole)
  (arg4 : Memref sig .tc .vmem S1x128x8192 .bf16) (harg4 : arg4.IsWhole) (arg5 : Memref sig .tc .vmem S1x8192x128 .f32) (harg5 : arg5.IsWhole)
  (arg6 : Memref sig .tc .vmem S2x2x512x512 .f32) (harg6 : arg6.IsWhole) (arg7 : Memref sig .tc .vmem S2x2x1x512 .f32) (harg7 : arg7.IsWhole)
  (X2 : BufTy.Contents (Elt F) arg2.view.ty) (X3 : BufTy.Contents (Elt F) arg3.view.ty) (X4 : BufTy.Contents (Elt F) arg4.view.ty)

/-- The scratch's slot 0 holds tile `q`'s first scores and their maxima, both heads'. -/
structure Ready (q : Fin 16) (f6 : BufTy.Contents (Elt F) arg6.view.ty) (f7 : BufTy.Contents (Elt F) arg7.view.ty) : Prop where
  s0 : trip_k0_t1.sl.v82 arg6 f6 = score (arg3.view.read (Elt F) X3) (arg2.view.read (Elt F) X2) 0 0 q
  m0 : trip_k0_t1.sl.v84 arg7 f7 = colMax (arg3.view.read (Elt F) X3) (arg2.view.read (Elt F) X2) 0 0 q
  s1 : trip_k0_t1.sl.v101 arg6 f6 = score (arg3.view.read (Elt F) X3) (arg2.view.read (Elt F) X2) 1 0 q
  m1 : trip_k0_t1.sl.v103 arg7 f7 = colMax (arg3.view.read (Elt F) X3) (arg2.view.read (Elt F) X2) 1 0 q

/-- It does once the last stores into slot 0 are those. -/
theorem ready_of (q : Fin 16) (f6 : BufTy.Contents (Elt F) arg6.view.ty) (f7 : BufTy.Contents (Elt F) arg7.view.ty) (i1 i2 i3 i4) (w1 w2 w3 w4)
    (L6 : List (View.Piece (Elt F) S2x2x512x512 .f32)) (L7 : List (View.Piece (Elt F) S2x2x1x512 .f32))
    (e1 : w1 = score (arg3.view.read (Elt F) X3) (arg2.view.read (Elt F) X2) 1 0 q) (e2 : w2 = score (arg3.view.read (Elt F) X3) (arg2.view.read (Elt F) X2) 0 0 q)
    (e3 : w3 = colMax (arg3.view.read (Elt F) X3) (arg2.view.read (Elt F) X2) 1 0 q) (e4 : w4 = colMax (arg3.view.read (Elt F) X3) (arg2.view.read (Elt F) X2) 0 0 q) :
    Ready arg2 arg3 arg6 arg7 X2 X3 q
      (arg6.view.writes (Elt F) f6 (⟨Rect.unit ![0, 1, 0, 0] S1x1x512x512.size i1, w1⟩ :: ⟨Rect.unit ![0, 0, 0, 0] S1x1x512x512.size i2, w2⟩ :: L6))
      (arg7.view.writes (Elt F) f7 (⟨Rect.unit ![0, 1, 0, 0] S1x1x1x512.size i3, w3⟩ :: ⟨Rect.unit ![0, 0, 0, 0] S1x1x1x512.size i4, w4⟩ :: L7)) where
  s0 := ((readAt_below arg6.view f6 i1 _ w1 _ 1 (.inr (by show 0 + 1 ≤ 1; omega))).trans (readAt_top arg6.view f6 i2 _ w2 L6)).trans e2
  m0 := ((readAt_below arg7.view f7 i3 _ w3 _ 1 (.inr (by show 0 + 1 ≤ 1; omega))).trans (readAt_top arg7.view f7 i4 _ w4 L7)).trans e4
  s1 := (readAt_top arg6.view f6 i1 _ w1 _).trans e1
  m1 := (readAt_top arg7.view f7 i3 _ w3 _).trans e3

variable (𝒱 : Variants) (c : Dev nD) (bd : Option 𝒱.V) (i : grid0.Coords)

/-- A trip from a ready slot stores its tile of the result. -/
theorem trip_out (k : Fin k0_t1_loop.trips) (f5 : BufTy.Contents (Elt F) arg5.view.ty) (f6 : BufTy.Contents (Elt F) arg6.view.ty)
    (f7 : BufTy.Contents (Elt F) arg7.view.ty) (H : Ready arg2 arg3 arg6 arg7 X2 X3 (tile k) f6 f7) :
    ∃ inb, (trip_k0_t1 (F := F) 𝒱 c bd i arg2 harg2 arg3 harg3 arg4 harg4 arg5 harg5 arg6 harg6 arg7 harg7 k0_pay194 X2 X3 X4 k).1 f5 f6 f7
      = [⟨Rect.unit (k0_off13 k) S1x512x128.size inb, outTile (arg3.view.read (Elt F) X3) (arg2.view.read (Elt F) X2) (arg4.view.read (Elt F) X4) (tile k)⟩] := by
  unfold trip_k0_t1
  dsimp only
  rw [normed_h0 arg2 arg3 arg4 arg6 arg7 X2 X3 X4 f6 f7 k H.s0 H.m0, accVals_h1 arg2 arg3 arg4 arg6 arg7 X2 X3 X4 f6 f7 k H.s1 H.m1,
    accSum_h1 arg2 arg3 arg4 arg6 arg7 X2 X3 X4 f6 f7 k H.s1 H.m1]
  exact ⟨_, rfl⟩

/-- A trip leaves slot 0 ready for the next tile. -/
theorem trip_ready (k : Fin k0_t1_loop.trips) (f5 : BufTy.Contents (Elt F) arg5.view.ty) (f6 : BufTy.Contents (Elt F) arg6.view.ty)
    (f7 : BufTy.Contents (Elt F) arg7.view.ty) :
    Ready arg2 arg3 arg6 arg7 X2 X3 (nextTile k)
      (arg6.view.writes (Elt F) f6 ((trip_k0_t1 (F := F) 𝒱 c bd i arg2 harg2 arg3 harg3 arg4 harg4 arg5 harg5 arg6 harg6 arg7 harg7 k0_pay194 X2 X3 X4 k).2.1 f5 f6 f7))
      (arg7.view.writes (Elt F) f7 ((trip_k0_t1 (F := F) 𝒱 c bd i arg2 harg2 arg3 harg3 arg4 harg4 arg5 harg5 arg6 harg6 arg7 harg7 k0_pay194 X2 X3 X4 k).2.2.1 f5 f6 f7)) := by
  unfold trip_k0_t1
  dsimp only
  have es0 := score_of (readAt_kChunk (arg3 := arg3) (X := X3) 0 0 (kIn 0 0 (by decide) (by decide)) rfl)
    (readAt_qTile (arg2 := arg2) (X := X2) 0 (nextTile k) (qIn_of (h := 0) (q := nextTile k) (off8_next k)) (off8_next k))
  have es1 := score_of (readAt_kChunk (arg3 := arg3) (X := X3) 1 0 (kIn 1 0 (by decide) (by decide)) rfl)
    (readAt_qTile (arg2 := arg2) (X := X2) 1 (nextTile k) (qIn_of (h := 1) (q := nextTile k) (off10_next k)) (off10_next k))
  have em0 := colMax_of (readAt_kChunk (arg3 := arg3) (X := X3) 0 0 (kIn 0 0 (by decide) (by decide)) rfl)
    (readAt_qTile (arg2 := arg2) (X := X2) 0 (nextTile k) (qIn_of (h := 0) (q := nextTile k) (off8_next k)) (off8_next k))
  have em1 := colMax_of (readAt_kChunk (arg3 := arg3) (X := X3) 1 0 (kIn 1 0 (by decide) (by decide)) rfl)
    (readAt_qTile (arg2 := arg2) (X := X2) 1 (nextTile k) (qIn_of (h := 1) (q := nextTile k) (off10_next k)) (off10_next k))
  exact ready_of arg2 arg3 arg6 arg7 X2 X3 (nextTile k) f6 f7 _ _ _ _ _ _ _ _ _ _ es1 es0 em1 em0

variable (G5 : BufTy.Contents (Elt F) arg5.view.ty) (G6 : BufTy.Contents (Elt F) arg6.view.ty) (G7 : BufTy.Contents (Elt F) arg7.view.ty)

/-- The pieces the trips before `n` store. -/
abbrev pcs (n : ℕ) := pb_k0_t1 (F := F) 𝒱 c bd i arg2 harg2 arg3 harg3 arg4 harg4 arg5 harg5 arg6 harg6 arg7 harg7 k0_pay194 X2 X3 X4 G5 G6 G7 n

/-- Before trip `n`: slot 0 is ready for tile `n` (tile 15 after the last), and the rows below `512 n` of the result are stored. -/
theorem loop_inv (H : Ready arg2 arg3 arg6 arg7 X2 X3 0 G6 G7) : ∀ n (hn : n ≤ 16),
    Ready arg2 arg3 arg6 arg7 X2 X3 ⟨min n 15, by omega⟩
      (arg6.view.writes (Elt F) G6 (pcs arg2 harg2 arg3 harg3 arg4 harg4 arg5 harg5 arg6 harg6 arg7 harg7 X2 X3 X4 𝒱 c bd i G5 G6 G7 n).2.1)
      (arg7.view.writes (Elt F) G7 (pcs arg2 harg2 arg3 harg3 arg4 harg4 arg5 harg5 arg6 harg6 arg7 harg7 X2 X3 X4 𝒱 c bd i G5 G6 G7 n).2.2)
    ∧ ∀ y : S1x8192x128.Idx, (y 1).val < 512 * n →
        arg5.view.read (Elt F) (arg5.view.writes (Elt F) G5 (pcs arg2 harg2 arg3 harg3 arg4 harg4 arg5 harg5 arg6 harg6 arg7 harg7 X2 X3 X4 𝒱 c bd i G5 G6 G7 n).1) y
          = outAll (arg3.view.read (Elt F) X3) (arg2.view.read (Elt F) X2) (arg4.view.read (Elt F) X4) y := by
  intro n
  induction n with
  | zero => exact fun _ => ⟨H, fun y hy => absurd hy (by omega)⟩
  | succ n ih =>
    intro hn
    obtain ⟨hR, hO⟩ := ih (by omega)
    have hlt : n < k0_t1_loop.trips := hn
    have e := pb_k0_t1_succ (F := F) 𝒱 c bd i arg2 harg2 arg3 harg3 arg4 harg4 arg5 harg5 arg6 harg6 arg7 harg7 k0_pay194 X2 X3 X4 G5 G6 G7 ⟨n, hlt⟩
    have ht : tile ⟨n, hlt⟩ = ⟨min n 15, by omega⟩ := Fin.ext (by show n = min n 15; omega)
    have hR' := hR
    rw [← ht] at hR'
    obtain ⟨inb, ho⟩ := trip_out arg2 harg2 arg3 harg3 arg4 harg4 arg5 harg5 arg6 harg6 arg7 harg7 X2 X3 X4 𝒱 c bd i ⟨n, hlt⟩
      (arg5.view.writes (Elt F) G5 (pcs arg2 harg2 arg3 harg3 arg4 harg4 arg5 harg5 arg6 harg6 arg7 harg7 X2 X3 X4 𝒱 c bd i G5 G6 G7 n).1) _ _ hR'
    have hr := trip_ready arg2 harg2 arg3 harg3 arg4 harg4 arg5 harg5 arg6 harg6 arg7 harg7 X2 X3 X4 𝒱 c bd i ⟨n, hlt⟩
      (arg5.view.writes (Elt F) G5 (pcs arg2 harg2 arg3 harg3 arg4 harg4 arg5 harg5 arg6 harg6 arg7 harg7 X2 X3 X4 𝒱 c bd i G5 G6 G7 n).1)
      (arg6.view.writes (Elt F) G6 (pcs arg2 harg2 arg3 harg3 arg4 harg4 arg5 harg5 arg6 harg6 arg7 harg7 X2 X3 X4 𝒱 c bd i G5 G6 G7 n).2.1)
      (arg7.view.writes (Elt F) G7 (pcs arg2 harg2 arg3 harg3 arg4 harg4 arg5 harg5 arg6 harg6 arg7 harg7 X2 X3 X4 𝒱 c bd i G5 G6 G7 n).2.2)
    unfold pcs
    refine ⟨?_, fun y hy => ?_⟩
    · rw [e]
      dsimp only
      rw [View.writes_append, View.writes_append]
      exact hr
    · rw [e]
      dsimp only
      rw [View.writes_append, ho]
      by_cases hy' : (y 1).val < 512 * n
      · rw [View.read_writes_cons_unit_of_not_mem arg5.view _ inb _ [] y (k0_off13_eq ⟨n, hlt⟩) 1 (.inl hy')]
        exact hO y hy'
      · have hq : (y 1).val / 512 = n := by omega
        rw [View.read_writes_cons_unit_of_mem arg5.view _ inb _ [] y
          (ix3 (0 : Fin 1) (⟨(y 1).val % 512, Nat.mod_lt _ (by decide)⟩ : Fin 512) (⟨(y 2).val, (y 2).isLt⟩ : Fin 128)) (k0_off13_eq ⟨n, hlt⟩)
          (fun a => by
            fin_cases a
            · show (y 0).val = 0 + 0
              have : (y 0).val < 1 := (y 0).isLt
              omega
            · show (y 1).val = 512 * n + (y 1).val % 512
              omega
            · show (y 2).val = 0 + (y 2).val
              omega)]
        unfold outAll
        rw [ht]
        congr 1
        exact Fin.ext (by show min n 15 = (y 1).val / 512; omega)

/-- After the loop the staged result holds every tile. -/
theorem loop_out (H : Ready arg2 arg3 arg6 arg7 X2 X3 0 G6 G7) :
    arg5.view.read (Elt F) (arg5.view.writes (Elt F) G5 (pcs arg2 harg2 arg3 harg3 arg4 harg4 arg5 harg5 arg6 harg6 arg7 harg7 X2 X3 X4 𝒱 c bd i G5 G6 G7 k0_t1_loop.trips).1)
      = outAll (arg3.view.read (Elt F) X3) (arg2.view.read (Elt F) X2) (arg4.view.read (Elt F) X4) :=
  funext fun y => (loop_inv arg2 harg2 arg3 harg3 arg4 harg4 arg5 harg5 arg6 harg6 arg7 harg7 X2 X3 X4 𝒱 c bd i G5 G6 G7 H 16 le_rfl).2 y
    (show (y 1).val < 8192 from (y 1).isLt)

end Cert.Attn

end
-- ==== Proof.Run.lean ====
/-
  The attention's run: the body once at any operands, the proof data of its one region (every point leaves `outAll` of its
  three blocks in the staged result), and the launch. Over any carrier of floats.
-/
module

public import proofs.«01_k».proof.Proof.Loop
public import Idealize.ShloMosaic.Lib.Tactic

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, run once -/

/-- From the three staged inputs held whole, and the result and the scratch at anything, the body runs to its return: the inputs
    as they were, the result holding `outAll` of them, the scratch at some contents. -/
theorem kernelRun (c : Dev nD) (i : grid0.Coords) (arg2 : Memref sig .tc .vmem S1x2x128x8192 .bf16) (harg2 : arg2.IsWhole) (arg3 : Memref sig .tc .vmem S1x2x8192x128 .bf16) (harg3 : arg3.IsWhole)
    (arg4 : Memref sig .tc .vmem S1x128x8192 .bf16) (harg4 : arg4.IsWhole) (arg5 : Memref sig .tc .vmem S1x8192x128 .f32) (harg5 : arg5.IsWhole)
    (arg6 : Memref sig .tc .vmem S2x2x512x512 .f32) (harg6 : arg6.IsWhole) (arg7 : Memref sig .tc .vmem S2x2x1x512 .f32) (harg7 : arg7.IsWhole)
    (Q : QBlk F) (K : KBlk F) (V : VBlk F) (R : PUnit → sProp 𝕄) :
    iprop(owns (c : Thread nD τ) arg2 fullShare Q ∗ owns (c : Thread nD τ) arg3 fullShare K ∗ owns (c : Thread nD τ) arg4 fullShare V
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare Q ∗ owns (c : Thread nD τ) arg3 fullShare K ∗ owns (c : Thread nD τ) arg4 fullShare V
            ∗ owns (c : Thread nD τ) arg5 fullShare (outAll K Q V) ∗ (∃ d, owns (c : Thread nD τ) arg6 fullShare d) ∗ (∃ d, owns (c : Thread nD τ) arg7 fullShare d)) -∗ R ⟨⟩))
      ⊢ wp frame (wpE (defs₀ (F := F)) Variants.none c none) Set.univ
          (cc0_mla_attention i arg2 harg2 arg3 harg3 arg4 harg4 arg5 harg5 arg6 harg6 arg7 harg7) R := by
  simp only [cc0_mla_attention_eq_skeleton]; unfold cc0_mla_attention_skel
  unfold owns
  iintro ⟨⟨%f2, %e2, H2⟩, ⟨%f3, %e3, H3⟩, ⟨%f4, %e4, H4⟩, ⟨%d5, %f5, -, H5⟩, ⟨%d6, %f6, -, H6⟩, ⟨%d7, %f7, -, H7⟩, Hk⟩
  sl_exec
  sl_step
  iapply Hk
  subst e2 e3 e4
  have es0 := score_of (readAt_kChunk (arg3 := arg3) (X := f3) 0 0 (kIn 0 0 (by decide) (by decide)) rfl)
    (readAt_qTile (arg2 := arg2) (X := f2) 0 0 (qIn 0 0 (by decide) (by decide)) rfl)
  have es1 := score_of (readAt_kChunk (arg3 := arg3) (X := f3) 1 0 (kIn 1 0 (by decide) (by decide)) rfl)
    (readAt_qTile (arg2 := arg2) (X := f2) 1 0 (qIn 1 0 (by decide) (by decide)) rfl)
  have em0 := colMax_of (readAt_kChunk (arg3 := arg3) (X := f3) 0 0 (kIn 0 0 (by decide) (by decide)) rfl)
    (readAt_qTile (arg2 := arg2) (X := f2) 0 0 (qIn 0 0 (by decide) (by decide)) rfl)
  have em1 := colMax_of (readAt_kChunk (arg3 := arg3) (X := f3) 1 0 (kIn 1 0 (by decide) (by decide)) rfl)
    (readAt_qTile (arg2 := arg2) (X := f2) 1 0 (qIn 1 0 (by decide) (by decide)) rfl)
  have H := ready_of arg2 arg3 arg6 arg7 f2 f3 0 f6 f7
    inb_S2x2x512x512_S1x1x512x512_0_1_0_0 inb_S2x2x512x512_S1x1x512x512_0_0_0_0 inb_S2x2x1x512_S1x1x1x512_0_1_0_0 inb_S2x2x1x512_S1x1x1x512_0_0_0_0
    _ _ _ _ [] [] es1 es0 em1 em0
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro
    exact loop_out arg2 harg2 arg3 harg3 arg4 harg4 arg5 harg5 arg6 harg6 arg7 harg7 f2 f3 f4 Variants.none c none i f5 _ _ H
  isplitl [H6]
  · iexists _, _; isplitr; swap; · iexact H6
    ipureintro; rfl
  iexists _, _; isplitr; swap; · iexact H7
  ipureintro; rfl

/-! ## The proof data -/

/-- The proof data on core `c`: the arrays as the region finds them; each input's block left in place, the result's `outAll` of the
    three; the scratch at some contents; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAll (iblk m c 1 t) (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t := before0_0_of m (dats m 0 c) (A_eq m c 0) (fun _ => rfl) t d
theorem before1 (c : Dev nD) (t : Fin cfg0.N) (d) : (dats m 0 c).before 1 t d = iblk m c 1 t := before0_1_of m (dats m 0 c) (A_eq m c 1) (fun _ => rfl) t d
theorem before2 (c : Dev nD) (t : Fin cfg0.N) (d) : (dats m 0 c).before 2 t d = iblk m c 2 t := before0_2_of m (dats m 0 c) (A_eq m c 2) (fun _ => rfl) t d

/-- The invariant between points: the two scratch buffers at some contents, and the generator register. -/
theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at a point: `kernelRun` at the staged blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  simp only [before0, before1, before2]
  iintro ⟨⟨⟨HS0, HS1⟩, Hg⟩, HO, ⟨%d0, H0⟩, ⟨%d1, H1⟩, ⟨%d2, H2⟩, ⟨%d3, H3⟩⟩
  iapply (kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (iblk m c 0 t) (iblk m c 1 t) (iblk m c 2 t) _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexact HS0
      iexact HS1
    iexact Hg
  isplitl [HO]; · iexact HO
  isplitl [H0]; · iexact H0
  isplitl [H1]; · iexact H1
  isplitl [H2]; · iexact H2
  iexact H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The region's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every weakly fair execution of @main terminates; each window's array then stands at what the write-backs of `dats` make of it and
    every other unscoped buffer as the region found it, and every semaphore counter at zero. -/
theorem run_post : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run at the result and the arguments: the result at what the write-backs leave, the arguments unchanged, the counters at zero. -/
theorem run_main : θ_run defs (onTc (τ := τ) (main (F := F))) ⟨m, fun _ => 0, ρ⟩ (fun r => (∀ c : Dev nD,
      r.2.mem ((c.tc : Thread nD τ).loc main_v18) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_post m ρ)

/-- The frame's post alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_main m ρ)

end Cert.Attn

end
-- ==== Proof.Frames.lean ====
/-
  The frames of the three programs: each runs to its return, leaves its arguments as they were and every semaphore counter at
  zero. The kernel at machine words and its idealization have the same text, so one run, written over any carrier of floats,
  gives both.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem

/-- The two programs' body tables are one: label 0 runs the same body. -/
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- So are the tables with the region's pipeline. -/
theorem defs_eq : Cert.Kernel.defs (F := Bits) = Cert.KernelIdeal.defs (F := Bits) :=
  congrArg (Pipeline.defs (Cert.KernelIdeal.pcfgs (F := Bits))) defs₀_eq

/-- The kernel's frame at machine words: `run_frame` at `Bits`. -/
theorem frame_kernel : Cert.quiescent_Kernel := fun m ρ _ => by
  rw [defs_eq]
  exact Cert.Attn.run_frame (F := Bits) m ρ

/-- The idealized kernel's frame: `run_frame` at the extended reals. -/
theorem frame_kernelIdeal : Cert.quiescent_KernelIdeal := fun m ρ _ =>
  Cert.Attn.run_frame (F := Ideal) m ρ

/-- The idealized reference's frame: its operations' run, and no semaphore to count. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Host.lean ====
/-
  The three arrays the call reads, as the host operations before it make them of the arguments, at an index.
-/
module

public import proofs.«01_k».proof.Proof.Run
public import Idealize.ShloMosaic.Lib.Pointwise
public import Idealize.ShloMosaic.Lib.Claim

@[expose] public section

set_option maxRecDepth 16384

noncomputable section

namespace Cert.Attn

open Cert.KernelIdeal Cert.KernelIdeal.Gen
open Idealize.ShloMosaic Idealize.ShloMosaic.TcCoe

/-- The factor on the queries: one over `log 2` times the root of 96. -/
def qFactor : FVec Ideal S_ .f32 :=
  Host.divf (constant S_ .f32 0x3F800000#32) (mulf (Host.log (constant S_ .f32 0x40000000#32)) (Host.sqrt (constant S_ .f32 0x42C00000#32)))
/-- The zero columns beside the 96 real ones. -/
def zeros : FVec Ideal S2x8192x8x32 .f32 := broadcastInDim S2x8192x8x32 ![] bcast_S_S2x8192x8x32 (constant S_ .f32 0x00000000#32)
/-- The queries as the call reads them: scaled, padded, transposed. -/
def qHost (x0 : FVec Ideal S2x8192x8x64 .f32) (x1 : FVec Ideal S2x8192x8x32 .f32) : FVec Ideal S2x8x128x8192 .bf16 :=
  truncf .bf16 (transpose S2x8x128x8192 [0, 2, 3, 1] (mulf (concatenate S2x8192x8x128 3 [⟨S2x8192x8x64, x0⟩, ⟨S2x8192x8x32, x1⟩, ⟨S2x8192x8x32, zeros⟩] concatenates_S2x8192x8x64_S2x8192x8x32_S2x8192x8x32_S2x8192x8x128_d3)
    (broadcastInDim S2x8192x8x128 ![] bcast_S_S2x8192x8x128 qFactor)) transposes_S2x8192x8x128_S2x8x128x8192_0_2_3_1) bitsLt_bf16_f32
/-- The keys as the call reads them: the shared rotary part beside each head's own, padded, transposed. -/
def kHost (x2 : FVec Ideal S2x8192x8x64 .f32) (x3 : FVec Ideal S2x8192x32 .f32) : FVec Ideal S2x8x8192x128 .bf16 :=
  truncf .bf16 (transpose S2x8x8192x128 [0, 2, 1, 3] (concatenate S2x8192x8x128 3 [⟨S2x8192x8x64, x2⟩,
    ⟨S2x8192x8x32, broadcastInDim S2x8192x8x32 ![0, 1, 2, 3] bcast_S2x8192x1x32_S2x8192x8x32_0_1_2_3 (broadcastInDim S2x8192x1x32 ![0, 1, 3] bcast_S2x8192x32_S2x8192x1x32_0_1_3 x3)⟩,
    ⟨S2x8192x8x32, zeros⟩] concatenates_S2x8192x8x64_S2x8192x8x32_S2x8192x8x32_S2x8192x8x128_d3) transposes_S2x8192x8x128_S2x8x8192x128_0_2_1_3) bitsLt_bf16_f32
/-- The values as the call reads them: transposed, the heads one above the other. -/
def vHost (x4 : FVec Ideal S2x8192x8x64 .f32) : FVec Ideal S2x512x8192 .bf16 :=
  truncf .bf16 (shapeCast S2x512x8192 (transpose S2x8x64x8192 [0, 2, 3, 1] x4 transposes_S2x8192x8x64_S2x8x64x8192_0_2_3_1) shapeCasts_S2x8x64x8192_S2x512x8192) bitsLt_bf16_f32

section Entry
variable (m : (ℓ : Loc nD τ sig) → Buf (Elt Ideal) ℓ) (c : Dev nD)

set_option maxHeartbeats 2000000 in
/-- The array of queries when the call starts. -/
theorem V_q : V m c main_v9 = qHost (m ((c : Thread nD τ).loc main_arg0)) (m ((c : Thread nD τ).loc main_arg1)) := by
  unfold V; after_results <;> rfl
set_option maxHeartbeats 2000000 in
/-- The array of keys when the call starts. -/
theorem V_k : V m c main_v14 = kHost (m ((c : Thread nD τ).loc main_arg2)) (m ((c : Thread nD τ).loc main_arg3)) := by
  unfold V; after_results <;> rfl
set_option maxHeartbeats 2000000 in
/-- The array of values when the call starts. -/
theorem V_v : V m c main_v17 = vHost (m ((c : Thread nD τ).loc main_arg4)) := by
  unfold V; after_results <;> rfl
end Entry

/-- The factor as an extended real. -/
def qf : EReal := Ideal.div 1 (Ideal.log (Ideal.ofBits .f32 0x40000000#32) * Ideal.sqrt (Ideal.ofBits .f32 0x42C00000#32))

/-- The queries at an index. -/
theorem qHost_apply (x0 : FVec Ideal S2x8192x8x64 .f32) (x1 : FVec Ideal S2x8192x8x32 .f32) (b : Fin 2) (h : Fin 8) (l : Fin 128) (s : Fin 8192) :
    qHost x0 x1 (ix4 b h l s) = (if h₁ : l.val < 64 then x0 (ix4 b s h ⟨l.val, h₁⟩)
      else if h₂ : l.val - 64 < 32 then x1 (ix4 b s h ⟨l.val - 64, h₂⟩) else 0) * qf := by
  unfold qf; pointwise [qHost, zeros, qFactor]

/-- The keys at an index. -/
theorem kHost_apply (x2 : FVec Ideal S2x8192x8x64 .f32) (x3 : FVec Ideal S2x8192x32 .f32) (b : Fin 2) (h : Fin 8) (s : Fin 8192) (l : Fin 128) :
    kHost x2 x3 (ix4 b h s l) = (if h₁ : l.val < 64 then x2 (ix4 b s h ⟨l.val, h₁⟩)
      else if h₂ : l.val - 64 < 32 then x3 (ix3 b s ⟨l.val - 64, h₂⟩) else 0) := by
  pointwise [kHost, zeros]

/-- The values at an index. -/
theorem vHost_apply (x4 : FVec Ideal S2x8192x8x64 .f32) (b : Fin 2) (e : Fin 512) (s : Fin 8192) :
    vHost x4 (ix3 b e s) = x4 (ix4 b s ⟨e.val / 64, by omega⟩ ⟨e.val % 64, by omega⟩) := by
  pointwise [vHost]

end Cert.Attn
-- ==== Proof.Online.lean ====
/-
  The online softmax over the extended reals: a maximum and a rescaled sum that grow by chunks of 512 scores, in base 2, give after 16
  chunks the values under the softmax weights. The scores are real, the values are any extended reals.
-/
module

public import Idealize.ShloMosaic.Lib.Pointwise

@[expose] public section

set_option maxRecDepth 16384
noncomputable section
namespace Cert.Attn
open Idealize.ShloMosaic
open scoped BigOperators

/-- A real factor that is not negative goes into a sum of extended reals. -/
theorem coe_mul_sum {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.2 hr) (EReal.coe_ne_top r), ih]

/-- A maximum over finitely many reals, at least one, is real. -/
theorem fold_max_real {ι : Type} [Fintype ι] [Nonempty ι] (t : ι → ℝ) : ∃ M : ℝ, Finset.univ.fold max (⊥ : EReal) (fun j => (t j : EReal)) = (M : EReal) := by
  have h1 : Finset.univ.fold max (⊥ : EReal) (fun j => (t j : EReal)) < ⊤ := (Finset.fold_max_lt ⊤).2 ⟨bot_lt_top, fun j _ => EReal.coe_lt_top _⟩
  have h2 : ⊥ < Finset.univ.fold max (⊥ : EReal) (fun j => (t j : EReal)) :=
    (Finset.lt_fold_max ⊥).2 (.inr ⟨Classical.arbitrary ι, Finset.mem_univ _, EReal.bot_lt_coe _⟩)
  exact ⟨_, (EReal.coe_toReal h1.ne h2.ne').symm⟩

/-- The running maximum after `n` chunks of 512 scores. -/
def mx (x : ℕ → EReal) : ℕ → EReal
  | 0 => ⊥
  | n + 1 => max (mx x n) (Finset.univ.fold max ⊥ fun j : Fin 512 => x (512 * n + j))

/-- The rescaled sum after `n` chunks. -/
def ac (x v : ℕ → EReal) : ℕ → EReal
  | 0 => 0
  | n + 1 => Ideal.exp2 (mx x n - mx x (n + 1)) * ac x v n + ∑ j : Fin 512, v (512 * n + j) * Ideal.exp2 (x (512 * n + j) - mx x (n + 1))

/-- On real scores the running maximum is real from the first chunk on. -/
theorem mx_real (t : ℕ → ℝ) : ∀ n, ∃ M : ℝ, mx (fun k => (t k : EReal)) (n + 1) = (M : EReal) := by
  intro n
  induction n with
  | zero =>
    obtain ⟨B, hB⟩ := fold_max_real fun j : Fin 512 => t (512 * 0 + j)
    exact ⟨B, by rw [mx, mx, hB]; exact max_eq_right bot_le⟩
  | succ n ih =>
    obtain ⟨B, hB⟩ := fold_max_real fun j : Fin 512 => t (512 * (n + 1) + j)
    obtain ⟨M, hM⟩ := ih
    exact ⟨max M B, by rw [mx, hM, hB]; exact (EReal.coe_strictMono.monotone.map_max).symm⟩

/-- A power of two of a difference of reals. -/
theorem exp2_sub (a b : ℝ) : Ideal.exp2 ((a : EReal) - (b : EReal)) = (((2 : ℝ) ^ (a - b) : ℝ) : EReal) := by
  rw [← EReal.coe_sub]; rfl

/-- The rescaled sum is the sum of the values times 2 to the score less the running maximum. -/
theorem ac_eq (t : ℕ → ℝ) (v : ℕ → EReal) : ∀ (n : ℕ) (M : ℝ), mx (fun k => (t k : EReal)) n = (M : EReal) →
    ac (fun k => (t k : EReal)) v n = ∑ k ∈ Finset.range (512 * n), v k * (((2 : ℝ) ^ (t k - M) : ℝ) : EReal)
  | 0, _, _ => by simp [ac]
  | n + 1, M, hM => by
    have hs : ∀ f : ℕ → EReal, ∑ k ∈ Finset.range (512 * (n + 1)), f k = ∑ k ∈ Finset.range (512 * n), f k + ∑ j : Fin 512, f (512 * n + j) := fun f => by
      rw [Nat.mul_succ, Finset.sum_range_add, Finset.sum_range (fun x => f (512 * n + x))]
    rw [ac, hM, hs]
    simp only [exp2_sub]
    congr 1
    cases n with
    | zero => simp [ac]
    | succ n =>
      obtain ⟨M', hM'⟩ := mx_real t n
      rw [hM', exp2_sub, ac_eq t v (n + 1) M' hM', coe_mul_sum _ _ (Real.rpow_nonneg (by norm_num) _)]
      refine Finset.sum_congr rfl fun k _ => ?_
      rw [mul_left_comm, ← EReal.coe_mul, ← Real.rpow_add (by norm_num)]
      rw [show M' - M + (t k - M') = t k - M by ring]

/-- Only the first `512 n` values count. -/
theorem ac_congr (x : ℕ → EReal) {v w : ℕ → EReal} (h : ∀ k < 8192, v k = w k) : ac x v 16 = ac x w 16 := by
  have : ∀ n ≤ 16, ac x v n = ac x w n := by
    intro n
    induction n with
    | zero => intro _; rfl
    | succ n ih =>
      intro hn
      rw [ac, ac, ih (by omega)]
      congr 1
      exact Finset.sum_congr rfl fun j _ => by rw [h _ (by have := j.isLt; omega)]
  exact this 16 le_rfl

/-- The softmax weight of key `k` among 8192. -/
def wt (t : ℕ → ℝ) (k : ℕ) : ℝ := Real.exp (t k) / ∑ j ∈ Finset.range 8192, Real.exp (t j)

/-- The embedding of the reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of shifted exponentials over their total is the sum under the weights. -/
theorem soft_shift (t : ℕ → ℝ) (v : ℕ → EReal) (M : ℝ) :
    (∑ k ∈ Finset.range 8192, v k * ((Real.exp (t k - M) : ℝ) : EReal)) * ((1 / ∑ k ∈ Finset.range 8192, Real.exp (t k - M) : ℝ) : EReal)
      = ∑ k ∈ Finset.range 8192, v k * (wt t k : EReal) := by
  rw [mul_comm, coe_mul_sum _ _ (by positivity)]
  refine Finset.sum_congr rfl fun k _ => ?_
  rw [mul_left_comm, ← EReal.coe_mul]
  congr 2
  simp only [Real.exp_sub, wt, ← Finset.sum_div]
  have := Real.exp_pos M
  field_simp

/-- The total of shifted exponentials is not zero. -/
theorem sum_pos (t : ℕ → ℝ) (M : ℝ) : (∑ k ∈ Finset.range 8192, Real.exp (t k - M)) ≠ 0 :=
  (Finset.sum_pos (fun _ _ => Real.exp_pos _) ⟨0, by simp⟩).ne'

/-- The online softmax, its scores in units of `log 2`. -/
theorem online (t : ℕ → ℝ) (v : ℕ → EReal) :
    ac (fun k => ((t k / Real.log 2 : ℝ) : EReal)) v 16 * Ideal.div 1 (ac (fun k => ((t k / Real.log 2 : ℝ) : EReal)) (fun _ => 1) 16)
      = ∑ k ∈ Finset.range 8192, v k * (wt t k : EReal) := by
  obtain ⟨M, hM⟩ := mx_real (fun k => t k / Real.log 2) 15
  have e : ∀ k, (2 : ℝ) ^ (t k / Real.log 2 - M) = Real.exp (t k - M * Real.log 2) := fun k => by
    have h := Real.log_pos (by norm_num : (1 : ℝ) < 2)
    rw [Real.rpow_def_of_pos (by norm_num)]; congr 1; field_simp
  rw [ac_eq _ v 16 M hM, ac_eq _ _ 16 M hM]
  simp only [e, one_mul, Nat.reduceMul]
  rw [← coe_sum, Ideal.div_coe (sum_pos t _), one_mul, soft_shift]

/-- The plain softmax, its maximum any real. -/
theorem plain (t : ℕ → ℝ) (v : ℕ → EReal) (M : ℝ) :
    ∑ k ∈ Finset.range 8192, v k * Ideal.div (Ideal.exp ((t k : EReal) - (M : EReal))) (∑ j ∈ Finset.range 8192, Ideal.exp ((t j : EReal) - (M : EReal)))
      = ∑ k ∈ Finset.range 8192, v k * (wt t k : EReal) := by
  have e : ∀ k, Ideal.exp ((t k : EReal) - (M : EReal)) = ((Real.exp (t k - M) : ℝ) : EReal) := fun k => by rw [← EReal.coe_sub]; rfl
  simp only [e]
  rw [← coe_sum, ← soft_shift t v M, mul_comm _ ((1 / _ : ℝ) : EReal), coe_mul_sum _ _ (by positivity)]
  refine Finset.sum_congr rfl fun k _ => ?_
  rw [Ideal.div_coe (sum_pos t _), mul_left_comm, mul_comm ((1 / _ : ℝ) : EReal), mul_left_comm, mul_assoc]
end Cert.Attn
-- ==== Proof.Spec.lean ====
/-
  The attention both programs compute, over the extended reals: real queries and keys, any values.
-/
module

public import proofs.«01_k».proof.Proof.Online

@[expose] public section

set_option maxRecDepth 16384

noncomputable section

namespace Cert.Attn

open Idealize.ShloMosaic

/-- Real arrays of the arguments' shapes: the heads' 64 columns, their 32 rotary columns, the shared rotary key. -/
abbrev R64 : Type := (⟨4, ![2, 8192, 8, 64]⟩ : Shape).Idx → ℝ
abbrev R32 : Type := (⟨4, ![2, 8192, 8, 32]⟩ : Shape).Idx → ℝ
abbrev RKr : Type := (⟨3, ![2, 8192, 32]⟩ : Shape).Idx → ℝ
/-- The values: of the extended reals. -/
abbrev Vals : Type := (⟨4, ![2, 8192, 8, 64]⟩ : Shape).Idx → EReal

/-- A real array as an array of extended reals. -/
def up {ι : Type} (r : ι → ℝ) : ι → EReal := fun i => (r i : EReal)

variable (r0 : R64) (r1 : R32) (r2 : R64) (r3 : RKr) (x4 : Vals)

/-- The product of query `s` and key `k` of head `h`: the heads' own columns and the rotary ones. -/
def dots (b : Fin 2) (h : Fin 8) (s k : Fin 8192) : ℝ :=
  ∑ l : Fin 64, r0 (ix4 b s h l) * r2 (ix4 b k h l) + ∑ l : Fin 32, r1 (ix4 b s h l) * r3 (ix3 b k l)
/-- The score of key `k`: the product over the root of 96. -/
def scores (b : Fin 2) (h : Fin 8) (s : Fin 8192) (k : ℕ) : ℝ := if hk : k < 8192 then dots r0 r1 r2 r3 b h s ⟨k, hk⟩ / √96 else 0
/-- Column `d` of head `h`'s values. -/
def vals (b : Fin 2) (h : Fin 8) (d : Fin 64) (k : ℕ) : EReal := if hk : k < 8192 then x4 (ix4 b ⟨k, hk⟩ h d) else 0
/-- The attention of query `s` at column `d` of head `h`. -/
def attn (b : Fin 2) (h : Fin 8) (s : Fin 8192) (d : Fin 64) : EReal :=
  ∑ k ∈ Finset.range 8192, vals x4 b h d k * (wt (scores r0 r1 r2 r3 b h s) k : EReal)

/-- The word of minus infinity reads as the least extended real. -/
theorem ofBits_neg_inf : Ideal.ofBits .f32 0xFF800000#32 = (⊥ : EReal) := by
  simp [Ideal.ofBits, Ideal.ieee]

/-- The words of 2 and 96, read. -/
theorem ofBits_two : Ideal.ofBits .f32 0x40000000#32 = ((2 : ℝ) : EReal) := by simp [Ideal.ofBits, Ideal.ieee, -EReal.coe_mul]; norm_num
theorem ofBits_96 : Ideal.ofBits .f32 0x42C00000#32 = ((96 : ℝ) : EReal) := by simp [Ideal.ofBits, Ideal.ieee, -EReal.coe_mul]; norm_num

/-- The root of 96. -/
theorem sqrt_96 : Ideal.sqrt (Ideal.ofBits .f32 0x42C00000#32) = ((√96 : ℝ) : EReal) := by
  rw [ofBits_96]; show (if (96 : ℝ) < 0 then ⊥ else ((√96 : ℝ) : EReal)) = _; rw [if_neg (by norm_num)]
/-- The logarithm of 2. -/
theorem log_two : Ideal.log (Ideal.ofBits .f32 0x40000000#32) = ((Real.log 2 : ℝ) : EReal) := by
  rw [ofBits_two]; show (if (2 : ℝ) ≤ 0 then ⊥ else ((Real.log 2 : ℝ) : EReal)) = _; rw [if_neg (by norm_num)]

theorem sqrt_96_pos : (0 : ℝ) < √96 := Real.sqrt_pos.2 (by norm_num)
theorem log_two_pos : (0 : ℝ) < Real.log 2 := Real.log_pos (by norm_num)

end Cert.Attn
-- ==== Proof.Tile.lean ====
/-
  The tile the kernel stores, read over the extended reals: each element is what the online softmax of `Online.lean` makes
  of the scores of its query against the 8192 keys and of its column of values.
-/
module

public import proofs.«01_k».proof.Proof.Loop
public import proofs.«01_k».proof.Proof.Spec

@[expose] public section

set_option maxRecDepth 16384

noncomputable section

namespace Cert.Attn

open Cert.KernelIdeal Cert.KernelIdeal.Gen
open Idealize.ShloMosaic Idealize.ShloMosaic.TcCoe

/-- A query of block `q` lies among the 8192. -/
theorem qry_lt (q : Fin 16) (r : Fin 512) : 512 * q.val + r.val < 8192 := by omega

/-- A score is the sum over the 128 columns. -/
theorem score_apply (K : KBlk Ideal) (Q : QBlk Ideal) (h : Fin 2) (c q : Fin 16) (j r : Fin 512) :
    score K Q h c q (ix4 0 0 j r) = ∑ l : Fin 128, K (ix4 0 h ⟨512 * c.val + j.val, by omega⟩ l) * Q (ix4 0 h l ⟨512 * q.val + r.val, qry_lt q r⟩) := by
  pointwise [score, k0_pay10, k0_pay9, kChunk, qTile]

/-- A chunk's column maximum is the maximum of its scores. -/
theorem colMax_apply (K : KBlk Ideal) (Q : QBlk Ideal) (h : Fin 2) (c q : Fin 16) (r : Fin 512) :
    colMax K Q h c q (ix4 0 0 0 r) = Finset.univ.fold max (⊥ : EReal) fun j : Fin 512 => score K Q h c q (ix4 0 0 j r) := by
  simp only [score_apply, ← ofBits_neg_inf]
  pointwise [colMax, k0_pay11, k0_pay9, kChunk, qTile]

/-- The running maximum's first contents are minus infinity. -/
theorem pay5_apply (r : Fin 512) : (k0_pay5 : FVec Ideal S1x512 .f32) (ix2 0 r) = (⊥ : EReal) := by
  rw [← ofBits_neg_inf]; pointwise [k0_pay5]

/-- The accumulator's first contents are zero. -/
theorem pay6_apply (i : Fin 80) (r : Fin 512) : (k0_pay6 : FVec Ideal S80x512 .f32) (ix2 i r) = (0 : EReal) := by
  pointwise [k0_pay6]

/-- A step of the running maximum. -/
theorem pay16_apply (m : FVec Ideal S1x512 .f32) (cm : Vec Ideal S1x1x1x512 .f32) (r : Fin 512) :
    k0_pay16 m cm (ix2 0 r) = max (m (ix2 0 r)) (cm (ix4 0 0 0 r)) := by
  pointwise [k0_pay16]

/-- The sixteen rows under the values: ones in the first, zeros below. -/
def onesRow (i : ℕ) : EReal := if i = 0 then 1 else 0

/-- The rows under the values, read. -/
theorem pay194_apply (i : Fin 16) (r : Fin 512) : (k0_pay194 : FVec Ideal S16x512 .bf16) (ix2 i r) = onesRow i.val := by
  pointwise [k0_pay194]
  fin_cases i <;> simp [onesRow, Scalar.select, IntOp.cmpi]

/-- A step of the accumulator. -/
theorem pay17_apply (m : FVec Ideal S1x512 .f32) (a : FVec Ideal S80x512 .f32) (s : Vec Ideal S1x1x512x512 .f32) (cm : Vec Ideal S1x1x1x512 .f32)
    (v : Vec Ideal S1x64x512 .bf16) (i : Fin 80) (r : Fin 512) :
    k0_pay17 k0_pay194 m a s cm v (ix2 i r)
      = Ideal.exp2 (m (ix2 0 r) - k0_pay16 m cm (ix2 0 r)) * a (ix2 i r)
        + ∑ j : Fin 512, (if h : i.val < 64 then v (ix3 0 ⟨i.val, h⟩ j) else onesRow (i.val - 64)) * Ideal.exp2 (s (ix4 0 0 j r) - k0_pay16 m cm (ix2 0 r)) := by
  have e : ∀ (h : ¬ i.val < 64) (j : Fin 512), onesRow (i.val - 64) = (k0_pay194 : FVec Ideal S16x512 .bf16) (ix2 ⟨i.val - 64, by omega⟩ j) :=
    fun h j => (pay194_apply ⟨i.val - 64, by omega⟩ j).symm
  generalize hm : k0_pay16 m cm = M
  have : ∀ j : Fin 512, (if h : i.val < 64 then v (ix3 0 ⟨i.val, h⟩ j) else onesRow (i.val - 64))
      = (if h : i.val < 64 then v (ix3 0 ⟨i.val, h⟩ j) else (k0_pay194 : FVec Ideal S16x512 .bf16) (ix2 ⟨i.val - 64, by omega⟩ j)) := fun j => by
    split
    · rfl
    · rename_i h; exact e h j
  simp only [this]
  generalize (k0_pay194 : FVec Ideal S16x512 .bf16) = W
  pointwise [k0_pay17]
  rw [hm]; rfl

/-- The values a row of the accumulator sums: a row of the block, or ones. -/
def rowVals (V : VBlk Ideal) (h : Fin 2) (i : Fin 80) (k : ℕ) : EReal :=
  if hk : k < 8192 then (if hi : i.val < 64 then V (ix3 0 ⟨64 * h.val + i.val, by omega⟩ ⟨k, hk⟩) else onesRow (i.val - 64)) else 0

variable (K : KBlk Ideal) (Q : QBlk Ideal) (V : VBlk Ideal) (h : Fin 2) (q : Fin 16) (r : Fin 512) (X : ℕ → EReal)
  (hX : ∀ (k : ℕ) (hk : k < 8192), ∑ l : Fin 128, K (ix4 0 h ⟨k, hk⟩ l) * Q (ix4 0 h l ⟨512 * q.val + r.val, qry_lt q r⟩) = X k)

include hX in
/-- The running maximum is the online softmax's. -/
theorem runMax_apply : ∀ (n : ℕ) (hn : n ≤ 16), runMax K Q h q n hn (ix2 0 r) = mx X n
  | 0, _ => pay5_apply r
  | n + 1, hn => by
    rw [runMax_succ, pay16_apply, runMax_apply n, colMax_apply, mx]
    simp only [score_apply]
    congr 2
    exact funext fun j => hX _ _

include hX in
/-- The accumulator is the online softmax's. -/
theorem runAcc_apply (i : Fin 80) : ∀ (n : ℕ) (hn : n ≤ 16), runAcc K Q V h q n hn (ix2 i r) = ac X (rowVals V h i) n
  | 0, _ => pay6_apply i r
  | n + 1, hn => by
    rw [runAcc_succ, pay17_apply, ← runMax_succ, runMax_apply K Q h q r X hX, runMax_apply K Q h q r X hX, runAcc_apply i n, ac]
    congr 1
    refine Finset.sum_congr rfl fun j _ => ?_
    rw [score_apply, hX]
    congr 1
    have hlt : 512 * n + j.val < 8192 := by omega
    rw [rowVals, dif_pos hlt]
    by_cases hi : i.val < 64
    · rw [dif_pos hi, dif_pos hi]; pointwise [vChunk]
    · rw [dif_neg hi, dif_neg hi]

/-- The block element of head `h`, column `d`, for the query `r` of tile `q`, as the accumulator leaves it. -/
theorem outTile_apply (d : Fin 128) (hh : h.val = d.val / 64) :
    outTile K Q V q (ix3 0 r d) = runAcc K Q V h q 16 le_rfl (ix2 ⟨d.val % 64, by omega⟩ r) * Ideal.div 1 (runAcc K Q V h q 16 le_rfl (ix2 64 r)) := by
  have key : outTile K Q V q (ix3 0 r d) = if hd : d.val < 64 then
        runAcc K Q V 0 q 16 le_rfl (ix2 ⟨d.val, by omega⟩ r) * Ideal.div 1 (runAcc K Q V 0 q 16 le_rfl (ix2 64 r))
      else runAcc K Q V 1 q 16 le_rfl (ix2 ⟨d.val - 64, by omega⟩ r) * Ideal.div 1 (runAcc K Q V 1 q 16 le_rfl (ix2 64 r)) := by
    unfold outTile
    generalize runAcc K Q V 0 q 16 le_rfl = A0
    generalize runAcc K Q V 1 q 16 le_rfl = A1
    pointwise [k0_pay4, normed, accVals, accSum]
  rw [key]
  by_cases hd : d.val < 64
  · rw [dif_pos hd]
    obtain rfl : h = 0 := Fin.ext (by rw [hh]; show d.val / 64 = 0; omega)
    simp only [Nat.mod_eq_of_lt hd]
  · rw [dif_neg hd]
    obtain rfl : h = 1 := Fin.ext (by rw [hh]; show d.val / 64 = 1; omega)
    have : d.val % 64 = d.val - 64 := by omega
    simp only [this]

end Cert.Attn
-- ==== Proof.Value.lean ====
/-
  The kernel's result at an index: at real queries and keys, the attention of `Spec.lean`.
-/
module

public import proofs.«01_k».proof.Proof.Host
public import proofs.«01_k».proof.Proof.Tile
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe

/-! ## The blocks of a point: `t / 4` its batch, `t % 4` its pair of heads -/

/-- The blocks' indices. -/
theorem block_index : ∀ t : Fin grid0.N, win0_0.index t = ![t.val / 4, t.val % 4, 0, 0] ∧ win0_1.index t = ![t.val / 4, t.val % 4, 0, 0]
    ∧ win0_2.index t = ![t.val / 4, t.val % 4, 0] ∧ win0_3.index t = ![t.val / 4, 0, t.val % 4] := by decide +kernel

theorem points (t : Fin cfg0.N) : t.val < 8 := t.isLt

variable (m : (ℓ : Loc nD τ sig) → Buf (Elt Ideal) ℓ) (c : Dev nD)

/-- The queries' block. -/
theorem q_block (t : Fin cfg0.N) (h : Fin 2) (l : Fin 128) (s : Fin 8192) :
    (iblk m c 0 t : QBlk Ideal) (ix4 0 h l s) = qHost (m ((c : Thread nD τ).loc main_arg0)) (m ((c : Thread nD τ).loc main_arg1))
      (ix4 ⟨t.val / 4, by have := points t; omega⟩ ⟨2 * (t.val % 4) + h.val, by omega⟩ l s) := by
  rw [← V_q m c]
  generalize hX : V m c main_v9 = X
  have : iblk m c 0 t = ((cfg0.win 0).blk t).view.read (Elt Ideal) X := by unfold iblk; rw [← hX]
  rw [this]
  have := points t
  blk_ext [block_index t]

/-- The keys' block. -/
theorem k_block (t : Fin cfg0.N) (h : Fin 2) (s : Fin 8192) (l : Fin 128) :
    (iblk m c 1 t : KBlk Ideal) (ix4 0 h s l) = kHost (m ((c : Thread nD τ).loc main_arg2)) (m ((c : Thread nD τ).loc main_arg3))
      (ix4 ⟨t.val / 4, by have := points t; omega⟩ ⟨2 * (t.val % 4) + h.val, by omega⟩ s l) := by
  rw [← V_k m c]
  generalize hX : V m c main_v14 = X
  have : iblk m c 1 t = ((cfg0.win 1).blk t).view.read (Elt Ideal) X := by unfold iblk; rw [← hX]
  rw [this]
  have := points t
  blk_ext [block_index t]

/-- The values' block. -/
theorem v_block (t : Fin cfg0.N) (e : Fin 128) (s : Fin 8192) :
    (iblk m c 2 t : VBlk Ideal) (ix3 0 e s) = vHost (m ((c : Thread nD τ).loc main_arg4))
      (ix3 ⟨t.val / 4, by have := points t; omega⟩ ⟨128 * (t.val % 4) + e.val, by omega⟩ s) := by
  rw [← V_v m c]
  generalize hX : V m c main_v17 = X
  have : iblk m c 2 t = ((cfg0.win 2).blk t).view.read (Elt Ideal) X := by unfold iblk; rw [← hX]
  rw [this]
  have := points t
  blk_ext [block_index t]

/-! ## A point's result -/

variable (r0 : R64) (r1 : R32) (r2 : R64) (r3 : RKr) (x4 : Vals)

/-- The factor on the queries is one over `log 2` times the root of 96. -/
theorem qf_eq : qf = ((1 / (Real.log 2 * √96) : ℝ) : EReal) := by
  unfold qf
  rw [log_two, sqrt_96, ← EReal.coe_mul, Ideal.div_coe (mul_pos log_two_pos sqrt_96_pos).ne', one_mul]

/-- The product over the 128 prepared columns is the score in units of `log 2`. -/
theorem prepared_score (b : Fin 2) (h : Fin 8) (s k : Fin 8192) :
    ∑ l : Fin 128, kHost (up r2) (up r3) (ix4 b h k l) * qHost (up r0) (up r1) (ix4 b h l s)
      = ((scores r0 r1 r2 r3 b h s k.val / Real.log 2 : ℝ) : EReal) := by
  simp only [kHost_apply, qHost_apply, qf_eq]
  have e : ∀ l : Fin 128, (if h₁ : l.val < 64 then up r2 (ix4 b k h ⟨l.val, h₁⟩) else if h₂ : l.val - 64 < 32 then up r3 (ix3 b k ⟨l.val - 64, h₂⟩) else 0)
      * ((if h₁ : l.val < 64 then up r0 (ix4 b s h ⟨l.val, h₁⟩) else if h₂ : l.val - 64 < 32 then up r1 (ix4 b s h ⟨l.val - 64, h₂⟩) else 0)
        * ((1 / (Real.log 2 * √96) : ℝ) : EReal))
      = (((if h₁ : l.val < 64 then r0 (ix4 b s h ⟨l.val, h₁⟩) * r2 (ix4 b k h ⟨l.val, h₁⟩)
        else if h₂ : l.val - 64 < 32 then r1 (ix4 b s h ⟨l.val - 64, h₂⟩) * r3 (ix3 b k ⟨l.val - 64, h₂⟩) else 0) * (1 / (Real.log 2 * √96)) : ℝ) : EReal) := fun l => by
    split
    · rw [up, up, ← EReal.coe_mul, ← EReal.coe_mul]; congr 1; ring
    · split
      · rw [up, up, ← EReal.coe_mul, ← EReal.coe_mul]; congr 1; ring
      · simp
  rw [Finset.sum_congr rfl fun l _ => e l, ← coe_sum, ← Finset.sum_mul]
  have hs : ∀ f : Fin 128 → ℝ, ∑ l, f l = ∑ l : Fin 64, f ⟨l.val, by omega⟩ + (∑ l : Fin 32, f ⟨64 + l.val, by omega⟩ + ∑ l : Fin 32, f ⟨96 + l.val, by omega⟩) := fun f => by
    rw [Fin.sum_univ_add (a := 64) (b := 64) f, Fin.sum_univ_add (a := 32) (b := 32) fun l => f (Fin.natAdd 64 l)]
    rfl
  congr 1
  rw [hs]
  have e1 : ∀ l : Fin 32, ¬ 64 + l.val < 64 := fun l => by omega
  have e2 : ∀ l : Fin 32, ¬ 96 + l.val < 64 := fun l => by omega
  have e3 : ∀ l : Fin 32, ¬ 96 + l.val - 64 < 32 := fun l => by omega
  have e4 : ∀ l : Fin 32, 64 + l.val - 64 = l.val := fun l => by omega
  simp only [Fin.is_lt, dif_pos, e1, e2, e3, e4, dif_neg, not_false_eq_true, Finset.sum_const_zero, add_zero, scores, dots]
  have := log_two_pos
  have := sqrt_96_pos
  field_simp

/-- A row of the values' block is a column of the argument. -/
theorem row_vals (V : VBlk Ideal) (b : Fin 2) (p : Fin 4) (hV : ∀ (e : Fin 128) s, V (ix3 0 e s) = vHost x4 (ix3 b ⟨128 * p.val + e.val, by omega⟩ s))
    (h : Fin 2) (i : Fin 64) : rowVals V h ⟨i.val, by omega⟩ = vals x4 b ⟨2 * p.val + h.val, by omega⟩ i := funext fun k => by
  unfold rowVals vals
  by_cases hk : k < 8192
  · rw [dif_pos hk, dif_pos hk, dif_pos i.isLt, hV, vHost_apply]
    have e1 : (⟨(128 * p.val + (64 * h.val + i.val)) / 64, by omega⟩ : Fin 8) = ⟨2 * p.val + h.val, by omega⟩ := Fin.ext (by show (128 * p.val + (64 * h.val + i.val)) / 64 = 2 * p.val + h.val; omega)
    have e2 : (⟨(128 * p.val + (64 * h.val + i.val)) % 64, by omega⟩ : Fin 64) = i := Fin.ext (by show (128 * p.val + (64 * h.val + i.val)) % 64 = i.val; omega)
    rw [e1, e2]
  · rw [dif_neg hk, dif_neg hk]

/-- Row 64 sums ones. -/
theorem row_ones (V : VBlk Ideal) (h : Fin 2) (k : ℕ) (hk : k < 8192) : rowVals V h 64 k = 1 := by
  rw [rowVals, dif_pos hk, dif_neg (by decide)]
  exact if_pos (by decide)

/-- A tile's element, where the blocks are those of batch `b` and the heads `2 p` and `2 p + 1`. -/
theorem tile_out (K : KBlk Ideal) (Q : QBlk Ideal) (V : VBlk Ideal) (b : Fin 2) (p : Fin 4)
    (hK : ∀ (h : Fin 2) s l, K (ix4 0 h s l) = kHost (up r2) (up r3) (ix4 b ⟨2 * p.val + h.val, by omega⟩ s l))
    (hQ : ∀ (h : Fin 2) l s, Q (ix4 0 h l s) = qHost (up r0) (up r1) (ix4 b ⟨2 * p.val + h.val, by omega⟩ l s))
    (hV : ∀ (e : Fin 128) s, V (ix3 0 e s) = vHost x4 (ix3 b ⟨128 * p.val + e.val, by omega⟩ s)) (q : Fin 16) (r : Fin 512) (s : Fin 8192)
    (hs : 512 * q.val + r.val = s.val) (d : Fin 128) (h : Fin 2) (hh : h.val = d.val / 64) (i : Fin 64) (hi : i.val = d.val % 64) :
    outTile K Q V q (ix3 0 r d) = attn r0 r1 r2 r3 x4 b ⟨2 * p.val + h.val, by omega⟩ s i := by
  have hX : ∀ (k : ℕ) (hk : k < 8192), ∑ l : Fin 128, K (ix4 0 h ⟨k, hk⟩ l) * Q (ix4 0 h l ⟨512 * q.val + r.val, qry_lt q r⟩)
      = ((scores r0 r1 r2 r3 b ⟨2 * p.val + h.val, by omega⟩ s k / Real.log 2 : ℝ) : EReal) := fun k hk => by
    have e : (⟨512 * q.val + r.val, qry_lt q r⟩ : Fin 8192) = s := Fin.ext hs
    simp only [e, hQ, hK]
    exact prepared_score r0 r1 r2 r3 _ _ s ⟨k, hk⟩
  have ei : (⟨d.val % 64, by omega⟩ : Fin 80) = ⟨i.val, by omega⟩ := Fin.ext hi.symm
  rw [outTile_apply K Q V h q r d hh, runAcc_apply K Q V h q r _ hX, runAcc_apply K Q V h q r _ hX, attn, ← online, ei, row_vals x4 V b p hV,
    ac_congr _ (row_ones V h)]

section Real
variable (h0 : m ((c : Thread nD τ).loc main_arg0) = up r0) (h1 : m ((c : Thread nD τ).loc main_arg1) = up r1)
  (h2 : m ((c : Thread nD τ).loc main_arg2) = up r2) (h3 : m ((c : Thread nD τ).loc main_arg3) = up r3)
  (h4 : m ((c : Thread nD τ).loc main_arg4) = x4)

include h0 h1 h2 h3 h4 in
/-- What a point leaves in its block is the attention of its batch and pair of heads. -/
theorem point_out (t : Fin cfg0.N) (s : Fin 8192) (d : Fin 128) :
    outAll (iblk m c 1 t) (iblk m c 0 t) (iblk m c 2 t) (ix3 0 s d)
      = attn r0 r1 r2 r3 x4 ⟨t.val / 4, by have := points t; omega⟩ ⟨2 * (t.val % 4) + d.val / 64, by omega⟩ s ⟨d.val % 64, by omega⟩ :=
  tile_out r0 r1 r2 r3 x4 (iblk m c 1 t) (iblk m c 0 t) (iblk m c 2 t) ⟨t.val / 4, by have := points t; omega⟩ ⟨t.val % 4, by omega⟩
    (fun h s l => by rw [k_block, h2, h3]) (fun h l s => by rw [q_block, h0, h1]) (fun e s => by rw [v_block, h4])
    ⟨s.val / 512, by omega⟩ ⟨s.val % 512, by omega⟩ s (by show 512 * (s.val / 512) + s.val % 512 = s.val; omega) d ⟨d.val / 64, by omega⟩ rfl ⟨d.val % 64, by omega⟩ rfl

/-- The whole result. -/
def result : Vec Ideal S2x8192x512 .f32 := fun i =>
  attn r0 r1 r2 r3 x4 (i 0) ⟨(i 2).val / 64, by have : (i 2).val < 512 := (i 2).isLt; omega⟩ (i 1) ⟨(i 2).val % 64, by omega⟩

include h0 h1 h2 h3 h4 in
/-- The result array after the last point. -/
theorem result_eq : (dats m 0 c).arrAt 3 cfg0.N = result r0 r1 r2 r3 x4 := by
  refine (dats m 0 c).arrAt_eq_of_covers 3 _ (by decide +kernel) fun t hf y => ?_
  blk_simp
  obtain ⟨a, s, d, rfl⟩ : ∃ (a : Fin 1) (s : Fin 8192) (d : Fin 128), y = ix3 a s d := ⟨y 0, y 1, y 2, eq_ix3 y⟩
  obtain rfl : a = 0 := Subsingleton.elim _ _
  refine (point_out m c r0 r1 r2 r3 x4 h0 h1 h2 h3 h4 t s d).trans ?_
  have ht := points t
  generalize hz : (win0_3.blk t).view.emb (ix3 0 s d) = z
  have z0 : (z 0).val = t.val / 4 := by rw [← hz]; blk_simp [block_index t]; simp
  have z1 : (z 1).val = s.val := by rw [← hz]; blk_simp [block_index t]
  have z2 : (z 2).val = 128 * (t.val % 4) + d.val := by rw [← hz]; blk_simp [block_index t]; simp; omega
  unfold result
  congr 1
  · exact Fin.ext z0.symm
  · exact Fin.ext (by show 2 * (t.val % 4) + d.val / 64 = (z 2).val / 64; omega)
  · exact Fin.ext z1.symm
  · exact Fin.ext (by show d.val % 64 = (z 2).val % 64; omega)
end Real

end Cert.Attn
-- ==== Proof.Ref.lean ====
/-
  The reference's result at an index: the plain softmax of `Online.lean`, at real queries and keys.
-/
module

public import proofs.«01_k».proof.Proof.Gen.ReferenceIdeal.Read
public import proofs.«01_k».proof.Proof.Spec

@[expose] public section

set_option maxRecDepth 16384

noncomputable section

namespace Cert.Attn

open Cert.ReferenceIdeal Cert.ReferenceIdeal.Gen Cert.ReferenceIdeal.Read
open Idealize.ShloMosaic Idealize.ShloMosaic.TcCoe

variable {x0 : (⟨S2x8192x8x64, .f32⟩ : BufTy).Contents (Elt Ideal)} {x1 : (⟨S2x8192x8x32, .f32⟩ : BufTy).Contents (Elt Ideal)}
  {x2 : (⟨S2x8192x8x64, .f32⟩ : BufTy).Contents (Elt Ideal)} {x3 : (⟨S2x8192x32, .f32⟩ : BufTy).Contents (Elt Ideal)}
variable (r0 : R64) (r1 : R32) (r2 : R64) (r3 : RKr) (x4 : Vals)

/-- The scaled scores. -/
theorem ref_score (b : Fin 2) (h : Fin 8) (s k : Fin 8192) :
    val_main_v7 (F := Ideal) (up r0) (up r1) (up r2) (up r3) (ix4 b h s k) = (scores r0 r1 r2 r3 b h s k.val : EReal) := by
  have e : val_main_v7 (F := Ideal) (up r0) (up r1) (up r2) (up r3) (ix4 b h s k)
      = (∑ l : Fin 64, up r0 (ix4 b s h l) * up r2 (ix4 b k h l) + ∑ l : Fin 32, up r3 (ix3 b k l) * up r1 (ix4 b s h l))
        * Ideal.div 1 (Ideal.sqrt (Ideal.ofBits .f32 0x42C00000#32)) := by
    pointwise [val_main_v7, val_main_v6, val_main_v5, val_main_v4, val_main_v3, val_main_v2, val_main_v1, val_main_v0, val_main_cst, val_main_cst_0]
  rw [e, sqrt_96, Ideal.div_coe sqrt_96_pos.ne', one_mul]
  simp only [up, ← EReal.coe_mul, ← coe_sum, ← EReal.coe_add]
  congr 1
  simp only [scores, dif_pos k.isLt, dots]
  rw [mul_one_div]
  congr 2
  exact Finset.sum_congr rfl fun l _ => mul_comm _ _

/-- The greatest score of a query is real. -/
theorem ref_max (b : Fin 2) (h : Fin 8) (s : Fin 8192) :
    ∃ M : ℝ, val_main_v8 (F := Ideal) (up r0) (up r1) (up r2) (up r3) (ix3 b h s) = (M : EReal) := by
  obtain ⟨M, hM⟩ := fold_max_real fun k : Fin 8192 => scores r0 r1 r2 r3 b h s k.val
  refine ⟨M, ?_⟩
  rw [← hM]
  simp only [← ref_score]
  unfold val_main_v8
  generalize val_main_v7 (F := Ideal) (up r0) (up r1) (up r2) (up r3) = Y
  rw [← ofBits_neg_inf]
  pointwise [val_main_cst_1]

/-- The maximum guarded below by minus infinity and spread along the keys. -/
theorem spread (Z : FVec Ideal S2x8x8192 .f32) (b : Fin 2) (h : Fin 8) (s k : Fin 8192) :
    (broadcastInDim S2x8x8192x8192 ![0, 1, 2, 3] bcast_S2x8x8192x1_S2x8x8192x8192_0_1_2_3
      (broadcastInDim S2x8x8192x1 ![0, 1, 2] bcast_S2x8x8192_S2x8x8192x1_0_1_2 (maximumf (val_main_v9 (F := Ideal)) Z)) : FVec Ideal S2x8x8192x8192 .f32) (ix4 b h s k)
      = Z (ix3 b h s) := by
  have e : (broadcastInDim S2x8x8192x8192 ![0, 1, 2, 3] bcast_S2x8x8192x1_S2x8x8192x8192_0_1_2_3
      (broadcastInDim S2x8x8192x1 ![0, 1, 2] bcast_S2x8x8192_S2x8x8192x1_0_1_2 (maximumf (val_main_v9 (F := Ideal)) Z)) : FVec Ideal S2x8x8192x8192 .f32) (ix4 b h s k)
      = max (Ideal.ofBits .f32 0xFF800000#32) (Z (ix3 b h s)) := by
    pointwise [val_main_v9, val_main_cst_2]
  rw [e, ofBits_neg_inf]; exact max_eq_right bot_le

/-- The shift of a query's scores. -/
theorem ref_shift (b : Fin 2) (h : Fin 8) (s k : Fin 8192) :
    val_main_v12 (F := Ideal) x0 x1 x2 x3 (ix4 b h s k) = val_main_v8 (F := Ideal) x0 x1 x2 x3 (ix3 b h s) :=
  spread (val_main_v8 (F := Ideal) x0 x1 x2 x3) b h s k

/-- The exponential of a shifted score. -/
theorem ref_exp (b : Fin 2) (h : Fin 8) (s k : Fin 8192) :
    val_main_v14 (F := Ideal) x0 x1 x2 x3 (ix4 b h s k)
      = Ideal.exp (val_main_v7 (F := Ideal) x0 x1 x2 x3 (ix4 b h s k) - val_main_v8 (F := Ideal) x0 x1 x2 x3 (ix3 b h s)) := by
  rw [val_main_v14_apply, val_main_v13_apply, ref_shift]; rfl

/-- The softmax's denominator. -/
theorem ref_sum (b : Fin 2) (h : Fin 8) (s k : Fin 8192) :
    val_main_v17 (F := Ideal) x0 x1 x2 x3 (ix4 b h s k) = ∑ j : Fin 8192, val_main_v14 (F := Ideal) x0 x1 x2 x3 (ix4 b h s j) := by
  unfold val_main_v17 val_main_v16 val_main_v15
  generalize val_main_v14 (F := Ideal) x0 x1 x2 x3 = Z
  pointwise [val_main_cst_3]

/-- The weighted values, laid out as the result. -/
theorem ref_out (b : Fin 2) (s : Fin 8192) (j : Fin 512) :
    val_main_v21 (F := Ideal) x0 x1 x2 x3 x4 (ix3 b s j)
      = ∑ k : Fin 8192, x4 (ix4 b k ⟨j.val / 64, by omega⟩ ⟨j.val % 64, by omega⟩) * val_main_v18 (F := Ideal) x0 x1 x2 x3 (ix4 b ⟨j.val / 64, by omega⟩ s k) := by
  unfold val_main_v21 val_main_v20 val_main_v19
  generalize val_main_v18 (F := Ideal) x0 x1 x2 x3 = Z
  pointwise

/-- The reference's result is the attention. -/
theorem ref_attn (b : Fin 2) (s : Fin 8192) (j : Fin 512) :
    val_main_v21 (F := Ideal) (up r0) (up r1) (up r2) (up r3) x4 (ix3 b s j)
      = attn r0 r1 r2 r3 x4 b ⟨j.val / 64, by omega⟩ s ⟨j.val % 64, by omega⟩ := by
  generalize hh : (⟨j.val / 64, by omega⟩ : Fin 8) = h
  generalize hd : (⟨j.val % 64, by omega⟩ : Fin 64) = d
  obtain ⟨M, hM⟩ := ref_max r0 r1 r2 r3 b h s
  rw [ref_out, hh, hd, attn, ← plain _ _ M, Finset.sum_range, Finset.sum_range]
  refine Finset.sum_congr rfl fun k _ => ?_
  rw [val_main_v18_apply, ref_sum]
  simp only [ref_exp, ref_score, hM, vals, dif_pos k.isLt]
  rfl

end Cert.Attn
-- ==== Proof.Algebraic.lean ====
/-
  The value claim: under the precondition the idealized kernel and the idealized reference leave one array. The precondition is
  read as "these four arrays are arrays of reals"; on such arrays both programs return the attention of Spec.lean.
-/
module

public import proofs.«01_k».proof.Defs
public import proofs.«01_k».proof.Proof.Value
public import proofs.«01_k».proof.Proof.Ref
public import proofs.«01_k».proof.Proof.Gen.ReferenceIdeal.Run

@[expose] public section

set_option maxRecDepth 16384

noncomputable section

namespace Cert.Proof

open Idealize.ShloMosaic Idealize.SL.Sem Cert.Attn

/-- The shape relations the precondition's function takes. -/
theorem pre_facts : Cert.Pre_finite_queries_and_keys.Facts := ⟨by decide, by decide, by decide⟩

/-- The pattern the precondition compares with is infinity. -/
theorem ofBits_inf : Ideal.ofBits .f32 0x7F800000#32 = (⊤ : EReal) := by simp [Ideal.ofBits, Ideal.ieee]

/-- A number whose absolute value is below infinity is real. -/
theorem real_of_abs_lt (a : EReal) (h : max a (-a) < ⊤) : ∃ r : ℝ, (r : EReal) = a := by
  refine ⟨a.toReal, EReal.coe_toReal (fun e => ?_) (fun e => ?_)⟩ <;> simp [e] at h

/-- An array whose absolute values all compare below infinity is an array of reals. -/
theorem real_of_finite {S : Shape} (hb : (⟨0, ![]⟩ : Shape).BroadcastsInDim S (![] : Fin 0 → Fin S.rank)) (x : FVec Ideal S .f32)
    (h : cmpf .olt (Host.absf x) (broadcastInDim S ![] hb (constant (F := Ideal) ⟨0, ![]⟩ .f32 0x7F800000#32)) = fun _ => 1#1) :
    ∃ r : S.Idx → ℝ, x = up r := by
  have hr : ∀ i, ∃ r : ℝ, (r : EReal) = x i := fun i => by
    have hi : Ideal.cmp .olt (max (x i) (-(x i))) (Ideal.ofBits .f32 0x7F800000#32) = 1#1 := congrFun h i
    rw [ofBits_inf] at hi
    refine real_of_abs_lt _ (by_contra fun hn => ?_)
    simp [Ideal.cmp, hn] at hi
  choose r hr using hr
  exact ⟨r, funext fun i => (hr i).symm⟩

/-- The idealized reference's result on real queries and keys is the same array as the kernel's. -/
theorem ref_result (r0 : R64) (r1 : R32) (r2 : R64) (r3 : RKr) (x4 : Vals) :
    Cert.ReferenceIdeal.Read.val_main_v21 (F := Ideal) (up r0) (up r1) (up r2) (up r3) x4 = result r0 r1 r2 r3 x4 := by
  funext i
  rw [eq_ix3 i]
  exact ref_attn r0 r1 r2 r3 x4 (i 0) (i 1) (i 2)

/-- Kernel and reference, idealized, leave the same result from the same arguments when queries and keys are finite. -/
theorem algebraic : Cert.algebraic_KernelIdeal_ReferenceIdeal_pre_finite_queries_and_keys
    (hKernelIdeal := Cert.KernelIdeal.Gen.facts) (hReferenceIdeal := Cert.ReferenceIdeal.Gen.facts)
    (hPre_finite_queries_and_keys := pre_facts) := by
  intro m g m' g' hp ha
  choose r0 h0 using fun c => real_of_finite _ _ (hp c).1
  choose r1 h1 using fun c => real_of_finite _ _ (hp c).2.1
  choose r2 h2 using fun c => real_of_finite _ _ (hp c).2.2.1
  choose r3 h3 using fun c => real_of_finite _ _ (hp c).2.2.2
  refine ⟨fun c => result (r0 c) (r1 c) (r2 c) (r3 c) (m ((c.tc : Thread Cert.KernelIdeal.nD Cert.KernelIdeal.τ).loc Cert.KernelIdeal.main_arg4)), ?_, ?_⟩
  · exact (θ_run _ _ _).mono (fun r h c => ⟨(h.1 c).1.trans
      (result_eq m c (r0 c) (r1 c) (r2 c) (r3 c) _ (h0 c) (h1 c) (h2 c) (h3 c) rfl), (h.1 c).2⟩) (run_main (F := Ideal) m g)
  · refine (θ_run _ _ _).mono (fun r h c => ⟨(h c).1.trans ?_, (h c).2⟩) (Cert.ReferenceIdeal.Value.run (F := Ideal) m' g')
    obtain ⟨a0, a1, a2, a3, a4⟩ := ha c
    rw [a0, a1, a2, a3, a4, h0 c, h1 c, h2 c, h3 c]
    exact (Cert.ReferenceIdeal.Read.val_main_v21_eq _ _ _ _ _).trans (ref_result _ _ _ _ _)

end Cert.Proof

end
-- ==== Proof.Experts.lean ====
/-
  The experts' call: each grid point takes 512 rows of one expert; the first of an expert's four points copies its three weight
  matrices into scratch, and the other three read them there. What the scratch holds after a point, what a point writes, and what the
  whole array holds.
-/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Experts

open Cert.Kernel2Ideal Cert.Kernel2Ideal.Gen
open Idealize.ShloMosaic Idealize.ShloMosaic.TcCoe
open scoped BigOperators

/-! ## The mathematics -/

/-- The chosen rows: two sequences, 16 experts, 1024 rows of 1024 numbers. -/
abbrev Rows : Type := (⟨4, ![2, 16, 1024, 1024]⟩ : Shape).Idx → EReal
/-- One matrix per expert. -/
abbrev Wts : Type := (⟨3, ![16, 1024, 1024]⟩ : Shape).Idx → EReal

/-- A row through one of its expert's matrices. -/
def proj (x : Rows) (w : Wts) (b : Fin 2) (e : Fin 16) (s f : Fin 1024) : EReal := ∑ l : Fin 1024, x (ix4 b e s l) * w (ix3 e l f)
/-- The hidden numbers of a row: the gate's projection times its logistic, times the other projection. -/
def hidden (x : Rows) (wg wu : Wts) (b : Fin 2) (e : Fin 16) (s f : Fin 1024) : EReal :=
  proj x wg b e s f * Ideal.logistic (proj x wg b e s f) * proj x wu b e s f
/-- A row's result. -/
def expert (x : Rows) (wg wu wd : Wts) (b : Fin 2) (e : Fin 16) (s d : Fin 1024) : EReal :=
  ∑ f : Fin 1024, hidden x wg wu b e s f * wd (ix3 e f d)

/-! ## A point -/

/-- The scratch copy of the gate's matrix. -/
theorem pay1_apply (w : Vec Ideal S1x1024x1024 .f32) (i j : Fin 1024) : k0_pay1 w (ix2 i j) = w (ix3 0 i j) := by pointwise [k0_pay1]
/-- The scratch copy of the second matrix. -/
theorem pay2_apply (w : Vec Ideal S1x1024x1024 .f32) (i j : Fin 1024) : k0_pay2 w (ix2 i j) = w (ix3 0 i j) := by pointwise [k0_pay2]
/-- The scratch copy of the third matrix. -/
theorem pay3_apply (w : Vec Ideal S1x1024x1024 .f32) (i j : Fin 1024) : k0_pay3 w (ix2 i j) = w (ix3 0 i j) := by pointwise [k0_pay3]

/-- A point's result at an index, from its rows and the scratch. -/
theorem pay4_apply (x : Vec Ideal S1x512x1024 .bf16) (g u d : Vec Ideal S1024x1024 .bf16) (r : Fin 512) (j : Fin 1024) :
    k0_pay4 x g u d (ix3 0 r j) = ∑ f : Fin 1024, ((∑ l : Fin 1024, x (ix3 0 r l) * g (ix2 l f)) * Ideal.logistic (∑ l : Fin 1024, x (ix3 0 r l) * g (ix2 l f))
      * (∑ l : Fin 1024, x (ix3 0 r l) * u (ix2 l f)) : EReal) * d (ix2 f j) := by
  pointwise [k0_pay4]

/-! ## What the host prepares, and the blocks: `t / 4` the expert, `t % 4` the group of rows -/

/-- The blocks' indices. -/
theorem block_index : ∀ t : Fin grid0.N, win0_0.index t = ![t.val / 4, t.val % 4, 0] ∧ win0_1.index t = ![t.val / 4, 0, 0]
    ∧ win0_2.index t = ![t.val / 4, 0, 0] ∧ win0_3.index t = ![t.val / 4, 0, 0] ∧ win0_4.index t = ![t.val / 4, t.val % 4, 0] := by decide +kernel

/-- There are 64 points. -/
theorem points (t : Fin cfg0.N) : t.val < 64 := t.isLt

/-- The expert of a point. -/
def expertOf (t : Fin cfg0.N) : Fin 16 := ⟨t.val / 4, by have := points t; omega⟩

variable (m : (ℓ : Loc nD τ sig) → Buf (Elt Ideal) ℓ) (c : Dev nD)

/-- The rows as the call reads them: the two sequences' rows one after another under their expert. -/
def xHost (x : FVec Ideal S2x16x1024x1024 .f32) : FVec Ideal S16x2048x1024 .bf16 :=
  truncf .bf16 (shapeCast S16x2048x1024 (transpose S16x2x1024x1024 [1, 0, 2, 3] x transposes_S2x16x1024x1024_S16x2x1024x1024_1_0_2_3) shapeCasts_S16x2x1024x1024_S16x2048x1024) bitsLt_bf16_f32

/-- The array of rows when the call starts. -/
theorem V_x : V m c main_v2 = xHost (m ((c : Thread nD τ).loc main_arg0)) := by
  unfold V; after_results <;> rfl
/-- The gates' matrices when the call starts. -/
theorem V_g : V m c main_arg1 = m ((c : Thread nD τ).loc main_arg1) := by
  unfold V; after_results <;> rfl
/-- The second matrices when the call starts. -/
theorem V_u : V m c main_arg2 = m ((c : Thread nD τ).loc main_arg2) := by
  unfold V; after_results <;> rfl
/-- The third matrices when the call starts. -/
theorem V_d : V m c main_arg3 = m ((c : Thread nD τ).loc main_arg3) := by
  unfold V; after_results <;> rfl

/-- The rows at an index. -/
theorem xHost_apply (x : FVec Ideal S2x16x1024x1024 .f32) (e : Fin 16) (r : Fin 2048) (l : Fin 1024) :
    xHost x (ix3 e r l) = x (ix4 ⟨r.val / 1024, by omega⟩ e ⟨r.val % 1024, by omega⟩ l) := by
  pointwise [xHost]

/-- A point's rows. -/
theorem x_block (t : Fin cfg0.N) (r : Fin 512) (l : Fin 1024) :
    (iblk m c 0 t : Vec Ideal S1x512x1024 .bf16) (ix3 0 r l) = xHost (m ((c : Thread nD τ).loc main_arg0)) (ix3 (expertOf t) ⟨512 * (t.val % 4) + r.val, by omega⟩ l) := by
  rw [← V_x m c]
  generalize hX : V m c main_v2 = X
  have : iblk m c 0 t = ((cfg0.win 0).blk t).view.read (Elt Ideal) X := by unfold iblk; rw [← hX]
  rw [this]
  unfold expertOf
  blk_ext [block_index t]

/-- A point's gate matrix. -/
theorem g_block (t : Fin cfg0.N) (i j : Fin 1024) :
    (iblk m c 1 t : Vec Ideal S1x1024x1024 .f32) (ix3 0 i j) = (m ((c : Thread nD τ).loc main_arg1) : Wts) (ix3 (expertOf t) i j) := by
  rw [← V_g m c]
  generalize hX : V m c main_arg1 = X
  have : iblk m c 1 t = ((cfg0.win 1).blk t).view.read (Elt Ideal) X := by unfold iblk; rw [← hX]
  rw [this]
  unfold expertOf
  blk_ext [block_index t]

/-- A point's second matrix. -/
theorem u_block (t : Fin cfg0.N) (i j : Fin 1024) :
    (iblk m c 2 t : Vec Ideal S1x1024x1024 .f32) (ix3 0 i j) = (m ((c : Thread nD τ).loc main_arg2) : Wts) (ix3 (expertOf t) i j) := by
  rw [← V_u m c]
  generalize hX : V m c main_arg2 = X
  have : iblk m c 2 t = ((cfg0.win 2).blk t).view.read (Elt Ideal) X := by unfold iblk; rw [← hX]
  rw [this]
  unfold expertOf
  blk_ext [block_index t]

/-- A point's third matrix. -/
theorem d_block (t : Fin cfg0.N) (i j : Fin 1024) :
    (iblk m c 3 t : Vec Ideal S1x1024x1024 .f32) (ix3 0 i j) = (m ((c : Thread nD τ).loc main_arg3) : Wts) (ix3 (expertOf t) i j) := by
  rw [← V_d m c]
  generalize hX : V m c main_arg3 = X
  have : iblk m c 3 t = ((cfg0.win 3).blk t).view.read (Elt Ideal) X := by unfold iblk; rw [← hX]
  rw [this]
  unfold expertOf
  blk_ext [block_index t]

/-! ## After a point -/

/-- The first point of an expert: the scratch holds its matrices, and the result is of its rows and them. -/
theorem first_point (t : Fin cfg0.N) (h : t.val % 4 = 0) :
    outsAt0 m c t.val t.isLt = (k0_pay4 (iblk m c 0 t) (k0_pay1 (iblk m c 1 t)) (k0_pay2 (iblk m c 2 t)) (k0_pay3 (iblk m c 3 t)),
      k0_pay1 (iblk m c 1 t), k0_pay2 (iblk m c 2 t), k0_pay3 (iblk m c 3 t)) := by
  rw [outsAt0_A m c t h]
  refine Prod.ext ?_ (Prod.ext ?_ (Prod.ext ?_ ?_)) <;> dsimp only <;> frame_out

/-- Another point: the scratch is as the point before left it, and the result is of the point's rows and the scratch. -/
theorem later_point (t : Fin cfg0.N) (h : ¬t.val % 4 = 0) (hp : t.val - 1 < cfg0.N) :
    outsAt0 m c t.val t.isLt = (k0_pay4 (iblk m c 0 t) (outsAt0 m c (t.val - 1) hp).2.1 (outsAt0 m c (t.val - 1) hp).2.2.1 (outsAt0 m c (t.val - 1) hp).2.2.2,
      (outsAt0 m c (t.val - 1) hp).2) := by
  rw [outsAt0_B m c t h]
  refine Prod.ext ?_ rfl
  dsimp only
  generalize outsAt0 m c (t.val - 1) _ = o
  frame_out
  exact congr (congr (congrArg (k0_pay4 _) ((Memref.isWhole_whole cc0_scratch0).read_unread _)) ((Memref.isWhole_whole cc0_scratch1).read_unread _))
    ((Memref.isWhole_whole cc0_scratch2).read_unread _)

/-- At the first point of an expert the scratch becomes the copies of its matrices. -/
theorem first_scratch (n : ℕ) (hn : n < cfg0.N) (h : n % 4 = 0) :
    (outsAt0 m c n hn).2 = (k0_pay1 (iblk m c 1 ⟨n, hn⟩), k0_pay2 (iblk m c 2 ⟨n, hn⟩), k0_pay3 (iblk m c 3 ⟨n, hn⟩)) :=
  congrArg Prod.snd (first_point m c ⟨n, hn⟩ h)

/-- At another point the scratch stays. -/
theorem later_scratch (n : ℕ) (hn : n + 1 < cfg0.N) (h : ¬(n + 1) % 4 = 0) :
    (outsAt0 m c (n + 1) hn).2 = (outsAt0 m c n (Nat.lt_of_succ_lt hn)).2 := by
  have e := later_point m c ⟨n + 1, hn⟩ h (Nat.lt_of_succ_lt hn)
  simp only [Nat.add_sub_cancel] at e
  rw [e]

/-- The three scratch buffers hold the matrices of an expert. -/
def Holds (o : Vec Ideal S1024x1024 .bf16 × Vec Ideal S1024x1024 .bf16 × Vec Ideal S1024x1024 .bf16) (e : Fin 16) : Prop :=
  (∀ i j, (o.1 (ix2 i j) : EReal) = (m ((c : Thread nD τ).loc main_arg1) : Wts) (ix3 e i j))
  ∧ (∀ i j, (o.2.1 (ix2 i j) : EReal) = (m ((c : Thread nD τ).loc main_arg2) : Wts) (ix3 e i j))
  ∧ ∀ i j, (o.2.2 (ix2 i j) : EReal) = (m ((c : Thread nD τ).loc main_arg3) : Wts) (ix3 e i j)

/-- The copies of a point's matrices are those of its expert. -/
theorem copies (t : Fin cfg0.N) : Holds m c (k0_pay1 (iblk m c 1 t), k0_pay2 (iblk m c 2 t), k0_pay3 (iblk m c 3 t)) (expertOf t) :=
  ⟨fun i j => by dsimp only; rw [pay1_apply]; exact g_block m c t i j, fun i j => by dsimp only; rw [pay2_apply]; exact u_block m c t i j,
    fun i j => by dsimp only; rw [pay3_apply]; exact d_block m c t i j⟩

/-- After every point the scratch holds the matrices of the point's expert. -/
theorem held : ∀ (n : ℕ) (hn : n < cfg0.N), Holds m c (outsAt0 m c n hn).2 (expertOf ⟨n, hn⟩) := by
  intro n
  induction n with
  | zero =>
    intro hn
    rw [first_scratch m c 0 hn rfl]
    exact copies m c _
  | succ n ih =>
    intro hn
    by_cases h : (n + 1) % 4 = 0
    · rw [first_scratch m c (n + 1) hn h]
      exact copies m c _
    · rw [later_scratch m c n hn h, show expertOf ⟨n + 1, hn⟩ = expertOf ⟨n, Nat.lt_of_succ_lt hn⟩ from Fin.ext (by show (n + 1) / 4 = n / 4; omega)]
      exact ih _

/-- What every point writes is of its rows and the scratch as it stands after the point. -/
theorem point_pay (t : Fin cfg0.N) :
    (outsAt0 m c t.val t.isLt).1 = k0_pay4 (iblk m c 0 t) (outsAt0 m c t.val t.isLt).2.1 (outsAt0 m c t.val t.isLt).2.2.1 (outsAt0 m c t.val t.isLt).2.2.2 := by
  by_cases h : t.val % 4 = 0
  · rw [first_point m c t h]
  · rw [later_point m c t h (Nat.lt_of_le_of_lt (Nat.sub_le _ _) t.isLt)]

/-- A row of a point lies among the 2048 of its expert. -/
theorem row_lt (t : Fin cfg0.N) (r : Fin 512) : 512 * (t.val % 4) + r.val < 2048 := by omega

/-- The whole result: the rows of the two sequences one after another under their expert. -/
def result (x : Rows) (wg wu wd : Wts) : Vec Ideal S16x2048x1024 .bf16 := fun i =>
  expert x wg wu wd ⟨(i 1).val / 1024, by have : (i 1).val < 2048 := (i 1).isLt; omega⟩ (i 0) ⟨(i 1).val % 1024, by omega⟩ (i 2)

/-- A point's result at an index. -/
theorem point_out (t : Fin cfg0.N) (r : Fin 512) (j : Fin 1024) :
    ((outsAt0 m c t.val t.isLt).1 (ix3 0 r j) : EReal) = result (m ((c : Thread nD τ).loc main_arg0)) (m ((c : Thread nD τ).loc main_arg1))
      (m ((c : Thread nD τ).loc main_arg2)) (m ((c : Thread nD τ).loc main_arg3)) (ix3 (expertOf t) ⟨512 * (t.val % 4) + r.val, row_lt t r⟩ j) := by
  have hx := x_block m c t r
  obtain ⟨hg, hu, hd⟩ := held m c t.val t.isLt
  rw [point_pay, pay4_apply]
  generalize outsAt0 m c t.val t.isLt = o at hg hu hd ⊢
  generalize iblk m c 0 t = X at hx ⊢
  simp only [hx, xHost_apply, hg, hu, hd]
  rfl

/-- The result array after the last point. -/
theorem result_eq : (dats m 0 c).arrAt 4 cfg0.N = result (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  rw [after0_4]
  blk_simp
  obtain ⟨a, r, j, rfl⟩ : ∃ (a : Fin 1) (r : Fin 512) (j : Fin 1024), y = ix3 a r j := ⟨y 0, y 1, y 2, eq_ix3 y⟩
  obtain rfl : a = 0 := Subsingleton.elim _ _
  refine (point_out m c t r j).trans ?_
  generalize hz : (win0_4.blk t).view.emb (ix3 0 r j) = z
  have z0 : (z 0).val = t.val / 4 := by rw [← hz]; blk_simp [block_index t]; simp
  have z1 : (z 1).val = 512 * (t.val % 4) + r.val := by rw [← hz]; blk_simp [block_index t]; simp; omega
  have z2 : (z 2).val = j.val := by rw [← hz]; blk_simp [block_index t]
  congr 1
  rw [eq_ix3 z]
  congr 1
  · exact Fin.ext z0.symm
  · exact Fin.ext z1.symm
  · exact Fin.ext z2.symm

end Cert.Experts

end
-- ==== Proof.ExpertsRef.lean ====
/-
  The experts' reference at an index: the same `result` as the kernel's, stage by stage. The reference's products have the weight on
  the left.
-/
module

public import proofs.«01_k».proof.Proof.Experts
public import proofs.«01_k».proof.Proof.Gen.Reference2Ideal.Read

@[expose] public section

set_option maxRecDepth 16384

noncomputable section

namespace Cert.Experts

open Cert.Reference2Ideal Cert.Reference2Ideal.Gen Cert.Reference2Ideal.Read
open Idealize.ShloMosaic Idealize.ShloMosaic.TcCoe
open scoped BigOperators

variable (x : Rows) (wg wu wd : Wts)

/-- The gate's projection. -/
theorem ref_gate (b : Fin 2) (e : Fin 16) (s f : Fin 1024) : val_main_v1 (F := Ideal) x wg (ix4 b e s f) = proj x wg b e s f := by
  have h : val_main_v1 (F := Ideal) x wg (ix4 b e s f) = ∑ l : Fin 1024, wg (ix3 e l f) * x (ix4 b e s l) := by
    pointwise [val_main_v1, val_main_v0]
  rw [h]
  exact Finset.sum_congr rfl fun l _ => mul_comm _ _

/-- The other projection. -/
theorem ref_up (b : Fin 2) (e : Fin 16) (s f : Fin 1024) : val_main_v4 (F := Ideal) x wu (ix4 b e s f) = proj x wu b e s f := by
  have h : val_main_v4 (F := Ideal) x wu (ix4 b e s f) = ∑ l : Fin 1024, wu (ix3 e l f) * x (ix4 b e s l) := by
    pointwise [val_main_v4, val_main_v3]
  rw [h]
  exact Finset.sum_congr rfl fun l _ => mul_comm _ _

/-- The gate: the projection times its logistic. -/
theorem ref_silu (b : Fin 2) (e : Fin 16) (s f : Fin 1024) :
    val_main_v2 (F := Ideal) x wg (ix4 b e s f) = proj x wg b e s f * Ideal.logistic (proj x wg b e s f) := by
  rw [← ref_gate x wg b e s f]
  unfold val_main_v2 val_main_call0_v5 val_main_call0_v3 val_main_call0_v1 val_main_call0_v0
  generalize val_main_v1 (F := Ideal) x wg = Z
  pointwise [val_main_call0_v4, val_main_call0_cst_0, val_main_call0_v2, val_main_call0_cst]
  rfl

/-- The hidden numbers. -/
theorem ref_hidden (b : Fin 2) (e : Fin 16) (s f : Fin 1024) :
    val_main_v5 (F := Ideal) x wg wu (ix4 b e s f) = hidden x wg wu b e s f := by
  unfold hidden
  rw [val_main_v5_apply, ref_silu, ref_up]
  rfl

/-- The experts' rows before they are laid out under their experts. -/
theorem ref_rows (b : Fin 2) (e : Fin 16) (s d : Fin 1024) :
    val_main_v7 (F := Ideal) x wg wu wd (ix4 b e s d) = expert x wg wu wd b e s d := by
  have h : val_main_v7 (F := Ideal) x wg wu wd (ix4 b e s d)
      = ∑ f : Fin 1024, wd (ix3 e f d) * val_main_v5 (F := Ideal) x wg wu (ix4 b e s f) := by
    unfold val_main_v7 val_main_v6
    generalize val_main_v5 (F := Ideal) x wg wu = Z
    pointwise
  rw [h]
  exact Finset.sum_congr rfl fun f _ => by rw [ref_hidden, mul_comm]

/-- A row of the result is one of 1024 of its sequence. -/
theorem seq_lt (r : Fin 2048) : r.val / 1024 < 2 := by omega
/-- And its place there. -/
theorem place_lt (r : Fin 2048) : r.val % 1024 < 1024 := by omega

/-- The reference's result at an index. -/
theorem ref_at (e : Fin 16) (r : Fin 2048) (d : Fin 1024) : val_main_v10 (F := Ideal) x wg wu wd (ix3 e r d)
    = expert x wg wu wd ⟨r.val / 1024, seq_lt r⟩ e ⟨r.val % 1024, place_lt r⟩ d := by
  rw [← ref_rows]
  unfold val_main_v10 val_main_v9 val_main_v8
  generalize val_main_v7 (F := Ideal) x wg wu wd = Z
  pointwise

/-- The reference's result is `result`. -/
theorem ref_result : val_main_v10 (F := Ideal) x wg wu wd = result x wg wu wd := by
  funext i
  rw [eq_ix3 i]
  exact ref_at x wg wu wd (i 0) (i 1) (i 2)

end Cert.Experts

end
-- ==== Proof.ExpertsClaim.lean ====
/-
  The claims of the experts' call: its frames (one run, over any carrier of floats, gives both kernels') and the value claim.
-/
module

public import proofs.«01_k».proof.Defs
public import proofs.«01_k».proof.Proof.ExpertsRef
public import proofs.«01_k».proof.Proof.Gen.Kernel2

@[expose] public section

set_option maxRecDepth 16384

noncomputable section

namespace Cert.Experts

open Idealize.ShloMosaic Idealize.SL.Sem

/-- The two programs' body tables are one: label 0 runs the same body. -/
theorem defs₀_eq : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) => rfl

/-- So are the tables with the region's pipeline. -/
theorem defs_eq : Cert.Kernel2.defs (F := Bits) = Cert.Kernel2Ideal.defs (F := Bits) :=
  congrArg (Pipeline.defs (Cert.Kernel2Ideal.pcfgs (F := Bits))) defs₀_eq

/-- The kernel's frame at machine words: the run at `Bits`. -/
theorem frame_kernel : Cert.quiescent_Kernel2 := fun m ρ _ => by
  rw [defs_eq]
  exact Cert.Kernel2Ideal.Gen.frame (F := Bits) m ρ

/-- The idealized kernel's frame: the run at the extended reals. -/
theorem frame_kernelIdeal : Cert.quiescent_Kernel2Ideal := fun m ρ _ => Cert.Kernel2Ideal.Gen.frame (F := Ideal) m ρ

/-- The idealized reference's frame: its operations' run, and no semaphore to count. -/
theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference, idealized, leave the same result from the same arguments. -/
theorem algebraic : Cert.algebraic_Kernel2Ideal_Reference2Ideal
    (hKernel2Ideal := Cert.Kernel2Ideal.Gen.facts) (hReference2Ideal := Cert.Reference2Ideal.Gen.facts) := by
  intro m g m' g' _ ha
  refine ⟨fun c => result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)), ?_, ?_⟩
  · exact (θ_run _ _ _).mono (fun r h c => ⟨(h c).1.trans (result_eq m c), (h c).2⟩) (Cert.Kernel2Ideal.Value.run_blocks (F := Ideal) m g)
  · refine (θ_run _ _ _).mono (fun r h c => ⟨(h c).1.trans ?_, (h c).2⟩) (Cert.Reference2Ideal.Value.run (F := Ideal) m' g')
    obtain ⟨a0, a1, a2, a3⟩ := ha c
    rw [a0, a1, a2, a3]
    exact (Cert.Reference2Ideal.Read.val_main_v10_eq _ _ _ _).trans (ref_result _ _ _ _)

end Cert.Experts

end
-- ==== Proof.InProj.lean ====
/-
  The input projection: each grid point takes 512 positions of one sequence, modulates and projects them, and applies the short
  convolution to the Hyena columns; the two positions just outside the point come from blocks of eight rows beside it. What a point
  writes, and what the arrays hold.
-/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.InProj

open Cert.Kernel3Ideal Cert.Kernel3Ideal.Gen
open Idealize.ShloMosaic Idealize.ShloMosaic.TcCoe
open scoped BigOperators

/-! ## The mathematics -/

/-- Two sequences of 8192 positions of 1024 numbers. -/
abbrev Seqs : Type := (⟨3, ![2, 8192, 1024]⟩ : Shape).Idx → EReal
/-- One row of 1024 numbers per sequence. -/
abbrev Mods : Type := (⟨2, ![2, 1024]⟩ : Shape).Idx → EReal
/-- The projection: 256 columns for the queries, 128 for the compressed keys and values, 32 rotary, 1536 for the Hyena mixer. -/
abbrev Win : Type := (⟨2, ![1024, 1952]⟩ : Shape).Idx → EReal
/-- The second projection of the keys and values. -/
abbrev Wkv : Type := (⟨2, ![128, 1024]⟩ : Shape).Idx → EReal
/-- The gains of the norm. -/
abbrev Gain : Type := (⟨1, ![128]⟩ : Shape).Idx → EReal
/-- The convolution's three rows. -/
abbrev Cw : Type := (⟨2, ![3, 1536]⟩ : Shape).Idx → EReal
/-- The convolution's bias. -/
abbrev Cb : Type := (⟨1, ![1536]⟩ : Shape).Idx → EReal

/-- A column among those of the compressed keys and values. -/
theorem low_lt' (j : Fin 128) : 256 + j.val < 1952 := by omega
/-- A Hyena column. -/
theorem high_lt' (j : Fin 1536) : 416 + j.val < 1952 := by omega
/-- The column of a head's value. -/
theorem val_lt (e : Fin 512) : e.val / 64 * 128 + (64 + e.val % 64) < 1024 := by omega

/-- A position, modulated. -/
def modu (x : Seqs) (sc sh : Mods) (b : Fin 2) (s : Fin 8192) (l : Fin 1024) : EReal := x (ix3 b s l) * (1 + sc (ix2 b l)) + sh (ix2 b l)
/-- A column of its projection. -/
def col (x : Seqs) (sc sh : Mods) (w : Win) (b : Fin 2) (s : Fin 8192) (j : Fin 1952) : EReal := ∑ l : Fin 1024, modu x sc sh b s l * w (ix2 l j)
/-- The compressed keys and values of a position. -/
def low (x : Seqs) (sc sh : Mods) (w : Win) (b : Fin 2) (s : Fin 8192) (j : Fin 128) : EReal := col x sc sh w b s ⟨256 + j.val, low_lt' j⟩
/-- The Hyena columns of a position. -/
def high (x : Seqs) (sc sh : Mods) (w : Win) (b : Fin 2) (s : Fin 8192) (j : Fin 1536) : EReal := col x sc sh w b s ⟨416 + j.val, high_lt' j⟩
/-- The compressed keys and values over the root of their mean square, times the gains. -/
def normed (x : Seqs) (sc sh : Mods) (w : Win) (g : Gain) (b : Fin 2) (s : Fin 8192) (j : Fin 128) : EReal :=
  low x sc sh w b s j * Ideal.rsqrt (Ideal.div (∑ k : Fin 128, low x sc sh w b s k * low x sc sh w b s k) (Ideal.ofBits .f32 0x43000000#32)
    + Ideal.ofBits .f32 0x3727C5AC#32) * g (ix1 j)
/-- The values, a head's 64 numbers above the next one's. -/
def values (x : Seqs) (sc sh : Mods) (w : Win) (g : Gain) (wkv : Wkv) : (⟨3, ![2, 512, 8192]⟩ : Shape).Idx → EReal := fun i =>
  ∑ l : Fin 128, normed x sc sh w g (i 0) (i 2) l * wkv (ix2 l ⟨(i 1).val / 64 * 128 + (64 + (i 1).val % 64), val_lt (i 1)⟩)
/-- The Hyena columns of the position before; zero before the first. -/
def before (x : Seqs) (sc sh : Mods) (w : Win) (b : Fin 2) (s : Fin 8192) (j : Fin 1536) : EReal :=
  if s.val = 0 then 0 else high x sc sh w b ⟨s.val - 1, Nat.lt_of_le_of_lt (Nat.sub_le _ _) s.isLt⟩ j
/-- The Hyena columns of the position after; zero after the last. -/
def after (x : Seqs) (sc sh : Mods) (w : Win) (b : Fin 2) (s : Fin 8192) (j : Fin 1536) : EReal :=
  if h : s.val + 1 < 8192 then high x sc sh w b ⟨s.val + 1, h⟩ j else 0
/-- The short convolution along the positions. -/
def conv (x : Seqs) (sc sh : Mods) (w : Win) (cw : Cw) (cb : Cb) : (⟨3, ![2, 8192, 1536]⟩ : Shape).Idx → EReal := fun i =>
  cb (ix1 (i 2)) + cw (ix2 0 (i 2)) * before x sc sh w (i 0) (i 1) (i 2) + cw (ix2 1 (i 2)) * high x sc sh w (i 0) (i 1) (i 2)
    + cw (ix2 2 (i 2)) * after x sc sh w (i 0) (i 1) (i 2)

/-! ## A point's values at an index -/

/-- A choice by the equality of two words. -/
theorem select_eq {α : Type} (a b : BitVec 32) (x y : α) : Scalar.select (IntOp.cmpi .eq a b) x y = if a = b then x else y := by
  rw [WordCmp.cmpi_eq_eq]
  by_cases h : a = b
  · rw [if_pos h, decide_eq_true h]; rfl
  · rw [if_neg h, decide_eq_false h]; rfl

/-- A small number as a word is a given small number just when they are equal. -/
theorem word_eq (n k : ℕ) (hn : n < 4294967296) (hk : k < 4294967296) : (BitVec.ofNat 32 n = BitVec.ofNat 32 k) ↔ n = k := by
  refine ⟨fun h => ?_, fun h => by rw [h]⟩
  have := congrArg BitVec.toNat h
  rwa [BitVec.toNat_ofNat, BitVec.toNat_ofNat, Nat.mod_eq_of_lt hn, Nat.mod_eq_of_lt hk] at this

/-- The row a rotation by 511 brings to a row. -/
theorem next_lt (r : Fin 512) : (r.val + 512 - 511) % 512 < 512 := Nat.mod_lt _ (by decide)
/-- The row a rotation by one brings to a row. -/
theorem prev_lt (r : Fin 512) : (r.val + 512 - 1) % 512 < 512 := Nat.mod_lt _ (by decide)

/-- A modulated position. -/
theorem pay4_apply (x : Vec Ideal S1x512x1024 .f32) (sc sh : Vec Ideal S1x1x1024 .f32) (r : Fin 512) (l : Fin 1024) :
    k0_pay4 x sc sh (ix2 r l) = (x (ix3 0 r l) * (1 + sc (ix3 0 0 l)) + sh (ix3 0 0 l) : EReal) := by
  pointwise [k0_pay4]

/-- The point's Hyena columns before the convolution. -/
theorem pay7_apply (x : Vec Ideal S1x512x1024 .f32) (sc sh : Vec Ideal S1x1x1024 .f32) (w : Vec Ideal S1024x1536 .bf16) (r : Fin 512) (j : Fin 1536) :
    k0_pay7 x sc sh w (ix2 r j) = ∑ l : Fin 1024, ((x (ix3 0 r l) * (1 + sc (ix3 0 0 l)) + sh (ix3 0 0 l) : EReal)) * w (ix2 l j) := by
  unfold k0_pay7
  simp only [← pay4_apply x sc sh]
  generalize k0_pay4 x sc sh = U
  pointwise

/-- The Hyena columns of the position before the point. -/
theorem edge_before (xp xn : Vec Ideal S1x8x1024 .f32) (sc sh : Vec Ideal S1x1x1024 .f32) (w : Vec Ideal S1024x1536 .bf16) (j : Fin 1536) :
    k0_pay10 (k0_pay8 xp xn) (k0_pay9 sc) (Scalar.ofBits .f32 0x3F800000#32) sh w (ix2 7 j)
      = ∑ l : Fin 1024, ((xp (ix3 0 7 l) * (1 + sc (ix3 0 0 l)) + sh (ix3 0 0 l) : EReal)) * w (ix2 l j) := by
  pointwise [k0_pay10, k0_pay8, k0_pay9]

/-- The Hyena columns of the position after the point. -/
theorem edge_after (xp xn : Vec Ideal S1x8x1024 .f32) (sc sh : Vec Ideal S1x1x1024 .f32) (w : Vec Ideal S1024x1536 .bf16) (j : Fin 1536) :
    k0_pay10 (k0_pay8 xp xn) (k0_pay9 sc) (Scalar.ofBits .f32 0x3F800000#32) sh w (ix2 8 j)
      = ∑ l : Fin 1024, ((xn (ix3 0 0 l) * (1 + sc (ix3 0 0 l)) + sh (ix3 0 0 l) : EReal)) * w (ix2 l j) := by
  pointwise [k0_pay10, k0_pay8, k0_pay9]

/-- The next position's columns: inside the point the next row, at its end the row after it, or zero at the sequence's end. -/
theorem pay11_apply (a : BitVec 32) (hy : FVec Ideal S512x1536 .f32) (e : FVec Ideal S16x1024 .f32) (v28 : FVec Ideal S1x1024 .f32) (one : Ideal .f32)
    (sh : Vec Ideal S1x1x1024 .f32) (w : Vec Ideal S1024x1536 .bf16) (r : Fin 512) (j : Fin 1536) :
    k0_pay11 a hy e v28 one sh w (ix2 r j)
      = if r.val = 511 then (if a = 15#32 then (0 : EReal) else k0_pay10 e v28 one sh w (ix2 8 j)) else hy (ix2 ⟨(r.val + 512 - 511) % 512, next_lt r⟩ j) := by
  unfold k0_pay11
  generalize k0_pay10 e v28 one sh w = E
  pointwise
  rw [select_eq, show Scalar.cmpi .eq a 15#32 = IntOp.cmpi .eq a 15#32 from rfl, select_eq, if_congr (word_eq r.val 511 (by omega) (by decide)) rfl rfl]

/-- The first two terms of the convolution. -/
theorem pay12_apply (a : BitVec 32) (hy : FVec Ideal S512x1536 .f32) (e : FVec Ideal S16x1024 .f32) (v28 : FVec Ideal S1x1024 .f32) (one : Ideal .f32)
    (sh : Vec Ideal S1x1x1024 .f32) (w : Vec Ideal S1024x1536 .bf16) (cb c0 : Vec Ideal S1x1536 .f32) (r : Fin 512) (j : Fin 1536) :
    k0_pay12 a hy e v28 one sh w cb c0 (ix2 r j)
      = cb (ix2 0 j) + c0 (ix2 0 j) * (if r.val = 0 then (if a = 0#32 then (0 : EReal) else k0_pay10 e v28 one sh w (ix2 7 j)) else hy (ix2 ⟨(r.val + 512 - 1) % 512, prev_lt r⟩ j)) := by
  unfold k0_pay12
  generalize k0_pay10 e v28 one sh w = E
  pointwise
  rw [select_eq, show Scalar.cmpi .eq a 0#32 = IntOp.cmpi .eq a 0#32 from rfl, select_eq, if_congr (word_eq r.val 0 (by omega) (by decide)) rfl rfl]

/-- All of them. -/
theorem pay13_apply (hy dn s : FVec Ideal S512x1536 .f32) (c1 c2 : Vec Ideal S1x1536 .f32) (r : Fin 512) (j : Fin 1536) :
    k0_pay13 hy dn s c1 c2 (ix3 0 r j) = (s (ix2 r j) + c1 (ix2 0 j) * hy (ix2 r j) + c2 (ix2 0 j) * dn (ix2 r j) : EReal) := by
  pointwise [k0_pay13]

/-- The compressed keys and values, normalised. -/
theorem pay28_apply (u : FVec Ideal S512x1024 .bf16) (w : Vec Ideal S1024x128 .bf16) (g : Vec Ideal S1x128 .f32) (r : Fin 512) (j : Fin 128) :
    k0_pay28 u w g (ix2 r j) = (∑ l : Fin 1024, u (ix2 r l) * w (ix2 l j))
      * Ideal.rsqrt (Ideal.div (∑ k : Fin 128, (∑ l : Fin 1024, u (ix2 r l) * w (ix2 l k)) * (∑ l : Fin 1024, u (ix2 r l) * w (ix2 l k))) (Ideal.ofBits .f32 0x43000000#32) + Ideal.ofBits .f32 0x3727C5AC#32)
      * g (ix2 0 j) := by
  pointwise [k0_pay28]

/-- The values, transposed. -/
theorem pay3_apply (u : FVec Ideal S512x128 .bf16) (w : Vec Ideal S128x512 .bf16) (e r : Fin 512) :
    k0_pay3 u w (ix3 0 e r) = (∑ l : Fin 128, u (ix2 r l) * w (ix2 l e) : EReal) := by
  pointwise [k0_pay3]

/-! ## What the host prepares, and the blocks: `t / 16` the sequence, `t % 16` the group of positions -/

/-- The blocks' indices. -/
theorem block_index : ∀ t : Fin grid0.N, win0_0.index t = ![t.val / 16, t.val % 16, 0]
    ∧ win0_1.index t = ![t.val / 16, t.val % 16 * 64 - 1, 0] ∧ win0_2.index t = ![t.val / 16, min ((t.val % 16 + 1) * 64) 1023, 0]
    ∧ win0_3.index t = ![t.val / 16, 0, 0] ∧ win0_4.index t = ![t.val / 16, 0, 0] ∧ win0_7.index t = ![0, 0] ∧ win0_11.index t = ![0, 0]
    ∧ win0_13.index t = ![0, 0] ∧ win0_14.index t = ![0, 0] ∧ win0_15.index t = ![0, 0]
    ∧ win0_18.index t = ![t.val / 16, 0, t.val % 16] ∧ win0_19.index t = ![t.val / 16, t.val % 16, 0] := by decide +kernel

/-- The second coordinate of a point. -/
theorem coord_one : ∀ t : Fin grid0.N, (grid0.coords t 1).val = t.val % 16 := by decide +kernel

/-- There are 32 points. -/
theorem points (t : Fin cfg0.N) : t.val < 32 := t.isLt

/-- The sequence of a point. -/
def seqOf (t : Fin cfg0.N) : Fin 2 := ⟨t.val / 16, by have := points t; omega⟩
/-- A row of a point lies among the sequence's positions. -/
theorem row_lt (t : Fin cfg0.N) (r : Fin 512) : 512 * (t.val % 16) + r.val < 8192 := by omega
/-- The position of a point's row. -/
def posOf (t : Fin cfg0.N) (r : Fin 512) : Fin 8192 := ⟨512 * (t.val % 16) + r.val, row_lt t r⟩

/-- A column among those before the Hyena ones. -/
theorem low_lt (j : Fin 128) : 256 + j.val < 2176 := by omega
/-- A Hyena column. -/
theorem high_lt (j : Fin 1536) : 640 + j.val < 2176 := by omega
/-- The projection as the call reads it: the rotary columns widened and followed by their half-turned copy. -/
def wHost (w : FVec Ideal S1024x1952 .f32) : FVec Ideal S1024x2176 .bf16 :=
  let z1 : FVec Ideal S1024x64 .f32 := broadcastInDim S1024x64 ![] bcast_S_S1024x64 (constant S_ .f32 0x00000000#32)
  let z2 : FVec Ideal S1024x32 .f32 := broadcastInDim S1024x32 ![] bcast_S_S1024x32 (constant S_ .f32 0x00000000#32)
  let p : FVec Ideal S1024x32 .f32 := extractStridedSlice S1024x32 ![0, 384] w slices_S1024x1952_S1024x32_0_384
  let a : FVec Ideal S1024x16 .f32 := Host.negf (extractStridedSlice S1024x16 ![0, 16] p slices_S1024x32_S1024x16_0_16)
  let b : FVec Ideal S1024x16 .f32 := extractStridedSlice S1024x16 ![0, 0] p slices_S1024x32_S1024x16_0_0
  let q : FVec Ideal S1024x32 .f32 := concatenate S1024x32 1 [⟨S1024x16, a⟩, ⟨S1024x16, b⟩] concatenates_S1024x16_S1024x16_S1024x32_d1
  truncf .bf16 (concatenate S1024x2176 1 [⟨S1024x384, extractStridedSlice S1024x384 ![0, 0] w slices_S1024x1952_S1024x384_0_0⟩, ⟨S1024x64, z1⟩,
    ⟨S1024x32, p⟩, ⟨S1024x32, z2⟩, ⟨S1024x64, z1⟩, ⟨S1024x32, q⟩, ⟨S1024x32, z2⟩,
    ⟨S1024x1536, extractStridedSlice S1024x1536 ![0, 416] w slices_S1024x1952_S1024x1536_0_416⟩] concatenates_S1024x384_S1024x64_S1024x32_S1024x32_S1024x64_S1024x32_S1024x32_S1024x1536_S1024x2176_d1) bitsLt_bf16_f32

/-- The second projection's value columns as the call reads them. -/
def vHost (w : FVec Ideal S128x1024 .f32) : FVec Ideal S128x512 .bf16 :=
  truncf .bf16 (shapeCast S128x512 (extractStridedSlice S128x8x64 ![0, 0, 64] (shapeCast S128x8x128 w shapeCasts_S128x1024_S128x8x128) slices_S128x8x128_S128x8x64_0_0_64)
    shapeCasts_S128x8x64_S128x512) bitsLt_bf16_f32

/-- The columns of the compressed keys and values stay where they are. -/
theorem wHost_low (w : FVec Ideal S1024x1952 .f32) (l : Fin 1024) (j : Fin 128) :
    wHost w (ix2 l ⟨256 + j.val, low_lt j⟩) = w (ix2 l ⟨256 + j.val, low_lt' j⟩) := by
  pointwise [wHost]
  rw [dif_pos (by omega)]
/-- The Hyena columns come last. -/
theorem wHost_high (w : FVec Ideal S1024x1952 .f32) (l : Fin 1024) (j : Fin 1536) :
    wHost w (ix2 l ⟨640 + j.val, high_lt j⟩) = w (ix2 l ⟨416 + j.val, high_lt' j⟩) := by
  pointwise [wHost]
  rw [dif_neg (by omega), dif_neg (by omega), dif_neg (by omega), dif_neg (by omega), dif_neg (by omega), dif_neg (by omega), dif_neg (by omega)]
  exact congrArg (fun k => w (ix2 l k)) (Fin.ext (by show 416 + (640 + j.val - 384 - 64 - 32 - 32 - 64 - 32 - 32) = 416 + j.val; omega))
/-- The value columns at an index. -/
theorem vHost_apply (w : FVec Ideal S128x1024 .f32) (l : Fin 128) (e : Fin 512) :
    vHost w (ix2 l e) = w (ix2 l ⟨e.val / 64 * 128 + (64 + e.val % 64), val_lt e⟩) := by
  pointwise [vHost]

variable (m : (ℓ : Loc nD τ sig) → Buf (Elt Ideal) ℓ) (c : Dev nD)

/-- The positions when the call starts. -/
theorem V_x : V m c main_arg0 = m ((c : Thread nD τ).loc main_arg0) := by
  unfold V; after_results <;> rfl
set_option maxHeartbeats 2000000 in
/-- The scales when the call starts. -/
theorem V_sc : V m c main_v42 = broadcastInDim S2x1x1024 ![0, 2] bcast_S2x1024_S2x1x1024_0_2 (m ((c : Thread nD τ).loc main_arg1)) := by
  unfold V; after_results <;> rfl
set_option maxHeartbeats 2000000 in
/-- The shifts when the call starts. -/
theorem V_sh : V m c main_v43 = broadcastInDim S2x1x1024 ![0, 2] bcast_S2x1024_S2x1x1024_0_2 (m ((c : Thread nD τ).loc main_arg2)) := by
  unfold V; after_results <;> rfl
set_option maxHeartbeats 2000000 in
/-- The projection when the call starts. -/
theorem V_w : V m c main_v10 = wHost (m ((c : Thread nD τ).loc main_arg5)) := by
  unfold V; after_results <;> rfl
set_option maxHeartbeats 2000000 in
/-- The norm's gains when the call starts. -/
theorem V_g : V m c main_v45 = broadcastInDim S1x128 ![1] bcast_S128_S1x128_1 (m ((c : Thread nD τ).loc main_arg8)) := by
  unfold V; after_results <;> rfl
set_option maxHeartbeats 2000000 in
/-- The value columns when the call starts. -/
theorem V_wv : V m c main_v33 = vHost (m ((c : Thread nD τ).loc main_arg9)) := by
  unfold V; after_results <;> rfl
/-- The convolution's weights when the call starts. -/
theorem V_cw : V m c main_arg10 = m ((c : Thread nD τ).loc main_arg10) := by
  unfold V; after_results <;> rfl
set_option maxHeartbeats 2000000 in
/-- The convolution's bias when the call starts. -/
theorem V_cb : V m c main_v46 = broadcastInDim S1x1536 ![1] bcast_S1536_S1x1536_1 (m ((c : Thread nD τ).loc main_arg11)) := by
  unfold V; after_results <;> rfl

/-! ## The blocks of a point -/

/-- A point's positions. -/
theorem x_block (t : Fin cfg0.N) (r : Fin 512) (l : Fin 1024) :
    (iblk m c 0 t : Vec Ideal S1x512x1024 .f32) (ix3 0 r l) = (m ((c : Thread nD τ).loc main_arg0) : Seqs) (ix3 (seqOf t) (posOf t r) l) := by
  have h := V_x m c
  generalize hX : V m c main_arg0 = X at h
  have e : iblk m c 0 t = ((cfg0.win 0).blk t).view.read (Elt Ideal) X := by unfold iblk; rw [← hX]
  rw [e]
  refine Eq.trans (b := X (ix3 (seqOf t) (posOf t r) l)) ?_ ?_
  · unfold seqOf posOf
    blk_ext [block_index t]
  · rw [h]
/-- The position just before a point lies in the sequence. -/
theorem prev_block_lt (t : Fin cfg0.N) : (t.val % 16 * 64 - 1) * 8 + 7 < 8192 := by omega
/-- The position just after a point, or the last block's first one. -/
theorem next_block_lt (t : Fin cfg0.N) : min ((t.val % 16 + 1) * 64) 1023 * 8 < 8192 := by omega
/-- The eight positions before a point, or its own first ones at the sequence's start: the last of them. -/
theorem xp_block (t : Fin cfg0.N) (l : Fin 1024) :
    (iblk m c 1 t : Vec Ideal S1x8x1024 .f32) (ix3 0 7 l) = (m ((c : Thread nD τ).loc main_arg0) : Seqs) (ix3 (seqOf t) ⟨(t.val % 16 * 64 - 1) * 8 + 7, prev_block_lt t⟩ l) := by
  have h := V_x m c
  generalize hX : V m c main_arg0 = X at h
  have e : iblk m c 1 t = ((cfg0.win 1).blk t).view.read (Elt Ideal) X := by unfold iblk; rw [← hX]
  rw [e]
  refine Eq.trans (b := X (ix3 (seqOf t) ⟨(t.val % 16 * 64 - 1) * 8 + 7, by omega⟩ l)) ?_ ?_
  · unfold seqOf
    blk_ext [block_index t]
  · rw [h]
/-- The eight positions after a point, or its own last ones at the sequence's end: the first of them. -/
theorem xn_block (t : Fin cfg0.N) (l : Fin 1024) :
    (iblk m c 2 t : Vec Ideal S1x8x1024 .f32) (ix3 0 0 l) = (m ((c : Thread nD τ).loc main_arg0) : Seqs) (ix3 (seqOf t) ⟨min ((t.val % 16 + 1) * 64) 1023 * 8, next_block_lt t⟩ l) := by
  have h := V_x m c
  generalize hX : V m c main_arg0 = X at h
  have e : iblk m c 2 t = ((cfg0.win 2).blk t).view.read (Elt Ideal) X := by unfold iblk; rw [← hX]
  rw [e]
  refine Eq.trans (b := X (ix3 (seqOf t) ⟨min ((t.val % 16 + 1) * 64) 1023 * 8, by omega⟩ l)) ?_ ?_
  · unfold seqOf
    blk_ext [block_index t]
  · rw [h]
/-- A point's scales. -/
theorem sc_block (t : Fin cfg0.N) (l : Fin 1024) :
    (iblk m c 3 t : Vec Ideal S1x1x1024 .f32) (ix3 0 0 l) = (m ((c : Thread nD τ).loc main_arg1) : Mods) (ix2 (seqOf t) l) := by
  have h := V_sc m c
  generalize hX : V m c main_v42 = X at h
  have e : iblk m c 3 t = ((cfg0.win 3).blk t).view.read (Elt Ideal) X := by unfold iblk; rw [← hX]
  rw [e]
  refine Eq.trans (b := X (ix3 (seqOf t) 0 l)) ?_ ?_
  · unfold seqOf
    blk_ext [block_index t]
  · rw [h]
    pointwise
/-- A point's shifts. -/
theorem sh_block (t : Fin cfg0.N) (l : Fin 1024) :
    (iblk m c 4 t : Vec Ideal S1x1x1024 .f32) (ix3 0 0 l) = (m ((c : Thread nD τ).loc main_arg2) : Mods) (ix2 (seqOf t) l) := by
  have h := V_sh m c
  generalize hX : V m c main_v43 = X at h
  have e : iblk m c 4 t = ((cfg0.win 4).blk t).view.read (Elt Ideal) X := by unfold iblk; rw [← hX]
  rw [e]
  refine Eq.trans (b := X (ix3 (seqOf t) 0 l)) ?_ ?_
  · unfold seqOf
    blk_ext [block_index t]
  · rw [h]
    pointwise
/-- The projection. -/
theorem w_block (t : Fin cfg0.N) (l : Fin 1024) (j : Fin 2176) :
    (iblk m c 7 t : Vec Ideal S1024x2176 .bf16) (ix2 l j) = wHost (m ((c : Thread nD τ).loc main_arg5)) (ix2 l j) := by
  have h := V_w m c
  generalize hX : V m c main_v10 = X at h
  have e : iblk m c 7 t = ((cfg0.win 7).blk t).view.read (Elt Ideal) X := by unfold iblk; rw [← hX]
  rw [e]
  refine Eq.trans (b := X (ix2 l j)) ?_ ?_
  · blk_ext [block_index t]
  · rw [h]
/-- The gains. -/
theorem g_block (t : Fin cfg0.N) (j : Fin 128) :
    (iblk m c 11 t : Vec Ideal S1x128 .f32) (ix2 0 j) = (m ((c : Thread nD τ).loc main_arg8) : Gain) (ix1 j) := by
  have h := V_g m c
  generalize hX : V m c main_v45 = X at h
  have e : iblk m c 11 t = ((cfg0.win 11).blk t).view.read (Elt Ideal) X := by unfold iblk; rw [← hX]
  rw [e]
  refine Eq.trans (b := X (ix2 0 j)) ?_ ?_
  · blk_ext [block_index t]
  · rw [h]
    pointwise
/-- The value columns. -/
theorem wv_block (t : Fin cfg0.N) (l : Fin 128) (j : Fin 512) :
    (iblk m c 13 t : Vec Ideal S128x512 .bf16) (ix2 l j) = vHost (m ((c : Thread nD τ).loc main_arg9)) (ix2 l j) := by
  have h := V_wv m c
  generalize hX : V m c main_v33 = X at h
  have e : iblk m c 13 t = ((cfg0.win 13).blk t).view.read (Elt Ideal) X := by unfold iblk; rw [← hX]
  rw [e]
  refine Eq.trans (b := X (ix2 l j)) ?_ ?_
  · blk_ext [block_index t]
  · rw [h]
/-- The convolution's weights. -/
theorem cw_block (t : Fin cfg0.N) (k : Fin 3) (j : Fin 1536) :
    (iblk m c 14 t : Vec Ideal S3x1536 .f32) (ix2 k j) = (m ((c : Thread nD τ).loc main_arg10) : Cw) (ix2 k j) := by
  have h := V_cw m c
  generalize hX : V m c main_arg10 = X at h
  have e : iblk m c 14 t = ((cfg0.win 14).blk t).view.read (Elt Ideal) X := by unfold iblk; rw [← hX]
  rw [e]
  refine Eq.trans (b := X (ix2 k j)) ?_ ?_
  · blk_ext [block_index t]
  · rw [h]
/-- The convolution's bias. -/
theorem cb_block (t : Fin cfg0.N) (j : Fin 1536) :
    (iblk m c 15 t : Vec Ideal S1x1536 .f32) (ix2 0 j) = (m ((c : Thread nD τ).loc main_arg11) : Cb) (ix1 j) := by
  have h := V_cb m c
  generalize hX : V m c main_v46 = X at h
  have e : iblk m c 15 t = ((cfg0.win 15).blk t).view.read (Elt Ideal) X := by unfold iblk; rw [← hX]
  rw [e]
  refine Eq.trans (b := X (ix2 0 j)) ?_ ?_
  · blk_ext [block_index t]
  · rw [h]
    pointwise

/-! ## What a point writes -/

/-- The values of a point, from its blocks. -/
theorem out_values (i : grid0.Coords) (x0 : Vec Ideal S1x512x1024 .f32) (x1 x2 : Vec Ideal S1x8x1024 .f32) (x3 x4 : Vec Ideal S1x1x1024 .f32)
    (x5 x6 : Vec Ideal S1x128x512 .f32) (x7 : Vec Ideal S1024x2176 .bf16) (x8 : Vec Ideal S1x256 .f32) (x9 x10 : Vec Ideal S256x1024 .bf16)
    (x11 : Vec Ideal S1x128 .f32) (x12 : Vec Ideal S128x1024 .bf16) (x13 : Vec Ideal S128x512 .bf16) (x14 : Vec Ideal S3x1536 .f32) (x15 : Vec Ideal S1x1536 .f32) :
    out0_18 i x0 x1 x2 x3 x4 x5 x6 x7 x8 x9 x10 x11 x12 x13 x14 x15 = k0_pay3 (k0_pay28 (k0_pay4 x0 x3 x4) (View.ld x7 r0_21) x11) x13 := by
  unfold_out out0_18
  frame_out

/-- The convolution of a point, from its blocks. -/
theorem out_conv (i : grid0.Coords) (x0 : Vec Ideal S1x512x1024 .f32) (x1 x2 : Vec Ideal S1x8x1024 .f32) (x3 x4 : Vec Ideal S1x1x1024 .f32)
    (x5 x6 : Vec Ideal S1x128x512 .f32) (x7 : Vec Ideal S1024x2176 .bf16) (x8 : Vec Ideal S1x256 .f32) (x9 x10 : Vec Ideal S256x1024 .bf16)
    (x11 : Vec Ideal S1x128 .f32) (x12 : Vec Ideal S128x1024 .bf16) (x13 : Vec Ideal S128x512 .bf16) (x14 : Vec Ideal S3x1536 .f32) (x15 : Vec Ideal S1x1536 .f32) :
    out0_19 i x0 x1 x2 x3 x4 x5 x6 x7 x8 x9 x10 x11 x12 x13 x14 x15
      = k0_pay13 (k0_pay7 x0 x3 x4 (View.ld x7 r0_3))
          (k0_pay11 (BitVec.ofNat 32 (i 1).val) (k0_pay7 x0 x3 x4 (View.ld x7 r0_3)) (k0_pay8 x1 x2) (k0_pay9 x3) (Scalar.ofBits .f32 0x3F800000#32) x4 (View.ld x7 r0_3))
          (k0_pay12 (BitVec.ofNat 32 (i 1).val) (k0_pay7 x0 x3 x4 (View.ld x7 r0_3)) (k0_pay8 x1 x2) (k0_pay9 x3) (Scalar.ofBits .f32 0x3F800000#32) x4 (View.ld x7 r0_3)
            x15 (View.ld x14 r0_6)) (View.ld x14 r0_7) (View.ld x14 r0_8) := by
  unfold_out out0_19
  frame_out

/-- A load of the compressed columns. -/
theorem ld_low (w : Vec Ideal S1024x2176 .bf16) (l : Fin 1024) (j : Fin 128) : View.ld w r0_21 (ix2 l j) = w (ix2 l ⟨256 + j.val, low_lt j⟩) := by pointwise
/-- A load of the Hyena columns. -/
theorem ld_high (w : Vec Ideal S1024x2176 .bf16) (l : Fin 1024) (j : Fin 1536) : View.ld w r0_3 (ix2 l j) = w (ix2 l ⟨640 + j.val, high_lt j⟩) := by pointwise
/-- A load of the convolution's first row. -/
theorem ld_cw0 (w : Vec Ideal S3x1536 .f32) (j : Fin 1536) : View.ld w r0_6 (ix2 0 j) = w (ix2 0 j) := by pointwise
/-- A load of its second row. -/
theorem ld_cw1 (w : Vec Ideal S3x1536 .f32) (j : Fin 1536) : View.ld w r0_7 (ix2 0 j) = w (ix2 1 j) := by pointwise
/-- A load of its third row. -/
theorem ld_cw2 (w : Vec Ideal S3x1536 .f32) (j : Fin 1536) : View.ld w r0_8 (ix2 0 j) = w (ix2 2 j) := by pointwise

/-- The values of a point whose blocks hold their parts of the arguments. -/
theorem values_of (x : Seqs) (sc sh : Mods) (w : Win) (g : Gain) (wkv : Wkv) (t : Fin cfg0.N) (x0 : Vec Ideal S1x512x1024 .f32) (x3 x4 : Vec Ideal S1x1x1024 .f32)
    (x7 : Vec Ideal S1024x2176 .bf16) (x11 : Vec Ideal S1x128 .f32) (x13 : Vec Ideal S128x512 .bf16)
    (hx : ∀ r l, (x0 (ix3 0 r l) : EReal) = x (ix3 (seqOf t) (posOf t r) l)) (hsc : ∀ l, (x3 (ix3 0 0 l) : EReal) = sc (ix2 (seqOf t) l))
    (hsh : ∀ l, (x4 (ix3 0 0 l) : EReal) = sh (ix2 (seqOf t) l)) (hw : ∀ l j, (x7 (ix2 l j) : EReal) = wHost w (ix2 l j))
    (hg : ∀ j, (x11 (ix2 0 j) : EReal) = g (ix1 j)) (hv : ∀ l j, (x13 (ix2 l j) : EReal) = vHost wkv (ix2 l j)) (e r : Fin 512) :
    k0_pay3 (k0_pay28 (k0_pay4 x0 x3 x4) (View.ld x7 r0_21) x11) x13 (ix3 0 e r) = values x sc sh w g wkv (ix3 (seqOf t) e (posOf t r)) := by
  have hc : ∀ (s : Fin 512) (k : Fin 128), (∑ l : Fin 1024, (k0_pay4 x0 x3 x4 (ix2 s l) : EReal) * View.ld x7 r0_21 (ix2 l k)) = low x sc sh w (seqOf t) (posOf t s) k := fun s k => by
    unfold low col modu
    refine Finset.sum_congr rfl fun l _ => ?_
    rw [pay4_apply, ld_low, hx, hsc, hsh, hw, wHost_low]
  rw [pay3_apply]
  refine Finset.sum_congr rfl fun l _ => ?_
  rw [pay28_apply, hv, vHost_apply, hg]
  simp only [hc]
  rfl

/-- The values a point writes, at an index. -/
theorem point_values (t : Fin cfg0.N) (e r : Fin 512) :
    out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 e r)
      = values (m ((c : Thread nD τ).loc main_arg0)) (m ((c : Thread nD τ).loc main_arg1)) (m ((c : Thread nD τ).loc main_arg2)) (m ((c : Thread nD τ).loc main_arg5)) (m ((c : Thread nD τ).loc main_arg8)) (m ((c : Thread nD τ).loc main_arg9)) (ix3 (seqOf t) e (posOf t r)) := by
  rw [out_values]
  exact values_of _ _ _ _ _ _ t _ _ _ _ _ _ (x_block m c t) (sc_block m c t) (sh_block m c t) (w_block m c t) (g_block m c t) (wv_block m c t) e r

/-- The row before, from the point's rows and the edge row. -/
theorem before_eq (x : Seqs) (sc sh : Mods) (w : Win) (t : Fin cfg0.N) (H : FVec Ideal S512x1536 .f32) (E : EReal) (r : Fin 512) (j : Fin 1536)
    (hH : ∀ r : Fin 512, (H (ix2 r j) : EReal) = high x sc sh w (seqOf t) (posOf t r) j)
    (hE : E = high x sc sh w (seqOf t) ⟨(t.val % 16 * 64 - 1) * 8 + 7, prev_block_lt t⟩ j) :
    (if r.val = 0 then (if BitVec.ofNat 32 (grid0.coords t 1).val = 0#32 then (0 : EReal) else E) else H (ix2 ⟨(r.val + 512 - 1) % 512, prev_lt r⟩ j))
      = before x sc sh w (seqOf t) (posOf t r) j := by
  unfold before
  have ht := points t
  rw [coord_one t, if_congr (word_eq (t.val % 16) 0 (by omega) (by decide)) rfl rfl, hH, hE]
  have hp : (posOf t r).val = 512 * (t.val % 16) + r.val := rfl
  by_cases h : r.val = 0
  · rw [if_pos h]
    by_cases h' : t.val % 16 = 0
    · rw [if_pos h', if_pos (by omega)]
    · rw [if_neg h', if_neg (by omega)]
      exact congrArg (fun s => high x sc sh w (seqOf t) s j) (Fin.ext (by show (t.val % 16 * 64 - 1) * 8 + 7 = 512 * (t.val % 16) + r.val - 1; omega))
  · rw [if_neg h, if_neg (by omega)]
    exact congrArg (fun s => high x sc sh w (seqOf t) s j) (Fin.ext (by show 512 * (t.val % 16) + (r.val + 512 - 1) % 512 = 512 * (t.val % 16) + r.val - 1; omega))

/-- The row after, from the point's rows and the edge row. -/
theorem after_eq (x : Seqs) (sc sh : Mods) (w : Win) (t : Fin cfg0.N) (H : FVec Ideal S512x1536 .f32) (E : EReal) (r : Fin 512) (j : Fin 1536)
    (hH : ∀ r : Fin 512, (H (ix2 r j) : EReal) = high x sc sh w (seqOf t) (posOf t r) j)
    (hE : E = high x sc sh w (seqOf t) ⟨min ((t.val % 16 + 1) * 64) 1023 * 8, next_block_lt t⟩ j) :
    (if r.val = 511 then (if BitVec.ofNat 32 (grid0.coords t 1).val = 15#32 then (0 : EReal) else E) else H (ix2 ⟨(r.val + 512 - 511) % 512, next_lt r⟩ j))
      = after x sc sh w (seqOf t) (posOf t r) j := by
  unfold after
  have ht := points t
  rw [coord_one t, if_congr (word_eq (t.val % 16) 15 (by omega) (by decide)) rfl rfl, hH, hE]
  have hp : (posOf t r).val = 512 * (t.val % 16) + r.val := rfl
  by_cases h : r.val = 511
  · rw [if_pos h]
    by_cases h' : t.val % 16 = 15
    · rw [if_pos h', dif_neg (by omega)]
    · rw [if_neg h', dif_pos (by omega)]
      exact congrArg (fun s => high x sc sh w (seqOf t) s j) (Fin.ext (by show min ((t.val % 16 + 1) * 64) 1023 * 8 = 512 * (t.val % 16) + r.val + 1; omega))
  · rw [if_neg h, dif_pos (by omega)]
    exact congrArg (fun s => high x sc sh w (seqOf t) s j) (Fin.ext (by show 512 * (t.val % 16) + (r.val + 512 - 511) % 512 = 512 * (t.val % 16) + r.val + 1; omega))

/-- The convolution of a point whose blocks hold their parts of the arguments. -/
theorem conv_of (x : Seqs) (sc sh : Mods) (w : Win) (cw : Cw) (cb : Cb) (t : Fin cfg0.N) (x0 : Vec Ideal S1x512x1024 .f32) (x1 x2 : Vec Ideal S1x8x1024 .f32)
    (x3 x4 : Vec Ideal S1x1x1024 .f32) (x7 : Vec Ideal S1024x2176 .bf16) (x14 : Vec Ideal S3x1536 .f32) (x15 : Vec Ideal S1x1536 .f32)
    (hx : ∀ r l, (x0 (ix3 0 r l) : EReal) = x (ix3 (seqOf t) (posOf t r) l))
    (hp : ∀ l, (x1 (ix3 0 7 l) : EReal) = x (ix3 (seqOf t) ⟨(t.val % 16 * 64 - 1) * 8 + 7, prev_block_lt t⟩ l))
    (hn : ∀ l, (x2 (ix3 0 0 l) : EReal) = x (ix3 (seqOf t) ⟨min ((t.val % 16 + 1) * 64) 1023 * 8, next_block_lt t⟩ l))
    (hsc : ∀ l, (x3 (ix3 0 0 l) : EReal) = sc (ix2 (seqOf t) l)) (hsh : ∀ l, (x4 (ix3 0 0 l) : EReal) = sh (ix2 (seqOf t) l))
    (hw : ∀ l j, (x7 (ix2 l j) : EReal) = wHost w (ix2 l j)) (hcw : ∀ k j, (x14 (ix2 k j) : EReal) = cw (ix2 k j))
    (hcb : ∀ j, (x15 (ix2 0 j) : EReal) = cb (ix1 j)) (r : Fin 512) (j : Fin 1536) :
    k0_pay13 (k0_pay7 x0 x3 x4 (View.ld x7 r0_3))
          (k0_pay11 (BitVec.ofNat 32 (grid0.coords t 1).val) (k0_pay7 x0 x3 x4 (View.ld x7 r0_3)) (k0_pay8 x1 x2) (k0_pay9 x3) (Scalar.ofBits .f32 0x3F800000#32) x4 (View.ld x7 r0_3))
          (k0_pay12 (BitVec.ofNat 32 (grid0.coords t 1).val) (k0_pay7 x0 x3 x4 (View.ld x7 r0_3)) (k0_pay8 x1 x2) (k0_pay9 x3) (Scalar.ofBits .f32 0x3F800000#32) x4 (View.ld x7 r0_3)
            x15 (View.ld x14 r0_6)) (View.ld x14 r0_7) (View.ld x14 r0_8) (ix3 0 r j)
      = conv x sc sh w cw cb (ix3 (seqOf t) (posOf t r) j) := by
  have hH : ∀ r : Fin 512, (k0_pay7 x0 x3 x4 (View.ld x7 r0_3) (ix2 r j) : EReal) = high x sc sh w (seqOf t) (posOf t r) j := fun r => by
    rw [pay7_apply]
    unfold high col modu
    refine Finset.sum_congr rfl fun l _ => ?_
    rw [ld_high, hx, hsc, hsh, hw, wHost_high]
  rw [pay13_apply, pay12_apply, pay11_apply, edge_before, edge_after]
  generalize k0_pay7 x0 x3 x4 (View.ld x7 r0_3) = H at hH ⊢
  rw [before_eq x sc sh w t H _ r j hH (by unfold high col modu; refine Finset.sum_congr rfl fun l _ => ?_; rw [ld_high, hp, hsc, hsh, hw, wHost_high]),
    after_eq x sc sh w t H _ r j hH (by unfold high col modu; refine Finset.sum_congr rfl fun l _ => ?_; rw [ld_high, hn, hsc, hsh, hw, wHost_high]), hH, ld_cw0, ld_cw1, ld_cw2, hcw, hcw, hcw, hcb]
  rfl

/-- The convolution a point writes, at an index. -/
theorem point_conv (t : Fin cfg0.N) (r : Fin 512) (j : Fin 1536) :
    out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r j)
      = conv (m ((c : Thread nD τ).loc main_arg0)) (m ((c : Thread nD τ).loc main_arg1)) (m ((c : Thread nD τ).loc main_arg2)) (m ((c : Thread nD τ).loc main_arg5)) (m ((c : Thread nD τ).loc main_arg10)) (m ((c : Thread nD τ).loc main_arg11)) (ix3 (seqOf t) (posOf t r) j) := by
  rw [out_conv]
  exact conv_of _ _ _ _ _ _ t _ _ _ _ _ _ _ _ (x_block m c t) (xp_block m c t) (xn_block m c t) (sc_block m c t) (sh_block m c t) (w_block m c t) (cw_block m c t) (cb_block m c t) r j

/-! ## The arrays -/

/-- The array of values after the last point. -/
theorem values_eq : (dats m 0 c).arrAt 18 cfg0.N
    = values (m ((c : Thread nD τ).loc main_arg0)) (m ((c : Thread nD τ).loc main_arg1)) (m ((c : Thread nD τ).loc main_arg2)) (m ((c : Thread nD τ).loc main_arg5)) (m ((c : Thread nD τ).loc main_arg8)) (m ((c : Thread nD τ).loc main_arg9)) := by
  refine (dats m 0 c).arrAt_eq_of_covers 18 _ (by decide +kernel) fun t hf y => ?_
  rw [after0_18]
  blk_simp
  obtain ⟨a, e, r, rfl⟩ : ∃ (a : Fin 1) (e r : Fin 512), y = ix3 a e r := ⟨y 0, y 1, y 2, eq_ix3 y⟩
  obtain rfl : a = 0 := Subsingleton.elim _ _
  refine (point_values m c t e r).trans ?_
  generalize hz : (win0_18.blk t).view.emb (ix3 0 e r) = z
  have z0 : (z 0).val = t.val / 16 := by rw [← hz]; blk_simp [block_index t]; simp
  have z1 : (z 1).val = e.val := by rw [← hz]; blk_simp [block_index t]
  have z2 : (z 2).val = 512 * (t.val % 16) + r.val := by rw [← hz]; blk_simp [block_index t]; simp; omega
  congr 1
  rw [eq_ix3 z]
  congr 1
  · exact Fin.ext z0.symm
  · exact Fin.ext z1.symm
  · exact Fin.ext z2.symm

/-- The array of the convolution after the last point. -/
theorem conv_eq : (dats m 0 c).arrAt 19 cfg0.N
    = conv (m ((c : Thread nD τ).loc main_arg0)) (m ((c : Thread nD τ).loc main_arg1)) (m ((c : Thread nD τ).loc main_arg2)) (m ((c : Thread nD τ).loc main_arg5)) (m ((c : Thread nD τ).loc main_arg10)) (m ((c : Thread nD τ).loc main_arg11)) := by
  refine (dats m 0 c).arrAt_eq_of_covers 19 _ (by decide +kernel) fun t hf y => ?_
  rw [after0_19]
  blk_simp
  obtain ⟨a, r, j, rfl⟩ : ∃ (a : Fin 1) (r : Fin 512) (j : Fin 1536), y = ix3 a r j := ⟨y 0, y 1, y 2, eq_ix3 y⟩
  obtain rfl : a = 0 := Subsingleton.elim _ _
  refine (point_conv m c t r j).trans ?_
  generalize hz : (win0_19.blk t).view.emb (ix3 0 r j) = z
  have z0 : (z 0).val = t.val / 16 := by rw [← hz]; blk_simp [block_index t]; simp
  have z1 : (z 1).val = 512 * (t.val % 16) + r.val := by rw [← hz]; blk_simp [block_index t]; simp; omega
  have z2 : (z 2).val = j.val := by rw [← hz]; blk_simp [block_index t]
  congr 1
  rw [eq_ix3 z]
  congr 1
  · exact Fin.ext z0.symm
  · exact Fin.ext z1.symm
  · exact Fin.ext z2.symm

end Cert.InProj

end
-- ==== Proof.InProjRef.lean ====
/-
  The input projection's reference at an index: the same values and the same convolution as the kernel's, stage by stage.
-/
module

public import proofs.«01_k».proof.Proof.InProj
public import proofs.«01_k».proof.Proof.Gen.Reference3Ideal.Read

@[expose] public section

set_option maxRecDepth 16384

noncomputable section

namespace Cert.InProj

open Cert.Reference3Ideal Cert.Reference3Ideal.Gen Cert.Reference3Ideal.Read
open Idealize.ShloMosaic Idealize.ShloMosaic.TcCoe
open scoped BigOperators

variable (x : Seqs) (sc sh : Mods) (w : Win) (g : Gain) (wkv : Wkv) (cw : Cw) (cb : Cb)

/-- The modulated positions. -/
theorem ref_modu (b : Fin 2) (s : Fin 8192) (l : Fin 1024) : val_main_v7 (F := Ideal) x sc sh (ix3 b s l) = modu x sc sh b s l := by
  unfold modu
  pointwise [val_main_v7, val_main_v6, val_main_v5, val_main_v4, val_main_v3, val_main_v2, val_main_v1, val_main_v0, val_main_cst]

/-- Their projection. -/
theorem ref_col (b : Fin 2) (s : Fin 8192) (j : Fin 1952) : val_main_v8 (F := Ideal) x sc sh w (ix3 b s j) = col x sc sh w b s j := by
  unfold col
  simp only [← ref_modu x sc sh]
  unfold val_main_v8
  generalize val_main_v7 (F := Ideal) x sc sh = Z
  pointwise

/-- The compressed keys and values. -/
theorem ref_low (b : Fin 2) (s : Fin 8192) (j : Fin 128) : val_main_v9 (F := Ideal) x sc sh w (ix3 b s j) = low x sc sh w b s j := by
  unfold low
  rw [← ref_col]
  unfold val_main_v9
  generalize val_main_v8 (F := Ideal) x sc sh w = Z
  pointwise

/-- The Hyena columns. -/
theorem ref_high (b : Fin 2) (s : Fin 8192) (j : Fin 1536) : val_main_v10 (F := Ideal) x sc sh w (ix3 b s j) = high x sc sh w b s j := by
  unfold high
  rw [← ref_col]
  unfold val_main_v10
  generalize val_main_v8 (F := Ideal) x sc sh w = Z
  pointwise

/-- The norm. -/
theorem ref_normed (b : Fin 2) (s : Fin 8192) (j : Fin 128) : val_main_v23 (F := Ideal) x sc sh w g (ix3 b s j) = normed x sc sh w g b s j := by
  unfold normed
  simp only [← ref_low x sc sh w]
  unfold val_main_v23 val_main_v20 val_main_v19 val_main_v18 val_main_v17 val_main_v15 val_main_v13 val_main_v12 val_main_v11
  generalize val_main_v9 (F := Ideal) x sc sh w = Z
  pointwise [val_main_v22, val_main_v21, val_main_v16, val_main_cst_2, val_main_v14, val_main_cst_1, val_main_cst_0]

/-- The values at an index. -/
theorem ref_values_at (b : Fin 2) (e : Fin 512) (s : Fin 8192) :
    val_main_v53 (F := Ideal) x sc sh w g wkv (ix3 b e s) = ∑ l : Fin 128, normed x sc sh w g b s l * wkv (ix2 l ⟨e.val / 64 * 128 + (64 + e.val % 64), val_lt e⟩) := by
  simp only [← ref_normed x sc sh w g]
  unfold val_main_v53 val_main_v52 val_main_v51 val_main_v26 val_main_v25 val_main_v24
  generalize val_main_v23 (F := Ideal) x sc sh w g = Z
  pointwise

/-- The reference's values are `values`. -/
theorem ref_values : val_main_v53 (F := Ideal) x sc sh w g wkv = values x sc sh w g wkv := by
  funext i
  rw [eq_ix3 i]
  exact ref_values_at x sc sh w g wkv (i 0) (i 1) (i 2)

/-- A position among those with a zero row before and after. -/
theorem pad_lt (s : Fin 8192) : s.val < 8194 := by omega
/-- The same one or two places on. -/
theorem shift_lt (s : Fin 8192) (k : Fin 3) : k.val + s.val < 8194 := by omega

/-- The Hyena columns between two zero rows. -/
theorem ref_pad (b : Fin 2) (r : Fin 8194) (j : Fin 1536) : val_main_v27 (F := Ideal) x sc sh w (ix3 b r j)
    = if h : 1 ≤ r.val ∧ r.val - 1 < 8192 then high x sc sh w b ⟨r.val - 1, h.2⟩ j else 0 := by
  simp only [← ref_high x sc sh w]
  unfold val_main_v27
  generalize val_main_v10 (F := Ideal) x sc sh w = Z
  pointwise [val_main_call0_v0, val_main_c]
  rw [show (FloatOps.sitofp .f32 (0#32) : Ideal .f32) = (0 : EReal) by simp [FloatOps.sitofp]]

/-- The convolution at an index. -/
theorem ref_conv_at (b : Fin 2) (s : Fin 8192) (j : Fin 1536) :
    val_main_v50 (F := Ideal) x sc sh w cw cb (ix3 b s j)
      = cb (ix1 j) + (val_main_v27 (F := Ideal) x sc sh w (ix3 b ⟨s.val, pad_lt s⟩ j) * cw (ix2 0 j)
        + val_main_v27 (F := Ideal) x sc sh w (ix3 b ⟨1 + s.val, shift_lt s 1⟩ j) * cw (ix2 1 j)
        + val_main_v27 (F := Ideal) x sc sh w (ix3 b ⟨2 + s.val, shift_lt s 2⟩ j) * cw (ix2 2 j) : EReal) := by
  unfold val_main_v50 val_main_v47 val_main_v46 val_main_v41 val_main_v40 val_main_v39 val_main_v34 val_main_v33 val_main_v28
  generalize val_main_v27 (F := Ideal) x sc sh w = Z
  pointwise [val_main_v49, val_main_v48, val_main_v45, val_main_v44, val_main_v43, val_main_v42, val_main_v38, val_main_v37, val_main_v36, val_main_v35, val_main_v32, val_main_v31,
    val_main_v30, val_main_v29]

/-- The convolution's sum is the kernel's, which takes the bias first and the weights on the left. -/
theorem ref_conv_sum (b : Fin 2) (s : Fin 8192) (j : Fin 1536) :
    val_main_v50 (F := Ideal) x sc sh w cw cb (ix3 b s j) = conv x sc sh w cw cb (ix3 b s j) := by
  rw [ref_conv_at, ref_pad, ref_pad, ref_pad]
  show _ = cb (ix1 j) + cw (ix2 0 j) * before x sc sh w b s j + cw (ix2 1 j) * high x sc sh w b s j + cw (ix2 2 j) * after x sc sh w b s j
  have h0 : (if h : 1 ≤ s.val ∧ s.val - 1 < 8192 then high x sc sh w b ⟨s.val - 1, h.2⟩ j else 0) = before x sc sh w b s j := by
    unfold before
    by_cases h : s.val = 0
    · rw [if_pos h, dif_neg (by omega)]
    · rw [if_neg h, dif_pos (by omega)]
  have h1 : (if h : 1 ≤ 1 + s.val ∧ 1 + s.val - 1 < 8192 then high x sc sh w b ⟨1 + s.val - 1, h.2⟩ j else 0) = high x sc sh w b s j := by
    rw [dif_pos (by omega)]
    exact congrArg (fun k => high x sc sh w b k j) (Fin.ext (by show 1 + s.val - 1 = s.val; omega))
  have h2 : (if h : 1 ≤ 2 + s.val ∧ 2 + s.val - 1 < 8192 then high x sc sh w b ⟨2 + s.val - 1, h.2⟩ j else 0) = after x sc sh w b s j := by
    unfold after
    by_cases h : s.val + 1 < 8192
    · rw [dif_pos h, dif_pos (by omega)]
      exact congrArg (fun k => high x sc sh w b k j) (Fin.ext (by show 2 + s.val - 1 = s.val + 1; omega))
    · rw [dif_neg h, dif_neg (by omega)]
  simp only [h0, h1, h2]
  generalize before x sc sh w b s j = p
  generalize high x sc sh w b s j = q
  generalize after x sc sh w b s j = r
  rw [mul_comm p, mul_comm q, mul_comm r, ← add_assoc, ← add_assoc]

/-- The reference's convolution is `conv`. -/
theorem ref_conv : val_main_v50 (F := Ideal) x sc sh w cw cb = conv x sc sh w cw cb := by
  funext i
  rw [eq_ix3 i]
  exact ref_conv_sum x sc sh w cw cb (i 0) (i 1) (i 2)

end Cert.InProj

end
-- ==== Proof.InProjClaim.lean ====
/-
  The claims of the input projection's call: its frames (one run, over any carrier of floats, gives both kernels') and the value claim
  of its two results.
-/
module

public import proofs.«01_k».proof.Defs
public import proofs.«01_k».proof.Proof.InProjRef
public import proofs.«01_k».proof.Proof.Gen.Kernel3

@[expose] public section

set_option maxRecDepth 16384

noncomputable section

namespace Cert.InProj

open Idealize.ShloMosaic Idealize.SL.Sem

set_option maxHeartbeats 8000000 in
/-- The two programs' body tables are one: label 0 runs the same body. -/
theorem defs₀_eq : Cert.Kernel3.defs₀ (F := Bits) = Cert.Kernel3Ideal.defs₀ (F := Bits) := by
  unfold Cert.Kernel3.defs₀ Cert.Kernel3Ideal.defs₀
  refine congrArg Defs.onTc (funext fun l => funext fun x => ?_)
  match l, x with
  | 0, (t, s) => rfl

set_option maxHeartbeats 8000000 in
/-- So are the tables with the region's pipeline. -/
theorem defs_eq : Cert.Kernel3.defs (F := Bits) = Cert.Kernel3Ideal.defs (F := Bits) :=
  congrArg (Pipeline.defs (Cert.Kernel3Ideal.pcfgs (F := Bits))) defs₀_eq

set_option maxHeartbeats 8000000 in
/-- The kernel's frame at machine words: the run at `Bits`. -/
theorem frame_kernel : Cert.quiescent_Kernel3 := fun m ρ _ => by
  rw [defs_eq]
  exact Cert.Kernel3Ideal.Gen.frame (F := Bits) m ρ

set_option maxHeartbeats 8000000 in
/-- The idealized kernel's frame: the run at the extended reals. -/
theorem frame_kernelIdeal : Cert.quiescent_Kernel3Ideal := fun m ρ _ => Cert.Kernel3Ideal.Gen.frame (F := Ideal) m ρ

/-- The idealized reference's frame: its operations' run, and no semaphore to count. -/
theorem frame_referenceIdeal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Kernel and reference, idealized, leave the same values and the same convolution from the same arguments. -/
theorem algebraic : Cert.algebraic_Kernel3Ideal_Reference3Ideal
    (hKernel3Ideal := Cert.Kernel3Ideal.Gen.facts) (hReference3Ideal := Cert.Reference3Ideal.Gen.facts) := by
  intro m g m' g' _ ha
  refine ⟨fun c => values (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)),
    fun c => conv (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)), ?_, ?_⟩
  · exact (θ_run _ _ _).mono (fun r h c => ⟨(h c).2.2.1.trans (values_eq m c), (h c).2.2.2.1.trans (conv_eq m c), (h c).2.2.2.2⟩)
      (Cert.Kernel3Ideal.Value.run_blocks (F := Ideal) m g)
  · refine (θ_run _ _ _).mono (fun r h c => ⟨(h c).1.trans ?_, (h c).2.1.trans ?_, (h c).2.2⟩) (Cert.Reference3Ideal.Value.run (F := Ideal) m' g')
    · obtain ⟨a0, a1, a2, a3, a4, a5, a6, a7, a8, a9, a10, a11⟩ := ha c
      rw [a0, a1, a2, a5, a8, a9]
      exact (Cert.Reference3Ideal.Read.val_main_v53_eq _ _ _ _ _ _).trans (ref_values _ _ _ _ _ _)
    · obtain ⟨a0, a1, a2, a3, a4, a5, a6, a7, a8, a9, a10, a11⟩ := ha c
      rw [a0, a1, a2, a5, a10, a11]
      exact (Cert.Reference3Ideal.Read.val_main_v50_eq _ _ _ _ _ _).trans (ref_conv _ _ _ _ _ _)

end Cert.InProj

end
-- ==== Proof.OutProj.lean ====
/-
  The output projection: each grid point takes 512 positions of one sequence, in two halves of 256; it normalises the two groups'
  results, projects them, adds the layer's input and applies the layer norm. What a point writes, and what the arrays hold.
-/
module

public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.OutProj

open Cert.Kernel4Ideal Cert.Kernel4Ideal.Gen
open Idealize.ShloMosaic Idealize.ShloMosaic.TcCoe
open scoped BigOperators

/-! ## The mathematics -/

/-- Two sequences of 8192 positions of 512 numbers: one group's result. -/
abbrev Group : Type := (⟨3, ![2, 8192, 512]⟩ : Shape).Idx → EReal
/-- Two sequences of 8192 positions of 1024 numbers. -/
abbrev Seqs : Type := (⟨3, ![2, 8192, 1024]⟩ : Shape).Idx → EReal
/-- One row of 1024 numbers per sequence. -/
abbrev Mods : Type := (⟨2, ![2, 1024]⟩ : Shape).Idx → EReal
/-- The gains of one group's norm. -/
abbrev Gain : Type := (⟨1, ![512]⟩ : Shape).Idx → EReal
/-- The projection. -/
abbrev Proj : Type := (⟨2, ![1024, 1024]⟩ : Shape).Idx → EReal
/-- A row of 1024 numbers. -/
abbrev Row : Type := (⟨1, ![1024]⟩ : Shape).Idx → EReal

/-- A row of the projection's upper half. -/
theorem upper_lt (l : Fin 512) : l.val < 1024 := by omega
/-- A row of its lower half. -/
theorem lower_lt (l : Fin 512) : 512 + l.val < 1024 := by omega

/-- One over the root of the mean square. -/
def root (v : Fin 512 → EReal) : EReal :=
  Ideal.rsqrt (Ideal.div (∑ k : Fin 512, v k * v k) (Ideal.ofBits .f32 0x44000000#32) + Ideal.ofBits .f32 0x3727C5AC#32)
/-- A row over the root of its mean square, times the gains. -/
def rms (v g : Fin 512 → EReal) (j : Fin 512) : EReal := v j * root v * g j
/-- A row less its mean. -/
def centred (v : Fin 1024 → EReal) (j : Fin 1024) : EReal := v j - Ideal.div (∑ k : Fin 1024, v k) (Ideal.ofBits .f32 0x44800000#32)
/-- One over the root of the mean square. -/
def root' (v : Fin 1024 → EReal) : EReal :=
  Ideal.rsqrt (Ideal.div (∑ k : Fin 1024, v k * v k) (Ideal.ofBits .f32 0x44800000#32) + Ideal.ofBits .f32 0x3727C5AC#32)
/-- The layer norm of a row. -/
def norm (v g b : Fin 1024 → EReal) (j : Fin 1024) : EReal := centred v j * root' (centred v) * g j + b j
/-- The two groups' results, normalised and projected. -/
def mixed (a hy : Group) (ga gh : Gain) (w : Proj) (b : Fin 2) (s : Fin 8192) (j : Fin 1024) : EReal :=
  (∑ l : Fin 512, rms (fun k => a (ix3 b s k)) (fun k => ga (ix1 k)) l * w (ix2 ⟨l.val, upper_lt l⟩ j))
    + ∑ l : Fin 512, rms (fun k => hy (ix3 b s k)) (fun k => gh (ix1 k)) l * w (ix2 ⟨512 + l.val, lower_lt l⟩ j)
/-- What goes into the layer norm. -/
def summed (a hy : Group) (x : Seqs) (g1 : Mods) (ga gh : Gain) (w : Proj) (b : Fin 2) (s : Fin 8192) (j : Fin 1024) : EReal :=
  Ideal.ofBits .f32 0x3F9837F0#32 * x (ix3 b s j) + g1 (ix2 b j) * mixed a hy ga gh w b s j
/-- The layer's state after the norm. -/
def state (a hy : Group) (x : Seqs) (g1 : Mods) (ga gh : Gain) (w : Proj) (lg lb : Row) : Seqs := fun i =>
  norm (summed a hy x g1 ga gh w (i 0) (i 1)) (fun k => lg (ix1 k)) (fun k => lb (ix1 k)) (i 2)
/-- The state, modulated for the experts. -/
def modulated (a hy : Group) (x : Seqs) (g1 sc sh : Mods) (ga gh : Gain) (w : Proj) (lg lb : Row) : Seqs := fun i =>
  state a hy x g1 ga gh w lg lb i * (1 + sc (ix2 (i 0) (i 2))) + sh (ix2 (i 0) (i 2))

/-! ## A point's values at an index -/

/-- The Hyena group's norm in a point's first half. -/
theorem pay2_apply (v : Vec Ideal S1x256x512 .f32) (g : Vec Ideal S1x512 .f32) (r : Fin 256) (j : Fin 512) :
    k0_pay2 v g (ix2 r j) = rms (fun k => v (ix3 0 r k)) (fun k => g (ix2 0 k)) j := by
  unfold rms root
  pointwise [k0_pay2]

/-- The attention's norm and its part of the projection, first half. -/
theorem pay3_apply (v : Vec Ideal S1x256x512 .f32) (g : Vec Ideal S1x512 .f32) (w : Vec Ideal S512x1024 .bf16) (r : Fin 256) (j : Fin 1024) :
    k0_pay3 v g w (ix2 r j) = ∑ l : Fin 512, rms (fun k => v (ix3 0 r k)) (fun k => g (ix2 0 k)) l * w (ix2 l j) := by
  unfold rms root
  pointwise [k0_pay3]

/-- The layer norm, first half. -/
theorem pay4_apply (h : FVec Ideal S256x512 .bf16) (p : FVec Ideal S256x1024 .f32) (w : Vec Ideal S512x1024 .bf16) (x : Vec Ideal S1x256x1024 .f32)
    (g1 : Vec Ideal S1x1x1024 .f32) (lg lb : Vec Ideal S1x1024 .f32) (r : Fin 256) (j : Fin 1024) :
    k0_pay4 h p w x g1 lg lb (ix2 r j)
      = norm (fun k => Ideal.ofBits .f32 0x3F9837F0#32 * x (ix3 0 r k) + g1 (ix3 0 0 k) * (p (ix2 r k) + ∑ l : Fin 512, h (ix2 r l) * w (ix2 l k)))
          (fun k => lg (ix2 0 k)) (fun k => lb (ix2 0 k)) j := by
  unfold norm root' centred
  pointwise [k0_pay4]

/-- The same, as stored. -/
theorem pay5_apply (h : FVec Ideal S256x512 .bf16) (p : FVec Ideal S256x1024 .f32) (w : Vec Ideal S512x1024 .bf16) (x : Vec Ideal S1x256x1024 .f32)
    (g1 : Vec Ideal S1x1x1024 .f32) (lg lb : Vec Ideal S1x1024 .f32) (r : Fin 256) (j : Fin 1024) :
    k0_pay5 h p w x g1 lg lb (ix3 0 r j) = k0_pay4 h p w x g1 lg lb (ix2 r j) := by
  unfold k0_pay5
  generalize k0_pay4 h p w x g1 lg lb = Z
  pointwise

/-- The modulation, first half. -/
theorem pay7_apply (v : FVec Ideal S256x1024 .f32) (sc sh : Vec Ideal S1x1x1024 .f32) (r : Fin 256) (j : Fin 1024) :
    k0_pay7 v sc sh (ix3 0 r j) = (v (ix2 r j) * (1 + sc (ix3 0 0 j)) + sh (ix3 0 0 j) : EReal) := by
  pointwise [k0_pay7, k0_pay6]

/-- The attention's norm, second half. -/
theorem pay10_apply (v : Vec Ideal S1x256x512 .f32) (g : Vec Ideal S1x512 .f32) (r : Fin 256) (j : Fin 512) :
    k0_pay10 v g (ix2 r j) = rms (fun k => v (ix3 0 r k)) (fun k => g (ix2 0 k)) j := by
  unfold rms root
  pointwise [k0_pay10]

/-- The Hyena group's norm before its gains, second half. -/
theorem pay12_apply (v : Vec Ideal S1x256x512 .f32) (r : Fin 256) (j : Fin 512) :
    k0_pay12 v (ix2 r j) = v (ix3 0 r j) * root (fun k => v (ix3 0 r k)) := by
  unfold root
  pointwise [k0_pay12]

/-- The row less its mean, second half. -/
theorem pay15_apply (h : FVec Ideal S256x512 .bf16) (g : Vec Ideal S1x512 .f32) (p : FVec Ideal S256x512 .f32) (w w' : Vec Ideal S512x1024 .bf16)
    (x : Vec Ideal S1x256x1024 .f32) (g1 : Vec Ideal S1x1x1024 .f32) (r : Fin 256) (j : Fin 1024) :
    k0_pay15 h (k0_pay11 g) p w w' x g1 (ix2 r j)
      = centred (fun k => Ideal.ofBits .f32 0x3F9837F0#32 * x (ix3 0 r k)
          + g1 (ix3 0 0 k) * ((∑ l : Fin 512, h (ix2 r l) * w (ix2 l k)) + ∑ l : Fin 512, p (ix2 r l) * g (ix2 0 l) * w' (ix2 l k))) j := by
  unfold centred
  pointwise [k0_pay15, k0_pay11]

/-- The factor of the layer norm, second half. -/
theorem pay16_apply (h : FVec Ideal S256x512 .bf16) (g : Vec Ideal S1x512 .f32) (p : FVec Ideal S256x512 .f32) (w w' : Vec Ideal S512x1024 .bf16)
    (x : Vec Ideal S1x256x1024 .f32) (g1 : Vec Ideal S1x1x1024 .f32) (r : Fin 256) (j : Fin 1024) :
    k0_pay16 h (k0_pay11 g) p w w' x g1 (ix2 r j) = root' (fun k => k0_pay15 h (k0_pay11 g) p w w' x g1 (ix2 r k)) := by
  unfold root' k0_pay16
  generalize k0_pay15 h (k0_pay11 g) p w w' x g1 = Z
  pointwise

/-- The layer norm, second half, as stored. -/
theorem pay18_apply (lg lb : Vec Ideal S1x1024 .f32) (c f : FVec Ideal S256x1024 .f32) (r : Fin 256) (j : Fin 1024) :
    k0_pay18 (k0_pay13 lg) (k0_pay14 lb) c f (ix3 0 r j) = (c (ix2 r j) * f (ix2 r j) * lg (ix2 0 j) + lb (ix2 0 j) : EReal) := by
  pointwise [k0_pay18, k0_pay17, k0_pay13, k0_pay14]

/-- The modulation, second half. -/
theorem pay20_apply (lg lb : Vec Ideal S1x1024 .f32) (c f : FVec Ideal S256x1024 .f32) (sc sh : Vec Ideal S1x1x1024 .f32) (r : Fin 256) (j : Fin 1024) :
    k0_pay20 (k0_pay13 lg) (k0_pay14 lb) c f sc sh (ix3 0 r j)
      = ((c (ix2 r j) * f (ix2 r j) * lg (ix2 0 j) + lb (ix2 0 j)) * (1 + sc (ix3 0 0 j)) + sh (ix3 0 0 j) : EReal) := by
  pointwise [k0_pay20, k0_pay19, k0_pay17, k0_pay13, k0_pay14]

/-! ## The two halves of a point, from its blocks -/

/-- A row of a point's first half. -/
theorem first_lt (r : Fin 256) : r.val < 512 := by omega
/-- A row of its second half. -/
theorem second_lt (r : Fin 256) : 256 + r.val < 512 := by omega

/-- A load of the first 256 rows of a group's result. -/
theorem ld_group0 (v : Vec Ideal S1x512x512 .f32) (r : Fin 256) (k : Fin 512) : View.ld v r0_0 (ix3 0 r k) = v (ix3 0 ⟨r.val, first_lt r⟩ k) := by pointwise
/-- A load of the last 256 rows of a group's result. -/
theorem ld_group1 (v : Vec Ideal S1x512x512 .f32) (r : Fin 256) (k : Fin 512) : View.ld v r0_9 (ix3 0 r k) = v (ix3 0 ⟨256 + r.val, second_lt r⟩ k) := by pointwise
/-- A load of the first 256 rows of the layer's input. -/
theorem ld_x0 (v : Vec Ideal S1x512x1024 .f32) (r : Fin 256) (k : Fin 1024) : View.ld v r0_4 (ix3 0 r k) = v (ix3 0 ⟨r.val, first_lt r⟩ k) := by pointwise
/-- A load of the last 256 rows of the layer's input. -/
theorem ld_x1 (v : Vec Ideal S1x512x1024 .f32) (r : Fin 256) (k : Fin 1024) : View.ld v r0_10 (ix3 0 r k) = v (ix3 0 ⟨256 + r.val, second_lt r⟩ k) := by pointwise
/-- A load of the projection's upper half. -/
theorem ld_w0 (w : Vec Ideal S1024x1024 .bf16) (l : Fin 512) (j : Fin 1024) : View.ld w r0_2 (ix2 l j) = w (ix2 ⟨l.val, upper_lt l⟩ j) := by pointwise
/-- A load of the projection's lower half. -/
theorem ld_w1 (w : Vec Ideal S1024x1024 .bf16) (l : Fin 512) (j : Fin 1024) : View.ld w r0_3 (ix2 l j) = w (ix2 ⟨512 + l.val, lower_lt l⟩ j) := by pointwise
/-- A load of a group's gains. -/
theorem ld_gain (v : Vec Ideal S1x512 .f32) (k : Fin 512) : View.ld v r0_1 (ix2 0 k) = v (ix2 0 k) := by pointwise
/-- A load of a row for one sequence. -/
theorem ld_mod (v : Vec Ideal S1x1x1024 .f32) (k : Fin 1024) : View.ld v r0_5 (ix3 0 0 k) = v (ix3 0 0 k) := by pointwise
/-- A load of a row. -/
theorem ld_row (v : Vec Ideal S1x1024 .f32) (k : Fin 1024) : View.ld v r0_6 (ix2 0 k) = v (ix2 0 k) := by pointwise

section Blocks
variable (x0 x1 : Vec Ideal S1x512x512 .f32) (x2 : Vec Ideal S1x512x1024 .f32) (x3 x4 x5 : Vec Ideal S1x1x1024 .f32) (x6 x7 : Vec Ideal S1x512 .f32)
  (x8 : Vec Ideal S1024x1024 .bf16) (x9 x10 : Vec Ideal S1x1024 .f32) (x11 : Vec Ideal S1024x128 .f32)

/-- What goes into the layer norm at a row of a point, from its blocks. -/
def blockSum (r : Fin 512) (j : Fin 1024) : EReal :=
  Ideal.ofBits .f32 0x3F9837F0#32 * x2 (ix3 0 r j) + x3 (ix3 0 0 j)
    * ((∑ l : Fin 512, rms (fun k => x0 (ix3 0 r k)) (fun k => x6 (ix2 0 k)) l * x8 (ix2 ⟨l.val, upper_lt l⟩ j))
      + ∑ l : Fin 512, rms (fun k => x1 (ix3 0 r k)) (fun k => x7 (ix2 0 k)) l * x8 (ix2 ⟨512 + l.val, lower_lt l⟩ j))
/-- A point's rows after the norm, from its blocks. -/
def blockState (r : Fin 512) (j : Fin 1024) : EReal := norm (blockSum x0 x1 x2 x3 x6 x7 x8 r) (fun k => x9 (ix2 0 k)) (fun k => x10 (ix2 0 k)) j

/-- The first half's rows after the norm, from its loads. -/
theorem first_of (a h : Vec Ideal S1x256x512 .f32) (x : Vec Ideal S1x256x1024 .f32) (g1 : Vec Ideal S1x1x1024 .f32) (ga gh : Vec Ideal S1x512 .f32)
    (w w' : Vec Ideal S512x1024 .bf16) (lg lb : Vec Ideal S1x1024 .f32) (r : Fin 256) (s : Fin 512)
    (ha : ∀ k, (a (ix3 0 r k) : EReal) = x0 (ix3 0 s k)) (hh : ∀ k, (h (ix3 0 r k) : EReal) = x1 (ix3 0 s k)) (hx : ∀ k, (x (ix3 0 r k) : EReal) = x2 (ix3 0 s k))
    (hg : ∀ k, (g1 (ix3 0 0 k) : EReal) = x3 (ix3 0 0 k)) (hga : ∀ k, (ga (ix2 0 k) : EReal) = x6 (ix2 0 k)) (hgh : ∀ k, (gh (ix2 0 k) : EReal) = x7 (ix2 0 k))
    (hw : ∀ l j, (w (ix2 l j) : EReal) = x8 (ix2 ⟨l.val, upper_lt l⟩ j)) (hw' : ∀ l j, (w' (ix2 l j) : EReal) = x8 (ix2 ⟨512 + l.val, lower_lt l⟩ j))
    (hlg : ∀ k, (lg (ix2 0 k) : EReal) = x9 (ix2 0 k)) (hlb : ∀ k, (lb (ix2 0 k) : EReal) = x10 (ix2 0 k)) (j : Fin 1024) :
    k0_pay4 (k0_pay2 h gh) (k0_pay3 a ga w) w' x g1 lg lb (ix2 r j) = blockState x0 x1 x2 x3 x6 x7 x8 x9 x10 s j := by
  rw [pay4_apply]
  unfold blockState blockSum
  simp only [pay3_apply, pay2_apply, ha, hh, hx, hg, hga, hgh, hw, hw', hlg, hlb]

/-- The second half's rows less their means, from its loads. -/
theorem second_of (a h : Vec Ideal S1x256x512 .f32) (x : Vec Ideal S1x256x1024 .f32) (g1 : Vec Ideal S1x1x1024 .f32) (ga gh : Vec Ideal S1x512 .f32)
    (w w' : Vec Ideal S512x1024 .bf16) (r : Fin 256) (s : Fin 512)
    (ha : ∀ k, (a (ix3 0 r k) : EReal) = x0 (ix3 0 s k)) (hh : ∀ k, (h (ix3 0 r k) : EReal) = x1 (ix3 0 s k)) (hx : ∀ k, (x (ix3 0 r k) : EReal) = x2 (ix3 0 s k))
    (hg : ∀ k, (g1 (ix3 0 0 k) : EReal) = x3 (ix3 0 0 k)) (hga : ∀ k, (ga (ix2 0 k) : EReal) = x6 (ix2 0 k)) (hgh : ∀ k, (gh (ix2 0 k) : EReal) = x7 (ix2 0 k))
    (hw : ∀ l j, (w (ix2 l j) : EReal) = x8 (ix2 ⟨l.val, upper_lt l⟩ j)) (hw' : ∀ l j, (w' (ix2 l j) : EReal) = x8 (ix2 ⟨512 + l.val, lower_lt l⟩ j)) (j : Fin 1024) :
    k0_pay15 (k0_pay10 a ga) (k0_pay11 gh) (k0_pay12 h) w w' x g1 (ix2 r j) = centred (blockSum x0 x1 x2 x3 x6 x7 x8 s) j := by
  rw [pay15_apply]
  unfold blockSum
  simp only [pay10_apply, pay12_apply, ha, hh, hx, hg, hga, hgh, hw, hw']
  rfl

/-- The first half's rows after the norm. -/
theorem first_state (r : Fin 256) (j : Fin 1024) :
    k0_pay4 (k0_pay2 (View.ld x1 r0_0) (View.ld x7 r0_1)) (k0_pay3 (View.ld x0 r0_0) (View.ld x6 r0_1) (View.ld x8 r0_2)) (View.ld x8 r0_3) (View.ld x2 r0_4)
        (View.ld x3 r0_5) (View.ld x9 r0_6) (View.ld x10 r0_6) (ix2 r j)
      = blockState x0 x1 x2 x3 x6 x7 x8 x9 x10 ⟨r.val, first_lt r⟩ j :=
  first_of x0 x1 x2 x3 x6 x7 x8 x9 x10 _ _ _ _ _ _ _ _ _ _ r ⟨r.val, first_lt r⟩ (ld_group0 x0 r) (ld_group0 x1 r) (ld_x0 x2 r) (ld_mod x3) (ld_gain x6) (ld_gain x7)
    (ld_w0 x8) (ld_w1 x8) (ld_row x9) (ld_row x10) j

/-- The second half's rows less their means. -/
theorem second_centred (r : Fin 256) (j : Fin 1024) :
    k0_pay15 (k0_pay10 (View.ld x0 r0_9) (View.ld x6 r0_1)) (k0_pay11 (View.ld x7 r0_1)) (k0_pay12 (View.ld x1 r0_9)) (View.ld x8 r0_2) (View.ld x8 r0_3)
        (View.ld x2 r0_10) (View.ld x3 r0_5) (ix2 r j)
      = centred (blockSum x0 x1 x2 x3 x6 x7 x8 ⟨256 + r.val, second_lt r⟩) j :=
  second_of x0 x1 x2 x3 x6 x7 x8 _ _ _ _ _ _ _ _ r ⟨256 + r.val, second_lt r⟩ (ld_group1 x0 r) (ld_group1 x1 r) (ld_x1 x2 r) (ld_mod x3) (ld_gain x6) (ld_gain x7)
    (ld_w0 x8) (ld_w1 x8) j

/-- The second half's factors. -/
theorem second_root (r : Fin 256) (j : Fin 1024) :
    k0_pay16 (k0_pay10 (View.ld x0 r0_9) (View.ld x6 r0_1)) (k0_pay11 (View.ld x7 r0_1)) (k0_pay12 (View.ld x1 r0_9)) (View.ld x8 r0_2) (View.ld x8 r0_3)
        (View.ld x2 r0_10) (View.ld x3 r0_5) (ix2 r j)
      = root' (centred (blockSum x0 x1 x2 x3 x6 x7 x8 ⟨256 + r.val, second_lt r⟩)) := by
  rw [pay16_apply]
  exact congrArg root' (funext fun k => second_centred x0 x1 x2 x3 x6 x7 x8 r k)

/-- Where a row of the first half lies in the window. -/
theorem first_row (r : Fin 256) (j : Fin 1024) : (r0_4).emb (ix3 0 r j) = (ix3 0 ⟨r.val, first_lt r⟩ j : S1x512x1024.Idx) := by
  funext a
  match a with
  | ⟨0, _⟩ => rfl
  | ⟨1, _⟩ => exact Fin.ext (by show 0 + 1 * r.val = r.val; omega)
  | ⟨2, _⟩ => exact Fin.ext (by show 0 + 1 * j.val = j.val; omega)

/-- Where a row of the second half lies in the window. -/
theorem second_row (r : Fin 256) (j : Fin 1024) : (r0_10).emb (ix3 0 r j) = (ix3 0 ⟨256 + r.val, second_lt r⟩ j : S1x512x1024.Idx) := by
  funext a
  match a with
  | ⟨0, _⟩ => rfl
  | ⟨1, _⟩ => exact Fin.ext (by show 256 + 1 * r.val = 256 + r.val; omega)
  | ⟨2, _⟩ => exact Fin.ext (by show 0 + 1 * j.val = j.val; omega)

/-- A point's window for the state, from its blocks. -/
def windowState (y : S1x512x1024.Idx) : EReal := blockState x0 x1 x2 x3 x6 x7 x8 x9 x10 (y 1) (y 2)
/-- A point's window for the modulated state, from its blocks. -/
def windowModulated (y : S1x512x1024.Idx) : EReal := windowState x0 x1 x2 x3 x6 x7 x8 x9 x10 y * (1 + x4 (ix3 0 0 (y 2))) + x5 (ix3 0 0 (y 2))

/-- The rows a point leaves in its window for the state. -/
theorem out_state (y : S1x512x1024.Idx) : out0_12 x0 x1 x2 x3 x4 x5 x6 x7 x8 x9 x10 x11 y = windowState x0 x1 x2 x3 x6 x7 x8 x9 x10 y := by
  unfold_out out0_12
  refine View.canon_apply_of_pieces (Val := Elt Ideal) (windowState x0 x1 x2 x3 x6 x7 x8 x9 x10) _ (fun pc hpc => ?_) y (cover0_12 _ _ y)
  rcases List.mem_cons.mp hpc with rfl | hpc
  · intro x
    obtain ⟨a, r, j, rfl⟩ : ∃ (a : Fin 1) (r : Fin 256) (j : Fin 1024), x = ix3 a r j := ⟨x 0, x 1, x 2, eq_ix3 x⟩
    obtain rfl : a = 0 := Subsingleton.elim _ _
    refine (pay18_apply _ _ _ _ r j).trans ?_
    rw [second_centred, second_root, ld_row, ld_row]
    exact (congrArg (windowState x0 x1 x2 x3 x6 x7 x8 x9 x10) (second_row r j)).symm
  · obtain rfl := List.mem_singleton.mp hpc
    intro x
    obtain ⟨a, r, j, rfl⟩ : ∃ (a : Fin 1) (r : Fin 256) (j : Fin 1024), x = ix3 a r j := ⟨x 0, x 1, x 2, eq_ix3 x⟩
    obtain rfl : a = 0 := Subsingleton.elim _ _
    refine (pay5_apply _ _ _ _ _ _ _ r j).trans ?_
    rw [first_state]
    exact (congrArg (windowState x0 x1 x2 x3 x6 x7 x8 x9 x10) (first_row r j)).symm

/-- The rows a point leaves in its window for the modulated state. -/
theorem out_modulated (y : S1x512x1024.Idx) :
    out0_13 x0 x1 x2 x3 x4 x5 x6 x7 x8 x9 x10 x11 y = windowModulated x0 x1 x2 x3 x4 x5 x6 x7 x8 x9 x10 y := by
  unfold_out out0_13
  refine View.canon_apply_of_pieces (Val := Elt Ideal) (windowModulated x0 x1 x2 x3 x4 x5 x6 x7 x8 x9 x10) _ (fun pc hpc => ?_) y (cover0_13 _ _ y)
  rcases List.mem_cons.mp hpc with rfl | hpc
  · intro x
    obtain ⟨a, r, j, rfl⟩ : ∃ (a : Fin 1) (r : Fin 256) (j : Fin 1024), x = ix3 a r j := ⟨x 0, x 1, x 2, eq_ix3 x⟩
    obtain rfl : a = 0 := Subsingleton.elim _ _
    refine (pay20_apply _ _ _ _ _ _ r j).trans ?_
    rw [second_centred, second_root, ld_row, ld_row, ld_mod, ld_mod]
    exact (congrArg (windowModulated x0 x1 x2 x3 x4 x5 x6 x7 x8 x9 x10) (second_row r j)).symm
  · obtain rfl := List.mem_singleton.mp hpc
    intro x
    obtain ⟨a, r, j, rfl⟩ : ∃ (a : Fin 1) (r : Fin 256) (j : Fin 1024), x = ix3 a r j := ⟨x 0, x 1, x 2, eq_ix3 x⟩
    obtain rfl : a = 0 := Subsingleton.elim _ _
    refine (pay7_apply _ _ _ r j).trans ?_
    rw [first_state, ld_mod, ld_mod]
    exact (congrArg (windowModulated x0 x1 x2 x3 x4 x5 x6 x7 x8 x9 x10) (first_row r j)).symm

end Blocks

/-! ## What the host prepares, and the blocks: `t / 16` the sequence, `t % 16` the group of positions -/

/-- The blocks' indices. -/
theorem block_index : ∀ t : Fin grid0.N, win0_0.index t = ![t.val / 16, t.val % 16, 0] ∧ win0_1.index t = ![t.val / 16, t.val % 16, 0]
    ∧ win0_2.index t = ![t.val / 16, t.val % 16, 0] ∧ win0_3.index t = ![t.val / 16, 0, 0] ∧ win0_4.index t = ![t.val / 16, 0, 0]
    ∧ win0_5.index t = ![t.val / 16, 0, 0] ∧ win0_6.index t = ![0, 0] ∧ win0_7.index t = ![0, 0] ∧ win0_8.index t = ![0, 0]
    ∧ win0_9.index t = ![0, 0] ∧ win0_10.index t = ![0, 0] ∧ win0_12.index t = ![t.val / 16, t.val % 16, 0]
    ∧ win0_13.index t = ![t.val / 16, t.val % 16, 0] := by decide +kernel

/-- There are 32 points. -/
theorem points (t : Fin cfg0.N) : t.val < 32 := t.isLt

/-- The sequence of a point. -/
def seqOf (t : Fin cfg0.N) : Fin 2 := ⟨t.val / 16, by have := points t; omega⟩
/-- A row of a point lies among the sequence's positions. -/
theorem row_lt (t : Fin cfg0.N) (r : Fin 512) : 512 * (t.val % 16) + r.val < 8192 := by omega
/-- The position of a point's row. -/
def posOf (t : Fin cfg0.N) (r : Fin 512) : Fin 8192 := ⟨512 * (t.val % 16) + r.val, row_lt t r⟩

/-- The projection as the call reads it. -/
def wHost (w : FVec Ideal S1024x1024 .f32) : FVec Ideal S1024x1024 .bf16 := truncf .bf16 w bitsLt_bf16_f32
/-- It is the same at an index. -/
theorem wHost_apply (w : FVec Ideal S1024x1024 .f32) (l j : Fin 1024) : wHost w (ix2 l j) = w (ix2 l j) := by pointwise [wHost]

variable (m : (ℓ : Loc nD τ sig) → Buf (Elt Ideal) ℓ) (c : Dev nD)

/-- The attention group's result when the call starts. -/
theorem V_a : V m c main_arg0 = m ((c : Thread nD τ).loc main_arg0) := by
  unfold V; after_results <;> rfl
/-- The Hyena group's result when the call starts. -/
theorem V_hy : V m c main_arg1 = m ((c : Thread nD τ).loc main_arg1) := by
  unfold V; after_results <;> rfl
/-- The layer's input when the call starts. -/
theorem V_x : V m c main_arg2 = m ((c : Thread nD τ).loc main_arg2) := by
  unfold V; after_results <;> rfl
set_option maxHeartbeats 2000000 in
/-- The gates when the call starts. -/
theorem V_g1 : V m c main_v2 = broadcastInDim S2x1x1024 ![0, 2] bcast_S2x1024_S2x1x1024_0_2 (m ((c : Thread nD τ).loc main_arg3)) := by
  unfold V; after_results <;> rfl
set_option maxHeartbeats 2000000 in
/-- The scales when the call starts. -/
theorem V_sc : V m c main_v3 = broadcastInDim S2x1x1024 ![0, 2] bcast_S2x1024_S2x1x1024_0_2 (m ((c : Thread nD τ).loc main_arg4)) := by
  unfold V; after_results <;> rfl
set_option maxHeartbeats 2000000 in
/-- The shifts when the call starts. -/
theorem V_sh : V m c main_v4 = broadcastInDim S2x1x1024 ![0, 2] bcast_S2x1024_S2x1x1024_0_2 (m ((c : Thread nD τ).loc main_arg5)) := by
  unfold V; after_results <;> rfl
set_option maxHeartbeats 2000000 in
/-- The attention group's gains when the call starts. -/
theorem V_ga : V m c main_v5 = broadcastInDim S1x512 ![1] bcast_S512_S1x512_1 (m ((c : Thread nD τ).loc main_arg6)) := by
  unfold V; after_results <;> rfl
set_option maxHeartbeats 2000000 in
/-- The Hyena group's gains when the call starts. -/
theorem V_gh : V m c main_v6 = broadcastInDim S1x512 ![1] bcast_S512_S1x512_1 (m ((c : Thread nD τ).loc main_arg7)) := by
  unfold V; after_results <;> rfl
set_option maxHeartbeats 2000000 in
/-- The projection when the call starts. -/
theorem V_w : V m c main_v7 = wHost (m ((c : Thread nD τ).loc main_arg8)) := by
  unfold V; after_results <;> rfl
set_option maxHeartbeats 2000000 in
/-- The layer norm's gains when the call starts. -/
theorem V_lg : V m c main_v8 = broadcastInDim S1x1024 ![1] bcast_S1024_S1x1024_1 (m ((c : Thread nD τ).loc main_arg9)) := by
  unfold V; after_results <;> rfl
set_option maxHeartbeats 2000000 in
/-- The layer norm's biases when the call starts. -/
theorem V_lb : V m c main_v9 = broadcastInDim S1x1024 ![1] bcast_S1024_S1x1024_1 (m ((c : Thread nD τ).loc main_arg10)) := by
  unfold V; after_results <;> rfl

/-! ## The blocks of a point -/

/-- The attention group's result at a point. -/
theorem a_block (t : Fin cfg0.N) (r : Fin 512) (l : Fin 512) :
    ((iblk m c 0 t : Vec Ideal S1x512x512 .f32) (ix3 0 r l) : EReal) = (m ((c : Thread nD τ).loc main_arg0) : Group) (ix3 (seqOf t) (posOf t r) l) := by
  have h := V_a m c
  generalize hX : V m c main_arg0 = X at h
  have e : iblk m c 0 t = ((cfg0.win 0).blk t).view.read (Elt Ideal) X := by unfold iblk; rw [← hX]
  rw [e]
  refine Eq.trans (b := X (ix3 (seqOf t) (posOf t r) l)) ?_ ?_
  · unfold seqOf posOf
    blk_ext [block_index t]
  · rw [h]
/-- The Hyena group's result at a point. -/
theorem hy_block (t : Fin cfg0.N) (r : Fin 512) (l : Fin 512) :
    ((iblk m c 1 t : Vec Ideal S1x512x512 .f32) (ix3 0 r l) : EReal) = (m ((c : Thread nD τ).loc main_arg1) : Group) (ix3 (seqOf t) (posOf t r) l) := by
  have h := V_hy m c
  generalize hX : V m c main_arg1 = X at h
  have e : iblk m c 1 t = ((cfg0.win 1).blk t).view.read (Elt Ideal) X := by unfold iblk; rw [← hX]
  rw [e]
  refine Eq.trans (b := X (ix3 (seqOf t) (posOf t r) l)) ?_ ?_
  · unfold seqOf posOf
    blk_ext [block_index t]
  · rw [h]
/-- The layer's input at a point. -/
theorem x_block (t : Fin cfg0.N) (r : Fin 512) (l : Fin 1024) :
    ((iblk m c 2 t : Vec Ideal S1x512x1024 .f32) (ix3 0 r l) : EReal) = (m ((c : Thread nD τ).loc main_arg2) : Seqs) (ix3 (seqOf t) (posOf t r) l) := by
  have h := V_x m c
  generalize hX : V m c main_arg2 = X at h
  have e : iblk m c 2 t = ((cfg0.win 2).blk t).view.read (Elt Ideal) X := by unfold iblk; rw [← hX]
  rw [e]
  refine Eq.trans (b := X (ix3 (seqOf t) (posOf t r) l)) ?_ ?_
  · unfold seqOf posOf
    blk_ext [block_index t]
  · rw [h]
/-- The gates at a point. -/
theorem g1_block (t : Fin cfg0.N) (l : Fin 1024) :
    ((iblk m c 3 t : Vec Ideal S1x1x1024 .f32) (ix3 0 0 l) : EReal) = (m ((c : Thread nD τ).loc main_arg3) : Mods) (ix2 (seqOf t) l) := by
  have h := V_g1 m c
  generalize hX : V m c main_v2 = X at h
  have e : iblk m c 3 t = ((cfg0.win 3).blk t).view.read (Elt Ideal) X := by unfold iblk; rw [← hX]
  rw [e]
  refine Eq.trans (b := X (ix3 (seqOf t) 0 l)) ?_ ?_
  · unfold seqOf
    blk_ext [block_index t]
  · rw [h]
    pointwise
/-- The scales at a point. -/
theorem sc_block (t : Fin cfg0.N) (l : Fin 1024) :
    ((iblk m c 4 t : Vec Ideal S1x1x1024 .f32) (ix3 0 0 l) : EReal) = (m ((c : Thread nD τ).loc main_arg4) : Mods) (ix2 (seqOf t) l) := by
  have h := V_sc m c
  generalize hX : V m c main_v3 = X at h
  have e : iblk m c 4 t = ((cfg0.win 4).blk t).view.read (Elt Ideal) X := by unfold iblk; rw [← hX]
  rw [e]
  refine Eq.trans (b := X (ix3 (seqOf t) 0 l)) ?_ ?_
  · unfold seqOf
    blk_ext [block_index t]
  · rw [h]
    pointwise
/-- The shifts at a point. -/
theorem sh_block (t : Fin cfg0.N) (l : Fin 1024) :
    ((iblk m c 5 t : Vec Ideal S1x1x1024 .f32) (ix3 0 0 l) : EReal) = (m ((c : Thread nD τ).loc main_arg5) : Mods) (ix2 (seqOf t) l) := by
  have h := V_sh m c
  generalize hX : V m c main_v4 = X at h
  have e : iblk m c 5 t = ((cfg0.win 5).blk t).view.read (Elt Ideal) X := by unfold iblk; rw [← hX]
  rw [e]
  refine Eq.trans (b := X (ix3 (seqOf t) 0 l)) ?_ ?_
  · unfold seqOf
    blk_ext [block_index t]
  · rw [h]
    pointwise
/-- The attention group's gains at a point. -/
theorem ga_block (t : Fin cfg0.N) (l : Fin 512) :
    ((iblk m c 6 t : Vec Ideal S1x512 .f32) (ix2 0 l) : EReal) = (m ((c : Thread nD τ).loc main_arg6) : Gain) (ix1 l) := by
  have h := V_ga m c
  generalize hX : V m c main_v5 = X at h
  have e : iblk m c 6 t = ((cfg0.win 6).blk t).view.read (Elt Ideal) X := by unfold iblk; rw [← hX]
  rw [e]
  refine Eq.trans (b := X (ix2 0 l)) ?_ ?_
  · blk_ext [block_index t]
  · rw [h]
    pointwise
/-- The Hyena group's gains at a point. -/
theorem gh_block (t : Fin cfg0.N) (l : Fin 512) :
    ((iblk m c 7 t : Vec Ideal S1x512 .f32) (ix2 0 l) : EReal) = (m ((c : Thread nD τ).loc main_arg7) : Gain) (ix1 l) := by
  have h := V_gh m c
  generalize hX : V m c main_v6 = X at h
  have e : iblk m c 7 t = ((cfg0.win 7).blk t).view.read (Elt Ideal) X := by unfold iblk; rw [← hX]
  rw [e]
  refine Eq.trans (b := X (ix2 0 l)) ?_ ?_
  · blk_ext [block_index t]
  · rw [h]
    pointwise
/-- The projection at a point. -/
theorem w_block (t : Fin cfg0.N) (l j : Fin 1024) :
    ((iblk m c 8 t : Vec Ideal S1024x1024 .bf16) (ix2 l j) : EReal) = (m ((c : Thread nD τ).loc main_arg8) : Proj) (ix2 l j) := by
  have h := V_w m c
  generalize hX : V m c main_v7 = X at h
  have e : iblk m c 8 t = ((cfg0.win 8).blk t).view.read (Elt Ideal) X := by unfold iblk; rw [← hX]
  rw [e]
  refine Eq.trans (b := X (ix2 l j)) ?_ ?_
  · blk_ext [block_index t]
  · rw [h]
    exact wHost_apply _ l j
/-- The layer norm's gains at a point. -/
theorem lg_block (t : Fin cfg0.N) (l : Fin 1024) :
    ((iblk m c 9 t : Vec Ideal S1x1024 .f32) (ix2 0 l) : EReal) = (m ((c : Thread nD τ).loc main_arg9) : Row) (ix1 l) := by
  have h := V_lg m c
  generalize hX : V m c main_v8 = X at h
  have e : iblk m c 9 t = ((cfg0.win 9).blk t).view.read (Elt Ideal) X := by unfold iblk; rw [← hX]
  rw [e]
  refine Eq.trans (b := X (ix2 0 l)) ?_ ?_
  · blk_ext [block_index t]
  · rw [h]
    pointwise
/-- The layer norm's biases at a point. -/
theorem lb_block (t : Fin cfg0.N) (l : Fin 1024) :
    ((iblk m c 10 t : Vec Ideal S1x1024 .f32) (ix2 0 l) : EReal) = (m ((c : Thread nD τ).loc main_arg10) : Row) (ix1 l) := by
  have h := V_lb m c
  generalize hX : V m c main_v9 = X at h
  have e : iblk m c 10 t = ((cfg0.win 10).blk t).view.read (Elt Ideal) X := by unfold iblk; rw [← hX]
  rw [e]
  refine Eq.trans (b := X (ix2 0 l)) ?_ ?_
  · blk_ext [block_index t]
  · rw [h]
    pointwise

/-! ## What a point writes -/

/-- The state of a point whose blocks hold their parts of the arguments. -/
theorem state_of (a hy : Group) (x : Seqs) (g1 : Mods) (ga gh : Gain) (w : Proj) (lg lb : Row) (t : Fin cfg0.N) (x0 x1 : Vec Ideal S1x512x512 .f32)
    (x2 : Vec Ideal S1x512x1024 .f32) (x3 : Vec Ideal S1x1x1024 .f32) (x6 x7 : Vec Ideal S1x512 .f32) (x8 : Vec Ideal S1024x1024 .bf16) (x9 x10 : Vec Ideal S1x1024 .f32)
    (ha : ∀ r k, (x0 (ix3 0 r k) : EReal) = a (ix3 (seqOf t) (posOf t r) k)) (hh : ∀ r k, (x1 (ix3 0 r k) : EReal) = hy (ix3 (seqOf t) (posOf t r) k))
    (hx : ∀ r k, (x2 (ix3 0 r k) : EReal) = x (ix3 (seqOf t) (posOf t r) k)) (hg : ∀ k, (x3 (ix3 0 0 k) : EReal) = g1 (ix2 (seqOf t) k))
    (hga : ∀ k, (x6 (ix2 0 k) : EReal) = ga (ix1 k)) (hgh : ∀ k, (x7 (ix2 0 k) : EReal) = gh (ix1 k)) (hw : ∀ l j, (x8 (ix2 l j) : EReal) = w (ix2 l j))
    (hlg : ∀ k, (x9 (ix2 0 k) : EReal) = lg (ix1 k)) (hlb : ∀ k, (x10 (ix2 0 k) : EReal) = lb (ix1 k)) (r : Fin 512) (j : Fin 1024) :
    windowState x0 x1 x2 x3 x6 x7 x8 x9 x10 (ix3 0 r j) = state a hy x g1 ga gh w lg lb (ix3 (seqOf t) (posOf t r) j) := by
  have hs : blockSum x0 x1 x2 x3 x6 x7 x8 r = summed a hy x g1 ga gh w (seqOf t) (posOf t r) := by
    funext k
    unfold blockSum summed mixed
    simp only [ha, hh, hx, hg, hga, hgh, hw]
  show norm (blockSum x0 x1 x2 x3 x6 x7 x8 r) (fun k => x9 (ix2 0 k)) (fun k => x10 (ix2 0 k)) j
    = norm (summed a hy x g1 ga gh w (seqOf t) (posOf t r)) (fun k => lg (ix1 k)) (fun k => lb (ix1 k)) j
  rw [hs, show (fun k => (x9 (ix2 0 k) : EReal)) = fun k => lg (ix1 k) from funext hlg, show (fun k => (x10 (ix2 0 k) : EReal)) = fun k => lb (ix1 k) from funext hlb]

/-- The modulated state of such a point. -/
theorem modulated_of (a hy : Group) (x : Seqs) (g1 sc sh : Mods) (ga gh : Gain) (w : Proj) (lg lb : Row) (t : Fin cfg0.N) (x0 x1 : Vec Ideal S1x512x512 .f32)
    (x2 : Vec Ideal S1x512x1024 .f32) (x3 x4 x5 : Vec Ideal S1x1x1024 .f32) (x6 x7 : Vec Ideal S1x512 .f32) (x8 : Vec Ideal S1024x1024 .bf16) (x9 x10 : Vec Ideal S1x1024 .f32)
    (ha : ∀ r k, (x0 (ix3 0 r k) : EReal) = a (ix3 (seqOf t) (posOf t r) k)) (hh : ∀ r k, (x1 (ix3 0 r k) : EReal) = hy (ix3 (seqOf t) (posOf t r) k))
    (hx : ∀ r k, (x2 (ix3 0 r k) : EReal) = x (ix3 (seqOf t) (posOf t r) k)) (hg : ∀ k, (x3 (ix3 0 0 k) : EReal) = g1 (ix2 (seqOf t) k))
    (hga : ∀ k, (x6 (ix2 0 k) : EReal) = ga (ix1 k)) (hgh : ∀ k, (x7 (ix2 0 k) : EReal) = gh (ix1 k)) (hw : ∀ l j, (x8 (ix2 l j) : EReal) = w (ix2 l j))
    (hlg : ∀ k, (x9 (ix2 0 k) : EReal) = lg (ix1 k)) (hlb : ∀ k, (x10 (ix2 0 k) : EReal) = lb (ix1 k))
    (hsc : ∀ k, (x4 (ix3 0 0 k) : EReal) = sc (ix2 (seqOf t) k)) (hsh : ∀ k, (x5 (ix3 0 0 k) : EReal) = sh (ix2 (seqOf t) k)) (r : Fin 512) (j : Fin 1024) :
    windowModulated x0 x1 x2 x3 x4 x5 x6 x7 x8 x9 x10 (ix3 0 r j) = modulated a hy x g1 sc sh ga gh w lg lb (ix3 (seqOf t) (posOf t r) j) := by
  show windowState x0 x1 x2 x3 x6 x7 x8 x9 x10 (ix3 0 r j) * (1 + (x4 (ix3 0 0 j) : EReal)) + x5 (ix3 0 0 j)
    = state a hy x g1 ga gh w lg lb (ix3 (seqOf t) (posOf t r) j) * (1 + sc (ix2 (seqOf t) j)) + sh (ix2 (seqOf t) j)
  rw [state_of a hy x g1 ga gh w lg lb t x0 x1 x2 x3 x6 x7 x8 x9 x10 ha hh hx hg hga hgh hw hlg hlb r j, hsc, hsh]

/-- The state a point writes, at an index. -/
theorem point_state (t : Fin cfg0.N) (r : Fin 512) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r j)
      = state (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (ix3 (seqOf t) (posOf t r) j) :=
  (out_state _ _ _ _ _ _ _ _ _ _ _ _ _).trans
    (state_of _ _ _ _ _ _ _ _ _ t _ _ _ _ _ _ _ _ _ (a_block m c t) (hy_block m c t) (x_block m c t) (g1_block m c t) (ga_block m c t) (gh_block m c t) (w_block m c t)
      (lg_block m c t) (lb_block m c t) r j)

/-- The modulated state a point writes, at an index. -/
theorem point_modulated (t : Fin cfg0.N) (r : Fin 512) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r j)
      = modulated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (seqOf t) (posOf t r) j) :=
  (out_modulated _ _ _ _ _ _ _ _ _ _ _ _ _).trans
    (modulated_of _ _ _ _ _ _ _ _ _ _ _ t _ _ _ _ _ _ _ _ _ _ _ (a_block m c t) (hy_block m c t) (x_block m c t) (g1_block m c t) (ga_block m c t) (gh_block m c t) (w_block m c t)
      (lg_block m c t) (lb_block m c t) (sc_block m c t) (sh_block m c t) r j)

/-! ## The arrays -/

/-- The array of states after the last point. -/
theorem state_eq : (dats m 0 c).arrAt 12 cfg0.N
    = state (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  rw [after0_12]
  blk_simp
  obtain ⟨a, r, j, rfl⟩ : ∃ (a : Fin 1) (r : Fin 512) (j : Fin 1024), y = ix3 a r j := ⟨y 0, y 1, y 2, eq_ix3 y⟩
  obtain rfl : a = 0 := Subsingleton.elim _ _
  refine (point_state m c t r j).trans ?_
  generalize hz : (win0_12.blk t).view.emb (ix3 0 r j) = z
  have z0 : (z 0).val = t.val / 16 := by rw [← hz]; blk_simp [block_index t]; simp
  have z1 : (z 1).val = 512 * (t.val % 16) + r.val := by rw [← hz]; blk_simp [block_index t]; simp; omega
  have z2 : (z 2).val = j.val := by rw [← hz]; blk_simp [block_index t]
  refine congrArg (state (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) ?_
  rw [eq_ix3 z]
  congr 1
  · exact Fin.ext z0.symm
  · exact Fin.ext z1.symm
  · exact Fin.ext z2.symm

/-- The array of modulated states after the last point. -/
theorem modulated_eq : (dats m 0 c).arrAt 13 cfg0.N
    = modulated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t hf y => ?_
  rw [after0_13]
  blk_simp
  obtain ⟨a, r, j, rfl⟩ : ∃ (a : Fin 1) (r : Fin 512) (j : Fin 1024), y = ix3 a r j := ⟨y 0, y 1, y 2, eq_ix3 y⟩
  obtain rfl : a = 0 := Subsingleton.elim _ _
  refine (point_modulated m c t r j).trans ?_
  generalize hz : (win0_13.blk t).view.emb (ix3 0 r j) = z
  have z0 : (z 0).val = t.val / 16 := by rw [← hz]; blk_simp [block_index t]; simp
  have z1 : (z 1).val = 512 * (t.val % 16) + r.val := by rw [← hz]; blk_simp [block_index t]; simp; omega
  have z2 : (z 2).val = j.val := by rw [← hz]; blk_simp [block_index t]
  refine congrArg (modulated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) ?_
  rw [eq_ix3 z]
  congr 1
  · exact Fin.ext z0.symm
  · exact Fin.ext z1.symm
  · exact Fin.ext z2.symm

end Cert.OutProj

end
-- ==== Proof.OutProjRef.lean ====
/-
  The output projection's reference at an index: the same state and the same modulated state as the kernel's, stage by stage.
-/
module

public import proofs.«01_k».proof.Proof.OutProj
public import proofs.«01_k».proof.Proof.Gen.Reference4Ideal.Read

@[expose] public section

set_option maxRecDepth 16384

noncomputable section

namespace Cert.OutProj

open Cert.Reference4Ideal Cert.Reference4Ideal.Gen Cert.Reference4Ideal.Read
open Idealize.ShloMosaic Idealize.ShloMosaic.TcCoe
open scoped BigOperators

variable (a hy : Group) (x : Seqs) (g1 sc sh : Mods) (ga gh : Gain) (w : Proj) (lg lb : Row)

/-- The attention group's norm. -/
theorem ref_attention (b : Fin 2) (s : Fin 8192) (j : Fin 512) :
    val_main_v12 (F := Ideal) a ga (ix3 b s j) = rms (fun k => a (ix3 b s k)) (fun k => ga (ix1 k)) j := by
  unfold rms root
  pointwise [val_main_v12, val_main_v11, val_main_v10, val_main_v9, val_main_v8, val_main_v7, val_main_v6, val_main_v5, val_main_v4, val_main_v3, val_main_v2, val_main_v1,
    val_main_v0, val_main_cst, val_main_cst_0, val_main_cst_1]

/-- The Hyena group's norm. -/
theorem ref_hyena (b : Fin 2) (s : Fin 8192) (j : Fin 512) :
    val_main_v25 (F := Ideal) hy gh (ix3 b s j) = rms (fun k => hy (ix3 b s k)) (fun k => gh (ix1 k)) j := by
  unfold rms root
  pointwise [val_main_v25, val_main_v24, val_main_v23, val_main_v22, val_main_v21, val_main_v20, val_main_v19, val_main_v18, val_main_v17, val_main_v16, val_main_v15,
    val_main_v14, val_main_v13, val_main_cst_2, val_main_cst_3, val_main_cst_4]

/-- The first half of the joined rows is the attention group's. -/
theorem ref_upper (b : Fin 2) (s : Fin 8192) (l : Fin 512) :
    val_main_v26 (F := Ideal) a hy ga gh (ix3 b s ⟨l.val, upper_lt l⟩) = rms (fun k => a (ix3 b s k)) (fun k => ga (ix1 k)) l := by
  rw [← ref_attention]
  unfold val_main_v26
  generalize val_main_v12 (F := Ideal) a ga = Y
  generalize val_main_v25 (F := Ideal) hy gh = Z
  pointwise

/-- The second half is the Hyena group's. -/
theorem ref_lower (b : Fin 2) (s : Fin 8192) (l : Fin 512) :
    val_main_v26 (F := Ideal) a hy ga gh (ix3 b s ⟨512 + l.val, lower_lt l⟩) = rms (fun k => hy (ix3 b s k)) (fun k => gh (ix1 k)) l := by
  rw [← ref_hyena]
  unfold val_main_v26
  generalize val_main_v12 (F := Ideal) a ga = Y
  generalize val_main_v25 (F := Ideal) hy gh = Z
  pointwise

/-- A sum over the joined rows is the sum of the two halves' sums. -/
theorem sum_halves (f : Fin 1024 → EReal) :
    (∑ l : Fin 1024, f l) = (∑ l : Fin 512, f ⟨l.val, upper_lt l⟩) + ∑ l : Fin 512, f ⟨512 + l.val, lower_lt l⟩ :=
  Fin.sum_univ_add (a := 512) (b := 512) f

/-- The projection of the joined rows. -/
theorem ref_mixed (b : Fin 2) (s : Fin 8192) (j : Fin 1024) : val_main_v27 (F := Ideal) a hy ga gh w (ix3 b s j) = mixed a hy ga gh w b s j := by
  have h : val_main_v27 (F := Ideal) a hy ga gh w (ix3 b s j) = ∑ l : Fin 1024, (val_main_v26 (F := Ideal) a hy ga gh (ix3 b s l) * w (ix2 l j) : EReal) := by
    unfold val_main_v27
    generalize val_main_v26 (F := Ideal) a hy ga gh = Z
    pointwise
  rw [h, sum_halves]
  unfold mixed
  simp only [ref_upper, ref_lower]

/-- What goes into the layer norm. -/
theorem ref_summed (b : Fin 2) (s : Fin 8192) (j : Fin 1024) :
    val_main_v33 (F := Ideal) a hy x g1 ga gh w (ix3 b s j) = summed a hy x g1 ga gh w b s j := by
  unfold summed
  rw [← ref_mixed]
  unfold val_main_v33 val_main_v32
  generalize val_main_v27 (F := Ideal) a hy ga gh w = Z
  pointwise [val_main_v31, val_main_v30, val_main_v29, val_main_v28, val_main_cst_5]

/-- A row less its mean, as it is squared. -/
theorem ref_centred (b : Fin 2) (s : Fin 8192) (j : Fin 1024) :
    val_main_v39 (F := Ideal) a hy x g1 ga gh w (ix3 b s j) = centred (summed a hy x g1 ga gh w b s) j := by
  unfold centred
  simp only [← ref_summed a hy x g1 ga gh w]
  unfold val_main_v39 val_main_v38 val_main_v37 val_main_v35 val_main_v34
  generalize val_main_v33 (F := Ideal) a hy x g1 ga gh w = Z
  pointwise [val_main_v36, val_main_cst_6, val_main_cst_7]

/-- A row less its mean, as it is divided. -/
theorem ref_centred' (b : Fin 2) (s : Fin 8192) (j : Fin 1024) :
    val_main_v46 (F := Ideal) a hy x g1 ga gh w (ix3 b s j) = centred (summed a hy x g1 ga gh w b s) j := by
  unfold centred
  simp only [← ref_summed a hy x g1 ga gh w]
  unfold val_main_v46 val_main_v45 val_main_v37 val_main_v35 val_main_v34
  generalize val_main_v33 (F := Ideal) a hy x g1 ga gh w = Z
  pointwise [val_main_v36, val_main_cst_6, val_main_cst_7]

/-- The factor of a row. -/
theorem ref_root (b : Fin 2) (s : Fin 8192) : val_main_v49 (F := Ideal) a hy x g1 ga gh w (ix3 b s 0) = root' (centred (summed a hy x g1 ga gh w b s)) := by
  unfold root'
  simp only [← ref_centred a hy x g1 ga gh w]
  unfold val_main_v49 val_main_v48 val_main_v44 val_main_v42 val_main_v41 val_main_v40
  generalize val_main_v39 (F := Ideal) a hy x g1 ga gh w = Z
  pointwise [val_main_v47, val_main_v43, val_main_cst_8, val_main_cst_9, val_main_cst_10]

/-- The state at an index. -/
theorem ref_state_at (b : Fin 2) (s : Fin 8192) (j : Fin 1024) :
    val_main_v57 (F := Ideal) a hy x g1 ga gh w lg lb (ix3 b s j) = state a hy x g1 ga gh w lg lb (ix3 b s j) := by
  show _ = centred (summed a hy x g1 ga gh w b s) j * root' (centred (summed a hy x g1 ga gh w b s)) * lg (ix1 j) + lb (ix1 j)
  rw [← ref_centred', ← ref_root]
  unfold val_main_v57 val_main_v54 val_main_v51 val_main_v50
  generalize val_main_v46 (F := Ideal) a hy x g1 ga gh w = Y
  generalize val_main_v49 (F := Ideal) a hy x g1 ga gh w = Z
  pointwise [val_main_v56, val_main_v55, val_main_v53, val_main_v52]

/-- The reference's state is `state`. -/
theorem ref_state : val_main_v57 (F := Ideal) a hy x g1 ga gh w lg lb = state a hy x g1 ga gh w lg lb := by
  funext i
  rw [eq_ix3 i]
  exact ref_state_at a hy x g1 ga gh w lg lb (i 0) (i 1) (i 2)

/-- The modulated state at an index. -/
theorem ref_modulated_at (b : Fin 2) (s : Fin 8192) (j : Fin 1024) :
    val_main_v66 (F := Ideal) a hy x g1 sc sh ga gh w lg lb (ix3 b s j) = modulated a hy x g1 sc sh ga gh w lg lb (ix3 b s j) := by
  show _ = state a hy x g1 ga gh w lg lb (ix3 b s j) * (1 + sc (ix2 b j)) + sh (ix2 b j)
  rw [← ref_state]
  unfold val_main_v66 val_main_v65 val_main_v62
  generalize val_main_v57 (F := Ideal) a hy x g1 ga gh w lg lb = Z
  pointwise [val_main_v64, val_main_v63, val_main_v61, val_main_v60, val_main_v59, val_main_v58, val_main_cst_11]

/-- The reference's modulated state is `modulated`. -/
theorem ref_modulated : val_main_v66 (F := Ideal) a hy x g1 sc sh ga gh w lg lb = modulated a hy x g1 sc sh ga gh w lg lb := by
  funext i
  rw [eq_ix3 i]
  exact ref_modulated_at a hy x g1 sc sh ga gh w lg lb (i 0) (i 1) (i 2)

end Cert.OutProj

end
-- ==== Proof.OutProjClaim.lean ====
/-
  The claims of the output projection's call: its frames (one run, over any carrier of floats, gives both kernels') and the value claim
  of its two results.
-/
module

public import proofs.«01_k».proof.Defs
public import proofs.«01_k».proof.Proof.OutProjRef
public import proofs.«01_k».proof.Proof.Gen.Kernel4

@[expose] public section

set_option maxRecDepth 16384

noncomputable section

namespace Cert.OutProj

open Idealize.ShloMosaic Idealize.SL.Sem

set_option maxHeartbeats 8000000 in
/-- The two programs' body tables are one: label 0 runs the same body. -/
theorem defs₀_eq : Cert.Kernel4.defs₀ (F := Bits) = Cert.Kernel4Ideal.defs₀ (F := Bits) := by
  unfold Cert.Kernel4.defs₀ Cert.Kernel4Ideal.defs₀
  refine congrArg Defs.onTc (funext fun l => funext fun x => ?_)
  match l, x with
  | 0, (t, s) => rfl

set_option maxHeartbeats 8000000 in
/-- So are the tables with the region's pipeline. -/
theorem defs_eq : Cert.Kernel4.defs (F := Bits) = Cert.Kernel4Ideal.defs (F := Bits) :=
  congrArg (Pipeline.defs (Cert.Kernel4Ideal.pcfgs (F := Bits))) defs₀_eq

set_option maxHeartbeats 8000000 in
/-- The kernel's frame at machine words: the run at `Bits`. -/
theorem frame_kernel : Cert.quiescent_Kernel4 := fun m ρ _ => by
  rw [defs_eq]
  exact Cert.Kernel4Ideal.Gen.frame (F := Bits) m ρ

set_option maxHeartbeats 8000000 in
/-- The idealized kernel's frame: the run at the extended reals. -/
theorem frame_kernelIdeal : Cert.quiescent_Kernel4Ideal := fun m ρ _ => Cert.Kernel4Ideal.Gen.frame (F := Ideal) m ρ

/-- The idealized reference's frame: its operations' run, and no semaphore to count. -/
theorem frame_referenceIdeal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Kernel and reference, idealized, leave the same state and the same modulated state from the same arguments. -/
theorem algebraic : Cert.algebraic_Kernel4Ideal_Reference4Ideal
    (hKernel4Ideal := Cert.Kernel4Ideal.Gen.facts) (hReference4Ideal := Cert.Reference4Ideal.Gen.facts) := by
  intro m g m' g' _ ha
  refine ⟨fun c => state (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))
      (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)),
    fun c => modulated (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))
      (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)), ?_, ?_⟩
  · exact (θ_run _ _ _).mono (fun r h c => ⟨(h c).1.trans (state_eq m c), (h c).2.1.trans (modulated_eq m c), (h c).2.2.2⟩)
      (Cert.Kernel4Ideal.Value.run_blocks (F := Ideal) m g)
  · refine (θ_run _ _ _).mono (fun r h c => ⟨(h c).1.trans ?_, (h c).2.1.trans ?_, (h c).2.2⟩) (Cert.Reference4Ideal.Value.run (F := Ideal) m' g')
    · refine (Cert.Reference4Ideal.Read.val_main_v57_eq m' c).trans ?_
      obtain ⟨a0, a1, a2, a3, a4, a5, a6, a7, a8, a9, a10, a11⟩ := ha c
      rw [a0, a1, a2, a3, a6, a7, a8, a9, a10]
      exact ref_state _ _ _ _ _ _ _ _ _
    · refine (Cert.Reference4Ideal.Read.val_main_v66_eq m' c).trans ?_
      obtain ⟨a0, a1, a2, a3, a4, a5, a6, a7, a8, a9, a10, a11⟩ := ha c
      rw [a0, a1, a2, a3, a4, a5, a6, a7, a8, a9, a10]
      exact ref_modulated _ _ _ _ _ _ _ _ _ _ _

end Cert.OutProj

end
-- ==== Proof.Ada.lean ====
/-
  The modulations: each of six grid points takes 1024 columns of the product of the conditioning, times its logistic, with the weights,
  and adds the bias. What a point writes, and what the array holds.
-/
module

public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Ada

open Cert.Kernel5Ideal Cert.Kernel5Ideal.Gen
open Idealize.ShloMosaic Idealize.ShloMosaic.TcCoe
open scoped BigOperators

/-- The conditioning: a row of 1024 numbers per sequence. -/
abbrev Cond : Type := (⟨2, ![2, 1024]⟩ : Shape).Idx → EReal
/-- The weights of the six modulations. -/
abbrev Weights : Type := (⟨2, ![1024, 6144]⟩ : Shape).Idx → EReal
/-- Their biases. -/
abbrev Biases : Type := (⟨1, ![6144]⟩ : Shape).Idx → EReal

/-- The modulations: the conditioning times its logistic, projected, plus the bias. -/
def mods (c : Cond) (w : Weights) (b : Biases) : (⟨2, ![2, 6144]⟩ : Shape).Idx → EReal := fun i =>
  (∑ l : Fin 1024, c (ix2 (i 0) l) * Ideal.logistic (c (ix2 (i 0) l)) * w (ix2 l (i 1))) + b (ix1 (i 1))

/-! ## A point's values at an index -/

/-- The first sequence's row of a point. -/
theorem pay_first (v : Vec Ideal S1024x2 .f32) (w : Vec Ideal S1024x1024 .f32) (b : Vec Ideal S1x1024 .f32) (j : Fin 1024) :
    k0_pay1 v w b (ix2 0 j) = (∑ l : Fin 1024, w (ix2 l j) * (v (ix2 l 0) * Ideal.logistic (v (ix2 l 0))) : EReal) + b (ix2 0 j) := by
  pointwise [k0_pay1]
/-- The second sequence's row of a point. -/
theorem pay_second (v : Vec Ideal S1024x2 .f32) (w : Vec Ideal S1024x1024 .f32) (b : Vec Ideal S1x1024 .f32) (j : Fin 1024) :
    k0_pay1 v w b (ix2 1 j) = (∑ l : Fin 1024, w (ix2 l j) * (v (ix2 l 1) * Ideal.logistic (v (ix2 l 1))) : EReal) + b (ix2 0 j) := by
  pointwise [k0_pay1]
/-- A row of a point. -/
theorem pay_apply (v : Vec Ideal S1024x2 .f32) (w : Vec Ideal S1024x1024 .f32) (b : Vec Ideal S1x1024 .f32) (s : Fin 2) (j : Fin 1024) :
    k0_pay1 v w b (ix2 s j) = (∑ l : Fin 1024, v (ix2 l s) * Ideal.logistic (v (ix2 l s)) * w (ix2 l j) : EReal) + b (ix2 0 j) := by
  match s with
  | 0 => rw [pay_first]; simp only [mul_comm (w _)]
  | 1 => rw [pay_second]; simp only [mul_comm (w _)]

/-! ## What the host prepares, and the blocks -/

/-- The blocks' indices. -/
theorem block_index : ∀ t : Fin grid0.N, win0_0.index t = ![0, 0] ∧ win0_1.index t = ![0, t.val] ∧ win0_2.index t = ![0, t.val]
    ∧ win0_3.index t = ![0, t.val] := by decide +kernel

/-- There are six points. -/
theorem points (t : Fin cfg0.N) : t.val < 6 := t.isLt
/-- A point's column lies among the 6144. -/
theorem col_lt (t : Fin cfg0.N) (j : Fin 1024) : 1024 * t.val + j.val < 6144 := by have := points t; omega
/-- A point's column. -/
def colOf (t : Fin cfg0.N) (j : Fin 1024) : Fin 6144 := ⟨1024 * t.val + j.val, col_lt t j⟩

variable (m : (ℓ : Loc nD τ sig) → Buf (Elt Ideal) ℓ) (c : Dev nD)

/-- The conditioning when the call starts. -/
theorem V_c : V m c main_v1 = transpose S1024x2 [1, 0] (m ((c : Thread nD τ).loc main_arg0)) transposes_S2x1024_S1024x2_1_0 := by
  unfold V; after_results <;> rfl
/-- The weights when the call starts. -/
theorem V_w : V m c main_arg1 = m ((c : Thread nD τ).loc main_arg1) := by
  unfold V; after_results <;> rfl
/-- The biases when the call starts. -/
theorem V_b : V m c main_v0 = broadcastInDim S1x6144 ![1] bcast_S6144_S1x6144_1 (m ((c : Thread nD τ).loc main_arg2)) := by
  unfold V; after_results <;> rfl

/-- The conditioning at a point. -/
theorem c_block (t : Fin cfg0.N) (l : Fin 1024) (s : Fin 2) :
    ((iblk m c 0 t : Vec Ideal S1024x2 .f32) (ix2 l s) : EReal) = (m ((c : Thread nD τ).loc main_arg0) : Cond) (ix2 s l) := by
  have h := V_c m c
  generalize hX : V m c main_v1 = X at h
  have e : iblk m c 0 t = ((cfg0.win 0).blk t).view.read (Elt Ideal) X := by unfold iblk; rw [← hX]
  rw [e]
  refine Eq.trans (b := X (ix2 l s)) ?_ ?_
  · blk_ext [block_index t]
  · rw [h]
    pointwise
/-- The weights at a point. -/
theorem w_block (t : Fin cfg0.N) (l j : Fin 1024) :
    ((iblk m c 1 t : Vec Ideal S1024x1024 .f32) (ix2 l j) : EReal) = (m ((c : Thread nD τ).loc main_arg1) : Weights) (ix2 l (colOf t j)) := by
  have h := V_w m c
  generalize hX : V m c main_arg1 = X at h
  have e : iblk m c 1 t = ((cfg0.win 1).blk t).view.read (Elt Ideal) X := by unfold iblk; rw [← hX]
  rw [e]
  refine Eq.trans (b := X (ix2 l (colOf t j))) ?_ ?_
  · unfold colOf
    blk_ext [block_index t]
  · rw [h]
/-- The biases at a point. -/
theorem b_block (t : Fin cfg0.N) (j : Fin 1024) :
    ((iblk m c 2 t : Vec Ideal S1x1024 .f32) (ix2 0 j) : EReal) = (m ((c : Thread nD τ).loc main_arg2) : Biases) (ix1 (colOf t j)) := by
  have h := V_b m c
  generalize hX : V m c main_v0 = X at h
  have e : iblk m c 2 t = ((cfg0.win 2).blk t).view.read (Elt Ideal) X := by unfold iblk; rw [← hX]
  rw [e]
  refine Eq.trans (b := X (ix2 0 (colOf t j))) ?_ ?_
  · unfold colOf
    blk_ext [block_index t]
  · rw [h]
    pointwise

/-! ## What a point writes -/

/-- The modulations of a point, from its blocks. -/
theorem out_mods (x0 : Vec Ideal S1024x2 .f32) (x1 : Vec Ideal S1024x1024 .f32) (x2 : Vec Ideal S1x1024 .f32) : out0_3 x0 x1 x2 = k0_pay1 x0 x1 x2 := by
  unfold out0_3
  frame_out

/-- The modulations of a point whose blocks hold their parts of the arguments. -/
theorem mods_of (cd : Cond) (w : Weights) (b : Biases) (t : Fin cfg0.N) (x0 : Vec Ideal S1024x2 .f32) (x1 : Vec Ideal S1024x1024 .f32) (x2 : Vec Ideal S1x1024 .f32)
    (hc : ∀ l s, (x0 (ix2 l s) : EReal) = cd (ix2 s l)) (hw : ∀ l j, (x1 (ix2 l j) : EReal) = w (ix2 l (colOf t j)))
    (hb : ∀ j, (x2 (ix2 0 j) : EReal) = b (ix1 (colOf t j))) (s : Fin 2) (j : Fin 1024) : k0_pay1 x0 x1 x2 (ix2 s j) = mods cd w b (ix2 s (colOf t j)) := by
  rw [pay_apply]
  simp only [hc, hw, hb]
  rfl

/-- The modulations a point writes, at an index. -/
theorem point_mods (t : Fin cfg0.N) (s : Fin 2) (j : Fin 1024) : out0_3 (iblk m c 0 t) (iblk m c 1 t) (iblk m c 2 t) (ix2 s j)
    = mods (m ((c : Thread nD τ).loc main_arg0)) (m ((c : Thread nD τ).loc main_arg1)) (m ((c : Thread nD τ).loc main_arg2)) (ix2 s (colOf t j)) := by
  rw [out_mods]
  exact mods_of _ _ _ t _ _ _ (c_block m c t) (w_block m c t) (b_block m c t) s j

/-- The array of modulations after the last point. -/
theorem mods_eq : (dats m 0 c).arrAt 3 cfg0.N
    = mods (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3]
  blk_simp
  obtain ⟨s, j, rfl⟩ : ∃ (s : Fin 2) (j : Fin 1024), y = ix2 s j := ⟨y 0, y 1, eq_ix2 y⟩
  refine (point_mods m c t s j).trans ?_
  generalize hz : (win0_3.blk t).view.emb (ix2 s j) = z
  have z0 : (z 0).val = s.val := by rw [← hz]; blk_simp [block_index t]
  have z1 : (z 1).val = 1024 * t.val + j.val := by rw [← hz]; blk_simp [block_index t]; simp; omega
  refine congrArg (mods (m ((c : Thread nD τ).loc main_arg0)) (m ((c : Thread nD τ).loc main_arg1)) (m ((c : Thread nD τ).loc main_arg2))) ?_
  rw [eq_ix2 z]
  congr 1
  · exact Fin.ext z0.symm
  · exact Fin.ext z1.symm

end Cert.Ada

end
-- ==== Proof.AdaRef.lean ====
/-
  The modulations' reference at an index: the same modulations as the kernel's.
-/
module

public import proofs.«01_k».proof.Proof.Ada
public import proofs.«01_k».proof.Proof.Gen.Reference5Ideal.Read

@[expose] public section

set_option maxRecDepth 16384

noncomputable section

namespace Cert.Ada

open Cert.Reference5Ideal Cert.Reference5Ideal.Gen Cert.Reference5Ideal.Read
open Idealize.ShloMosaic Idealize.ShloMosaic.TcCoe
open scoped BigOperators

variable (c : Cond) (w : Weights) (b : Biases)

/-- The conditioning times its logistic. -/
theorem ref_silu (s : Fin 2) (l : Fin 1024) : val_main_v0 (F := Ideal) c (ix2 s l) = c (ix2 s l) * Ideal.logistic (c (ix2 s l)) := by
  unfold val_main_v0 val_main_call0_v5 val_main_call0_v3 val_main_call0_v1 val_main_call0_v0
  pointwise [val_main_call0_v4, val_main_call0_cst_0, val_main_call0_v2, val_main_call0_cst]
  rfl

/-- The modulations at an index. -/
theorem ref_mods_at (s : Fin 2) (j : Fin 6144) : val_main_v4 (F := Ideal) c w b (ix2 s j) = mods c w b (ix2 s j) := by
  show _ = (∑ l : Fin 1024, c (ix2 s l) * Ideal.logistic (c (ix2 s l)) * w (ix2 l j)) + b (ix1 j)
  simp only [← ref_silu c]
  unfold val_main_v4 val_main_v1
  generalize val_main_v0 (F := Ideal) c = Z
  pointwise [val_main_v3, val_main_v2]

/-- The reference's modulations are `mods`. -/
theorem ref_mods : val_main_v4 (F := Ideal) c w b = mods c w b := by
  funext i
  rw [eq_ix2 i]
  exact ref_mods_at c w b (i 0) (i 1)

end Cert.Ada

end
-- ==== Proof.AdaClaim.lean ====
/-
  The claims of the modulations' call: its frames (one run, over any carrier of floats, gives both kernels') and the value claim.
-/
module

public import proofs.«01_k».proof.Defs
public import proofs.«01_k».proof.Proof.AdaRef
public import proofs.«01_k».proof.Proof.Gen.Kernel5

@[expose] public section

set_option maxRecDepth 16384

noncomputable section

namespace Cert.Ada

open Idealize.ShloMosaic Idealize.SL.Sem

/-- The two programs' body tables are one: label 0 runs the same body. -/
theorem defs₀_eq : Cert.Kernel5.defs₀ (F := Bits) = Cert.Kernel5Ideal.defs₀ (F := Bits) := by
  unfold Cert.Kernel5.defs₀ Cert.Kernel5Ideal.defs₀
  refine congrArg Defs.onTc (funext fun l => funext fun x => ?_)
  match l, x with
  | 0, (t, s) => rfl

/-- So are the tables with the region's pipeline. -/
theorem defs_eq : Cert.Kernel5.defs (F := Bits) = Cert.Kernel5Ideal.defs (F := Bits) :=
  congrArg (Pipeline.defs (Cert.Kernel5Ideal.pcfgs (F := Bits))) defs₀_eq

/-- The kernel's frame at machine words: the run at `Bits`. -/
theorem frame_kernel : Cert.quiescent_Kernel5 := fun m ρ _ => by
  rw [defs_eq]
  exact Cert.Kernel5Ideal.Gen.frame (F := Bits) m ρ

/-- The idealized kernel's frame: the run at the extended reals. -/
theorem frame_kernelIdeal : Cert.quiescent_Kernel5Ideal := fun m ρ _ => Cert.Kernel5Ideal.Gen.frame (F := Ideal) m ρ

/-- The idealized reference's frame: its operations' run, and no semaphore to count. -/
theorem frame_referenceIdeal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference, idealized, leave the same result from the same arguments. -/
theorem algebraic : Cert.algebraic_Kernel5Ideal_Reference5Ideal
    (hKernel5Ideal := Cert.Kernel5Ideal.Gen.facts) (hReference5Ideal := Cert.Reference5Ideal.Gen.facts) := by
  intro m g m' g' _ ha
  refine ⟨fun c => mods (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2)), ?_, ?_⟩
  · exact (θ_run _ _ _).mono (fun r h c => ⟨(h c).1.trans (mods_eq m c), (h c).2⟩) (Cert.Kernel5Ideal.Value.run_blocks (F := Ideal) m g)
  · refine (θ_run _ _ _).mono (fun r h c => ⟨(h c).1.trans ?_, (h c).2⟩) (Cert.Reference5Ideal.Value.run (F := Ideal) m' g')
    obtain ⟨a0, a1, a2⟩ := ha c
    rw [a0, a1, a2]
    exact (Cert.Reference5Ideal.Read.val_main_v4_eq _ _ _).trans (ref_mods _ _ _)

end Cert.Ada

end
-- ==== Proof.Turn.lean ====
/-
  The arithmetic of the turned queries and keys: a head's 128 lanes hold 64 plain numbers, 32 turned ones and 32 zeros. The kernel
  turns by projecting twice, the second time with the columns half-turned and negated, and by multiplying lane by lane with widened
  rotary tables; on real numbers that is the plain turn.
-/
module

public import proofs.«01_k».proof.Proof.Online

@[expose] public section

set_option maxRecDepth 16384

noncomputable section

namespace Cert.InKeys

open Idealize.ShloMosaic
open scoped BigOperators

/-- A number that is no infinity. -/
def IsReal (a : EReal) : Prop := ∃ r : ℝ, (r : EReal) = a

/-- Sums of two reals are real. -/
theorem IsReal.add {a b : EReal} (ha : IsReal a) (hb : IsReal b) : IsReal (a + b) := by
  obtain ⟨p, rfl⟩ := ha
  obtain ⟨q, rfl⟩ := hb
  exact ⟨p + q, EReal.coe_add p q⟩
/-- Products of two reals are real. -/
theorem IsReal.mul {a b : EReal} (ha : IsReal a) (hb : IsReal b) : IsReal (a * b) := by
  obtain ⟨p, rfl⟩ := ha
  obtain ⟨q, rfl⟩ := hb
  exact ⟨p * q, EReal.coe_mul p q⟩
/-- One is real. -/
theorem real_one : IsReal 1 := ⟨1, EReal.coe_one⟩
/-- A finite sum of reals is real. -/
theorem real_sum {ι : Type} [Fintype ι] (f : ι → EReal) (h : ∀ i, IsReal (f i)) : IsReal (∑ i, f i) := by
  choose r hr using h
  exact ⟨∑ i, r i, by rw [Cert.Attn.coe_sum]; exact Finset.sum_congr rfl fun i _ => hr i⟩
/-- A sign goes through a finite sum of reals. -/
theorem sum_neg {ι : Type} [Fintype ι] (f : ι → EReal) (h : ∀ i, IsReal (f i)) : ∑ i, -f i = -∑ i, f i := by
  choose r hr using h
  rw [← Finset.sum_congr rfl fun i _ => hr i, ← Cert.Attn.coe_sum, ← EReal.coe_neg, ← Finset.sum_neg_distrib, Cert.Attn.coe_sum]
  exact Finset.sum_congr rfl fun i _ => by rw [← hr i, EReal.coe_neg]

/-- The width of the compressed queries. -/
theorem width_eq : Ideal.ofBits .f32 0x43800000#32 = ((256 : ℝ) : EReal) := by
  simp [Ideal.ofBits, Ideal.ieee]
  rw [← EReal.coe_mul]
  norm_num
/-- The small number added under the root is real and positive. -/
theorem small_pos : ∃ e : ℝ, 0 < e ∧ Ideal.ofBits .f32 0x3727C5AC#32 = (e : EReal) := by
  simp [Ideal.ofBits, Ideal.ieee]
  refine ⟨_, ?_, rfl⟩
  norm_num
/-- The pattern of one. -/
theorem one_bits : Ideal.ofBits .f32 0x3F800000#32 = (1 : EReal) := by
  simp [Ideal.ofBits, Ideal.ieee]
  rw [← EReal.coe_mul]
  norm_num
/-- The pattern of zero. -/
theorem zero_bits : Ideal.ofBits .f32 0x00000000#32 = (0 : EReal) := by simp [Ideal.ofBits, Ideal.ieee]
/-- The scale of the queries. -/
def scale : EReal := Ideal.ofBits .f32 0x3E16C740#32
/-- It is real and not negative. -/
theorem scale_real : ∃ e : ℝ, 0 ≤ e ∧ scale = (e : EReal) := by
  unfold scale
  simp [Ideal.ofBits, Ideal.ieee]
  refine ⟨_, ?_, rfl⟩
  norm_num

/-- The inverse root of a mean square with the small number added is real. -/
theorem real_root (a : Fin 256 → EReal) (h : ∀ i, IsReal (a i)) :
    IsReal (Ideal.rsqrt (Ideal.div (∑ k, a k * a k) (Ideal.ofBits .f32 0x43800000#32) + Ideal.ofBits .f32 0x3727C5AC#32)) := by
  choose r hr using h
  obtain ⟨e, he, hs⟩ := small_pos
  have h0 : (∑ k, a k * a k) = ((∑ k, r k * r k : ℝ) : EReal) := by
    rw [Cert.Attn.coe_sum]
    exact Finset.sum_congr rfl fun k _ => by rw [← hr k, EReal.coe_mul]
  have hp : 0 < (∑ k, r k * r k) * (256 : ℝ)⁻¹ + e := by
    have := Finset.sum_nonneg (s := Finset.univ) fun k (_ : k ∈ Finset.univ) => mul_self_nonneg (r k)
    positivity
  rw [width_eq, hs, h0, Ideal.div, if_neg (by norm_num), ← EReal.coe_inv, ← EReal.coe_mul, ← EReal.coe_add]
  exact ⟨_, by show _ = (if _ then _ else if _ then _ else _ : EReal); rw [if_neg hp.le.not_gt, if_neg hp.ne']⟩

/-! ## Lanes -/

/-- The 64 plain numbers, then zeros. -/
def plainLane (p : Fin 64 → EReal) (d : Fin 128) : EReal := if h : d.val < 64 then p ⟨d.val, h⟩ else 0
/-- 64 zeros, the 32 numbers to be turned, zeros. -/
def mainLane (r : Fin 32 → EReal) (d : Fin 128) : EReal := if h : 64 ≤ d.val ∧ d.val < 96 then r ⟨d.val - 64, by omega⟩ else 0
/-- The 64 plain numbers, the 32 to be turned, zeros. -/
def bothLane (p : Fin 64 → EReal) (r : Fin 32 → EReal) (d : Fin 128) : EReal :=
  if h : d.val < 64 then p ⟨d.val, h⟩ else if h : d.val < 96 then r ⟨d.val - 64, by omega⟩ else 0
/-- The 32 numbers half-turned: the second half negated, then the first. -/
def halfLane (r : Fin 32 → EReal) (d : Fin 128) : EReal :=
  if h : 64 ≤ d.val ∧ d.val < 80 then -r ⟨d.val - 48, by omega⟩ else if h : 80 ≤ d.val ∧ d.val < 96 then r ⟨d.val - 80, by omega⟩ else 0
/-- A rotary table at the turned lanes, a given number elsewhere. -/
def tableLane (o : EReal) (a : Fin 16 → EReal) (d : Fin 128) : EReal :=
  if h : 64 ≤ d.val ∧ d.val < 80 then a ⟨d.val - 64, by omega⟩ else if h : 80 ≤ d.val ∧ d.val < 96 then a ⟨d.val - 80, by omega⟩ else o
/-- A head's lanes: the plain numbers, the turned ones, zeros. -/
def lanes (p : Fin 64 → EReal) (r : Fin 32 → EReal) (co si : Fin 16 → EReal) (d : Fin 128) : EReal :=
  if h : d.val < 64 then p ⟨d.val, h⟩
  else if h : d.val < 80 then r ⟨d.val - 64, by omega⟩ * co ⟨d.val - 64, by omega⟩ - r ⟨d.val - 48, by omega⟩ * si ⟨d.val - 64, by omega⟩
  else if h : d.val < 96 then r ⟨d.val - 64, by omega⟩ * co ⟨d.val - 80, by omega⟩ + r ⟨d.val - 80, by omega⟩ * si ⟨d.val - 80, by omega⟩
  else 0

/-- A key's lanes as the kernel makes them. -/
theorem key_lanes (p : Fin 64 → EReal) (r : Fin 32 → EReal) (co si : Fin 16 → EReal) (d : Fin 128) :
    plainLane p d + (mainLane r d * tableLane 1 co d + halfLane r d * tableLane 0 si d) = lanes p r co si d := by
  unfold plainLane mainLane halfLane tableLane lanes
  by_cases h1 : d.val < 64
  · rw [dif_pos h1, dif_neg (by omega), dif_neg (by omega), dif_neg (by omega), dif_neg (by omega), dif_neg (by omega), dif_neg (by omega), dif_pos h1]
    simp
  · rw [dif_neg h1, dif_neg h1]
    by_cases h2 : d.val < 80
    · rw [dif_pos (by omega), dif_pos (by omega), dif_pos (by omega), dif_pos (by omega), dif_pos h2, EReal.neg_mul, zero_add, sub_eq_add_neg]
    · rw [dif_neg h2]
      by_cases h3 : d.val < 96
      · rw [dif_pos (by omega), dif_neg (by omega), dif_pos (by omega), dif_neg (by omega), dif_pos (by omega), dif_neg (by omega), dif_pos (by omega), dif_pos h3, zero_add]
      · rw [dif_neg (by omega), dif_neg (by omega), dif_neg (by omega), dif_neg (by omega), dif_neg (by omega), dif_neg (by omega), dif_neg (by omega), dif_neg h3]
        simp

/-- A query's lanes as the kernel makes them, the scale in the tables. -/
theorem query_lanes (p : Fin 64 → EReal) (r : Fin 32 → EReal) (co si : Fin 16 → EReal) (d : Fin 128) :
    bothLane p r d * (tableLane 1 co d * scale) + halfLane r d * (tableLane 0 si d * scale) = lanes p r co si d * scale := by
  obtain ⟨e, he, hs⟩ := scale_real
  rw [← mul_assoc, ← mul_assoc, hs, ← EReal.right_distrib_of_nonneg_of_ne_top (EReal.coe_nonneg.2 he) (EReal.coe_ne_top e)]
  congr 1
  unfold bothLane halfLane tableLane lanes
  by_cases h1 : d.val < 64
  · rw [dif_pos h1, dif_neg (by omega), dif_neg (by omega), dif_neg (by omega), dif_neg (by omega), dif_neg (by omega), dif_neg (by omega), dif_pos h1]
    simp
  · rw [dif_neg h1, dif_neg h1]
    by_cases h2 : d.val < 80
    · rw [dif_pos (by omega), dif_pos (by omega), dif_pos (by omega), dif_pos (by omega), dif_pos h2, EReal.neg_mul, sub_eq_add_neg]
    · rw [dif_neg h2]
      by_cases h3 : d.val < 96
      · rw [dif_pos (by omega), dif_neg (by omega), dif_pos (by omega), dif_neg (by omega), dif_pos (by omega), dif_neg (by omega), dif_pos (by omega), dif_pos h3]
      · rw [dif_neg (by omega), dif_neg (by omega), dif_neg (by omega), dif_neg (by omega), dif_neg (by omega), dif_neg (by omega), dif_neg (by omega), dif_neg h3]
        simp

variable {n : ℕ} (u : Fin n → EReal)

/-- A product with the plain columns. -/
theorem sum_plain (p : Fin n → Fin 64 → EReal) (d : Fin 128) : ∑ l, u l * plainLane (p l) d = plainLane (fun j => ∑ l, u l * p l j) d := by
  unfold plainLane
  split_ifs
  · rfl
  · simp
/-- A product with the columns to be turned. -/
theorem sum_main (r : Fin n → Fin 32 → EReal) (d : Fin 128) : ∑ l, u l * mainLane (r l) d = mainLane (fun j => ∑ l, u l * r l j) d := by
  unfold mainLane
  split_ifs
  · rfl
  · simp
/-- A product with both. -/
theorem sum_both (p : Fin n → Fin 64 → EReal) (r : Fin n → Fin 32 → EReal) (d : Fin 128) :
    ∑ l, u l * bothLane (p l) (r l) d = bothLane (fun j => ∑ l, u l * p l j) (fun j => ∑ l, u l * r l j) d := by
  unfold bothLane
  split_ifs
  · rfl
  · rfl
  · simp
/-- A product with the half-turned columns, of real numbers. -/
theorem sum_half (r : Fin n → Fin 32 → EReal) (hu : ∀ l, IsReal (u l)) (hr : ∀ l j, IsReal (r l j)) (d : Fin 128) :
    ∑ l, u l * halfLane (r l) d = halfLane (fun j => ∑ l, u l * r l j) d := by
  unfold halfLane
  split_ifs
  · rw [← sum_neg _ fun l => (hu l).mul (hr l _)]
    exact Finset.sum_congr rfl fun l _ => by rw [mul_comm, EReal.neg_mul, mul_comm]
  · rfl
  · simp

end Cert.InKeys

end
-- ==== Proof.InKeys.lean ====
/-
  The input projection's queries and keys: each grid point takes 512 positions of one sequence, modulates and projects them, and
  writes eight heads' queries, transposed, and keys, 128 lanes to a head. What a point writes, and what the arrays hold.
-/
module

public import proofs.«01_k».proof.Proof.InProj
public import proofs.«01_k».proof.Proof.Turn
public import proofs.«01_k».proof.Proof.Gen.Kernel6Ideal.Value

@[expose] public section

set_option maxRecDepth 16384

noncomputable section

namespace Cert.InKeys

open Cert.Kernel6Ideal Cert.Kernel6Ideal.Gen
open Cert.InProj (Seqs Mods Win Wkv Gain modu col low normed low_lt')
open Idealize.ShloMosaic Idealize.ShloMosaic.TcCoe
open scoped BigOperators

/-! ## The mathematics -/

/-- The second projection of the queries. -/
abbrev Wq : Type := (⟨2, ![256, 768]⟩ : Shape).Idx → EReal
/-- The gains of the queries' norm. -/
abbrev QGain : Type := (⟨1, ![256]⟩ : Shape).Idx → EReal
/-- A rotary table: 16 numbers per position. -/
abbrev Table : Type := (⟨3, ![2, 8192, 16]⟩ : Shape).Idx → EReal

/-- A column among those of the compressed queries. -/
theorem comp_lt' (j : Fin 256) : j.val < 1952 := by omega
/-- A rotary column. -/
theorem rot_lt' (j : Fin 32) : 384 + j.val < 1952 := by omega
/-- The lane of a head. -/
theorem lane_lt (h : Fin 8) (d : Fin 128) : h.val * 128 + d.val < 1024 := by omega
/-- A head's plain column of the queries. -/
theorem qplain_lt (h : Fin 8) (j : Fin 64) : h.val * 96 + j.val < 768 := by omega
/-- A head's turned column of the queries. -/
theorem qturn_lt (h : Fin 8) (j : Fin 32) : h.val * 96 + (64 + j.val) < 768 := by omega
/-- A head's plain column of the keys. -/
theorem kplain_lt (h : Fin 8) (j : Fin 64) : h.val * 128 + j.val < 1024 := by omega
/-- The lane of a head among all heads' lanes. -/
def lane (h : Fin 8) (d : Fin 128) : Fin 1024 := ⟨h.val * 128 + d.val, lane_lt h d⟩
/-- A head's plain column of the queries. -/
def qplain (h : Fin 8) (j : Fin 64) : Fin 768 := ⟨h.val * 96 + j.val, qplain_lt h j⟩
/-- A head's turned column of the queries. -/
def qturn (h : Fin 8) (j : Fin 32) : Fin 768 := ⟨h.val * 96 + (64 + j.val), qturn_lt h j⟩
/-- A head's plain column of the keys. -/
def kplain (h : Fin 8) (j : Fin 64) : Fin 1024 := ⟨h.val * 128 + j.val, kplain_lt h j⟩

/-- The compressed queries of a position. -/
def comp (x : Seqs) (sc sh : Mods) (w : Win) (b : Fin 2) (s : Fin 8192) (j : Fin 256) : EReal := col x sc sh w b s ⟨j.val, comp_lt' j⟩
/-- The rotary columns of a position. -/
def rot (x : Seqs) (sc sh : Mods) (w : Win) (b : Fin 2) (s : Fin 8192) (j : Fin 32) : EReal := col x sc sh w b s ⟨384 + j.val, rot_lt' j⟩
/-- The compressed queries over the root of their mean square, times the gains. -/
def normedQ (x : Seqs) (sc sh : Mods) (w : Win) (g : QGain) (b : Fin 2) (s : Fin 8192) (j : Fin 256) : EReal :=
  comp x sc sh w b s j * Ideal.rsqrt (Ideal.div (∑ k : Fin 256, comp x sc sh w b s k * comp x sc sh w b s k) (Ideal.ofBits .f32 0x43800000#32)
    + Ideal.ofBits .f32 0x3727C5AC#32) * g (ix1 j)
/-- A column of the queries. -/
def qcol (x : Seqs) (sc sh : Mods) (w : Win) (g : QGain) (wq : Wq) (b : Fin 2) (s : Fin 8192) (n : Fin 768) : EReal := ∑ l : Fin 256, normedQ x sc sh w g b s l * wq (ix2 l n)
/-- A column of the keys. -/
def kcol (x : Seqs) (sc sh : Mods) (w : Win) (g : Gain) (wkv : Wkv) (b : Fin 2) (s : Fin 8192) (n : Fin 1024) : EReal := ∑ l : Fin 128, normed x sc sh w g b s l * wkv (ix2 l n)
/-- The keys: a head's plain numbers beside the turned ones all heads share. -/
def keys (x : Seqs) (sc sh : Mods) (co si : Table) (w : Win) (g : Gain) (wkv : Wkv) : (⟨4, ![2, 8, 8192, 128]⟩ : Shape).Idx → EReal := fun i =>
  lanes (fun j => kcol x sc sh w g wkv (i 0) (i 2) (kplain (i 1) j)) (rot x sc sh w (i 0) (i 2)) (fun j => co (ix3 (i 0) (i 2) j)) (fun j => si (ix3 (i 0) (i 2) j)) (i 3)
/-- The queries, transposed: a head's plain numbers beside its turned ones, times the scale. -/
def queries (x : Seqs) (sc sh : Mods) (co si : Table) (w : Win) (g : QGain) (wq : Wq) : (⟨4, ![2, 8, 128, 8192]⟩ : Shape).Idx → EReal := fun i =>
  lanes (fun j => qcol x sc sh w g wq (i 0) (i 3) (qplain (i 1) j)) (fun j => qcol x sc sh w g wq (i 0) (i 3) (qturn (i 1) j))
    (fun j => co (ix3 (i 0) (i 3) j)) (fun j => si (ix3 (i 0) (i 3) j)) (i 2) * scale

/-! ## A point's values at an index -/

/-- A modulated position. -/
theorem pay4_apply (x : Vec Ideal S1x512x1024 .f32) (sc sh : Vec Ideal S1x1x1024 .f32) (r : Fin 512) (l : Fin 1024) :
    k0_pay4 x sc sh (ix2 r l) = (x (ix3 0 r l) * (1 + sc (ix3 0 0 l)) + sh (ix3 0 0 l) : EReal) := by
  pointwise [k0_pay4]

/-- The compressed keys and values, normalised. -/
theorem pay28_apply (u : FVec Ideal S512x1024 .bf16) (w : Vec Ideal S1024x128 .bf16) (g : Vec Ideal S1x128 .f32) (r : Fin 512) (j : Fin 128) :
    k0_pay28 u w g (ix2 r j) = (∑ l : Fin 1024, u (ix2 r l) * w (ix2 l j))
      * Ideal.rsqrt (Ideal.div (∑ k : Fin 128, (∑ l : Fin 1024, u (ix2 r l) * w (ix2 l k)) * (∑ l : Fin 1024, u (ix2 r l) * w (ix2 l k))) (Ideal.ofBits .f32 0x43000000#32) + Ideal.ofBits .f32 0x3727C5AC#32)
      * g (ix2 0 j) := by
  pointwise [k0_pay28]

/-- The compressed queries, normalised. -/
theorem pay14_apply (u : FVec Ideal S512x1024 .bf16) (w : Vec Ideal S1024x256 .bf16) (g : Vec Ideal S1x256 .f32) (r : Fin 512) (j : Fin 256) :
    k0_pay14 u w g (ix2 r j) = (∑ l : Fin 1024, u (ix2 r l) * w (ix2 l j))
      * Ideal.rsqrt (Ideal.div (∑ k : Fin 256, (∑ l : Fin 1024, u (ix2 r l) * w (ix2 l k)) * (∑ l : Fin 1024, u (ix2 r l) * w (ix2 l k))) (Ideal.ofBits .f32 0x43800000#32) + Ideal.ofBits .f32 0x3727C5AC#32)
      * g (ix2 0 j) := by
  pointwise [k0_pay14]

/-- A position's row of a widened table. -/
theorem pay5_apply (a : Vec Ideal S1x128x512 .f32) (r : Fin 512) (d : Fin 128) : k0_pay5 a (ix2 r d) = a (ix3 0 d r) := by
  pointwise [k0_pay5]
/-- The same of the second table. -/
theorem pay6_apply (a : Vec Ideal S1x128x512 .f32) (r : Fin 512) (d : Fin 128) : k0_pay6 a (ix2 r d) = a (ix3 0 d r) := by
  pointwise [k0_pay6]
/-- All heads' queries. -/
theorem pay15_apply (u : FVec Ideal S512x1024 .bf16) (w : Vec Ideal S1024x256 .bf16) (g : Vec Ideal S1x256 .f32) (q : Vec Ideal S256x1024 .bf16) (r : Fin 512) (n : Fin 1024) :
    k0_pay15 u w g q (ix2 r n) = (∑ l : Fin 256, k0_pay14 u w g (ix2 r l) * q (ix2 l n) : EReal) := by
  unfold k0_pay15
  generalize k0_pay14 u w g = Z
  pointwise
/-- All heads' half-turned queries. -/
theorem pay16_apply (u : FVec Ideal S512x1024 .bf16) (w : Vec Ideal S1024x256 .bf16) (g : Vec Ideal S1x256 .f32) (q : Vec Ideal S256x1024 .bf16) (r : Fin 512) (n : Fin 1024) :
    k0_pay16 u w g q (ix2 r n) = (∑ l : Fin 256, k0_pay14 u w g (ix2 r l) * q (ix2 l n) : EReal) := by
  unfold k0_pay16
  generalize k0_pay14 u w g = Z
  pointwise
/-- The first table times the scale. -/
theorem pay17_apply (a : FVec Ideal S512x128 .f32) (r : Fin 512) (d : Fin 128) : k0_pay17 a (ix2 r d) = (a (ix2 r d) * scale : EReal) := by
  pointwise [k0_pay17, scale]
/-- The second table times the scale. -/
theorem pay19_apply (a : FVec Ideal S512x128 .f32) (r : Fin 512) (d : Fin 128) : k0_pay19 a k0_pay18 (ix2 r d) = (a (ix2 r d) * scale : EReal) := by
  pointwise [k0_pay19, k0_pay18, scale]
/-- All heads' plain keys. -/
theorem pay30_apply (u : FVec Ideal S512x1024 .bf16) (w : Vec Ideal S1024x128 .bf16) (g : Vec Ideal S1x128 .f32) (k : Vec Ideal S128x1024 .bf16) (r : Fin 512) (n : Fin 1024) :
    k0_pay30 u w g k (ix2 r n) = (∑ l : Fin 128, k0_pay28 u w g (ix2 r l) * k (ix2 l n) : EReal) := by
  unfold k0_pay30
  generalize k0_pay28 u w g = Z
  pointwise
/-- The turned part of the keys. -/
theorem pay29_apply (u : FVec Ideal S512x1024 .bf16) (co si : FVec Ideal S512x128 .f32) (w w' : Vec Ideal S1024x128 .bf16) (r : Fin 512) (d : Fin 128) :
    k0_pay29 u co si w w' (ix2 r d) = ((∑ l : Fin 1024, u (ix2 r l) * w (ix2 l d)) * co (ix2 r d) + (∑ l : Fin 1024, u (ix2 r l) * w' (ix2 l d)) * si (ix2 r d) : EReal) := by
  pointwise [k0_pay29]

/-- Head 7's keys. -/
theorem key7_apply (kr : FVec Ideal S512x128 .f32) (kn : FVec Ideal S512x1024 .f32) (r : Fin 512) (d : Fin 128) :
    k0_pay2 kr kn (ix4 0 0 r d) = (kn (ix2 r (lane 7 d)) + kr (ix2 r d) : EReal) := by
  pointwise [k0_pay2, lane]
/-- Head 6's keys. -/
theorem key6_apply (kr : FVec Ideal S512x128 .f32) (kn : FVec Ideal S512x1024 .f32) (r : Fin 512) (d : Fin 128) :
    k0_pay1 (k0_pay38 kr kn) (ix4 0 0 r d) = (kn (ix2 r (lane 6 d)) + kr (ix2 r d) : EReal) := by
  pointwise [k0_pay1, k0_pay38, lane]
/-- Head 5's keys. -/
theorem key5_apply (kr : FVec Ideal S512x128 .f32) (kn : FVec Ideal S512x1024 .f32) (r : Fin 512) (d : Fin 128) :
    k0_pay37 kr kn (ix4 0 0 r d) = (kn (ix2 r (lane 5 d)) + kr (ix2 r d) : EReal) := by
  pointwise [k0_pay37, lane]
/-- Head 4's keys. -/
theorem key4_apply (kr : FVec Ideal S512x128 .f32) (kn : FVec Ideal S512x1024 .f32) (r : Fin 512) (d : Fin 128) :
    k0_pay36 kr kn (ix4 0 0 r d) = (kn (ix2 r (lane 4 d)) + kr (ix2 r d) : EReal) := by
  pointwise [k0_pay36, lane]
/-- Head 3's keys. -/
theorem key3_apply (kr : FVec Ideal S512x128 .f32) (kn : FVec Ideal S512x1024 .f32) (r : Fin 512) (d : Fin 128) :
    k0_pay35 kr kn (ix4 0 0 r d) = (kn (ix2 r (lane 3 d)) + kr (ix2 r d) : EReal) := by
  pointwise [k0_pay35, lane]
/-- Head 2's keys. -/
theorem key2_apply (kr : FVec Ideal S512x128 .f32) (kn : FVec Ideal S512x1024 .f32) (r : Fin 512) (d : Fin 128) :
    k0_pay34 kr kn (ix4 0 0 r d) = (kn (ix2 r (lane 2 d)) + kr (ix2 r d) : EReal) := by
  pointwise [k0_pay34, lane]
/-- Head 1's keys. -/
theorem key1_apply (u : FVec Ideal S512x1024 .bf16) (w : Vec Ideal S1024x128 .bf16) (g : Vec Ideal S1x128 .f32) (k : Vec Ideal S128x1024 .bf16) (kr : FVec Ideal S512x128 .f32) (r : Fin 512) (d : Fin 128) :
    k0_pay33 kr (k0_pay32 u w g k) (ix4 0 0 r d) = (k0_pay30 u w g k (ix2 r (lane 1 d)) + kr (ix2 r d) : EReal) := by
  unfold k0_pay33 k0_pay32
  generalize k0_pay30 u w g k = Z
  pointwise [lane]
/-- Head 0's keys. -/
theorem key0_apply (u : FVec Ideal S512x1024 .bf16) (co si : FVec Ideal S512x128 .f32) (w : Vec Ideal S1024x128 .bf16) (g : Vec Ideal S1x128 .f32) (w1 w2 : Vec Ideal S1024x128 .bf16) (k : Vec Ideal S128x1024 .bf16) (r : Fin 512) (d : Fin 128) :
    k0_pay31 u co si w g w1 w2 k (ix4 0 0 r d) = (k0_pay30 u w g k (ix2 r (lane 0 d)) + k0_pay29 u co si w1 w2 (ix2 r d) : EReal) := by
  unfold k0_pay31
  generalize k0_pay30 u w g k = Z
  generalize k0_pay29 u co si w1 w2 = Y
  pointwise [lane]
/-- Head 0's queries. -/
theorem query0_apply (a : FVec Ideal S512x128 .f32) (qm qr : FVec Ideal S512x1024 .f32) (co v : FVec Ideal S512x128 .f32) (d : Fin 128) (r : Fin 512) :
    k0_pay20 a qm qr co v (ix4 0 0 d r) = (qm (ix2 r (lane 0 d)) * co (ix2 r d) + qr (ix2 r (lane 0 d)) * k0_pay19 a v (ix2 r d) : EReal) := by
  unfold k0_pay20
  generalize k0_pay19 a v = Z
  pointwise [lane]
/-- Head 1's queries. -/
theorem query1_apply (a : FVec Ideal S512x128 .f32) (qm qr : FVec Ideal S512x1024 .f32) (co v : FVec Ideal S512x128 .f32) (d : Fin 128) (r : Fin 512) :
    k0_pay21 a qm qr co v (ix4 0 0 d r) = (qm (ix2 r (lane 1 d)) * co (ix2 r d) + qr (ix2 r (lane 1 d)) * k0_pay19 a v (ix2 r d) : EReal) := by
  unfold k0_pay21
  generalize k0_pay19 a v = Z
  pointwise [lane]
/-- Head 2's queries. -/
theorem query2_apply (a : FVec Ideal S512x128 .f32) (qm qr : FVec Ideal S512x1024 .f32) (co v : FVec Ideal S512x128 .f32) (d : Fin 128) (r : Fin 512) :
    k0_pay22 a qm qr co v (ix4 0 0 d r) = (qm (ix2 r (lane 2 d)) * co (ix2 r d) + qr (ix2 r (lane 2 d)) * k0_pay19 a v (ix2 r d) : EReal) := by
  unfold k0_pay22
  generalize k0_pay19 a v = Z
  pointwise [lane]
/-- Head 3's queries. -/
theorem query3_apply (a : FVec Ideal S512x128 .f32) (qm qr : FVec Ideal S512x1024 .f32) (co v : FVec Ideal S512x128 .f32) (d : Fin 128) (r : Fin 512) :
    k0_pay23 a qm qr co v (ix4 0 0 d r) = (qm (ix2 r (lane 3 d)) * co (ix2 r d) + qr (ix2 r (lane 3 d)) * k0_pay19 a v (ix2 r d) : EReal) := by
  unfold k0_pay23
  generalize k0_pay19 a v = Z
  pointwise [lane]
/-- Head 4's queries. -/
theorem query4_apply (qm qr : FVec Ideal S512x1024 .f32) (co si : FVec Ideal S512x128 .f32) (d : Fin 128) (r : Fin 512) :
    k0_pay24 qm qr co si (ix4 0 0 d r) = (qm (ix2 r (lane 4 d)) * co (ix2 r d) + qr (ix2 r (lane 4 d)) * si (ix2 r d) : EReal) := by
  pointwise [k0_pay24, lane]
/-- Head 5's queries. -/
theorem query5_apply (qm qr : FVec Ideal S512x1024 .f32) (co si : FVec Ideal S512x128 .f32) (d : Fin 128) (r : Fin 512) :
    k0_pay25 qm qr co si (ix4 0 0 d r) = (qm (ix2 r (lane 5 d)) * co (ix2 r d) + qr (ix2 r (lane 5 d)) * si (ix2 r d) : EReal) := by
  pointwise [k0_pay25, lane]
/-- Head 6's queries. -/
theorem query6_apply (qm qr : FVec Ideal S512x1024 .f32) (co si : FVec Ideal S512x128 .f32) (d : Fin 128) (r : Fin 512) :
    k0_pay26 qm qr co si (ix4 0 0 d r) = (qm (ix2 r (lane 6 d)) * co (ix2 r d) + qr (ix2 r (lane 6 d)) * si (ix2 r d) : EReal) := by
  pointwise [k0_pay26, lane]
/-- Head 7's queries. -/
theorem query7_apply (qm qr : FVec Ideal S512x1024 .f32) (co si : FVec Ideal S512x128 .f32) (d : Fin 128) (r : Fin 512) :
    k0_pay27 qm qr co si (ix4 0 0 d r) = (qm (ix2 r (lane 7 d)) * co (ix2 r d) + qr (ix2 r (lane 7 d)) * si (ix2 r d) : EReal) := by
  pointwise [k0_pay27, lane]

/-! ## What the host prepares, and the blocks: `t / 16` the sequence, `t % 16` the group of positions -/

/-- The blocks' indices. -/
theorem block_index : ∀ t : Fin grid0.N, win0_0.index t = ![t.val / 16, t.val % 16, 0]
    ∧ win0_3.index t = ![t.val / 16, 0, 0] ∧ win0_4.index t = ![t.val / 16, 0, 0] ∧ win0_5.index t = ![t.val / 16, 0, t.val % 16]
    ∧ win0_6.index t = ![t.val / 16, 0, t.val % 16] ∧ win0_7.index t = ![0, 0] ∧ win0_8.index t = ![0, 0] ∧ win0_9.index t = ![0, 0]
    ∧ win0_10.index t = ![0, 0] ∧ win0_11.index t = ![0, 0] ∧ win0_12.index t = ![0, 0]
    ∧ win0_16.index t = ![t.val / 16, 0, 0, t.val % 16] ∧ win0_17.index t = ![t.val / 16, 0, t.val % 16, 0] := by decide +kernel

/-- There are 32 points. -/
theorem points (t : Fin cfg0.N) : t.val < 32 := t.isLt

/-- The sequence of a point. -/
def seqOf (t : Fin cfg0.N) : Fin 2 := ⟨t.val / 16, by have := points t; omega⟩
/-- A row of a point lies among the sequence's positions. -/
theorem row_lt (t : Fin cfg0.N) (r : Fin 512) : 512 * (t.val % 16) + r.val < 8192 := by omega
/-- The position of a point's row. -/
def posOf (t : Fin cfg0.N) (r : Fin 512) : Fin 8192 := ⟨512 * (t.val % 16) + r.val, row_lt t r⟩

/-- A column among those of the compressed queries. -/
theorem comp_lt (j : Fin 256) : j.val < 2176 := by omega
/-- A column among those of the compressed keys and values. -/
theorem low_lt (j : Fin 128) : 256 + j.val < 2176 := by omega
/-- A widened rotary column. -/
theorem main_lt (d : Fin 128) : 384 + d.val < 2176 := by omega
/-- A half-turned one. -/
theorem half_lt (d : Fin 128) : 512 + d.val < 2176 := by omega
/-- The projection as the call reads it: the rotary columns widened and followed by their half-turned copy. -/
def wHost (w : FVec Ideal S1024x1952 .f32) : FVec Ideal S1024x2176 .bf16 :=
  let z1 : FVec Ideal S1024x64 .f32 := broadcastInDim S1024x64 ![] bcast_S_S1024x64 (constant S_ .f32 0x00000000#32)
  let z2 : FVec Ideal S1024x32 .f32 := broadcastInDim S1024x32 ![] bcast_S_S1024x32 (constant S_ .f32 0x00000000#32)
  let p : FVec Ideal S1024x32 .f32 := extractStridedSlice S1024x32 ![0, 384] w slices_S1024x1952_S1024x32_0_384
  let a : FVec Ideal S1024x16 .f32 := Host.negf (extractStridedSlice S1024x16 ![0, 16] p slices_S1024x32_S1024x16_0_16)
  let b : FVec Ideal S1024x16 .f32 := extractStridedSlice S1024x16 ![0, 0] p slices_S1024x32_S1024x16_0_0
  let q : FVec Ideal S1024x32 .f32 := concatenate S1024x32 1 [⟨S1024x16, a⟩, ⟨S1024x16, b⟩] concatenates_S1024x16_S1024x16_S1024x32_d1
  truncf .bf16 (concatenate S1024x2176 1 [⟨S1024x384, extractStridedSlice S1024x384 ![0, 0] w slices_S1024x1952_S1024x384_0_0⟩, ⟨S1024x64, z1⟩,
    ⟨S1024x32, p⟩, ⟨S1024x32, z2⟩, ⟨S1024x64, z1⟩, ⟨S1024x32, q⟩, ⟨S1024x32, z2⟩,
    ⟨S1024x1536, extractStridedSlice S1024x1536 ![0, 416] w slices_S1024x1952_S1024x1536_0_416⟩] concatenates_S1024x384_S1024x64_S1024x32_S1024x32_S1024x64_S1024x32_S1024x32_S1024x1536_S1024x2176_d1) bitsLt_bf16_f32

/-- The queries' second projection with a head's 96 columns widened to 128. -/
def qHost (w : FVec Ideal S256x768 .f32) : FVec Ideal S256x1024 .bf16 :=
  truncf .bf16 (shapeCast S256x1024 (concatenate S256x8x128 2 [⟨S256x8x96, shapeCast S256x8x96 w shapeCasts_S256x768_S256x8x96⟩,
    ⟨S256x8x32, broadcastInDim S256x8x32 ![] bcast_S_S256x8x32 (constant S_ .f32 0x00000000#32)⟩] concatenates_S256x8x96_S256x8x32_S256x8x128_d2) shapeCasts_S256x8x128_S256x1024) bitsLt_bf16_f32
/-- The same with only the rotary columns, half-turned. -/
def rHost (w : FVec Ideal S256x768 .f32) : FVec Ideal S256x1024 .bf16 :=
  let p : FVec Ideal S256x8x32 .f32 := extractStridedSlice S256x8x32 ![0, 0, 64] (shapeCast S256x8x96 w shapeCasts_S256x768_S256x8x96) slices_S256x8x96_S256x8x32_0_0_64
  let a : FVec Ideal S256x8x16 .f32 := Host.negf (extractStridedSlice S256x8x16 ![0, 0, 16] p slices_S256x8x32_S256x8x16_0_0_16)
  let b : FVec Ideal S256x8x16 .f32 := extractStridedSlice S256x8x16 ![0, 0, 0] p slices_S256x8x32_S256x8x16_0_0_0
  let z : FVec Ideal S256x8x64 .f32 := broadcastInDim S256x8x64 ![] bcast_S_S256x8x64 (constant S_ .f32 0x00000000#32)
  let z' : FVec Ideal S256x8x32 .f32 := broadcastInDim S256x8x32 ![] bcast_S_S256x8x32 (constant S_ .f32 0x00000000#32)
  truncf .bf16 (shapeCast S256x1024 (concatenate S256x8x128 2 [⟨S256x8x64, z⟩, ⟨S256x8x32, concatenate S256x8x32 2 [⟨S256x8x16, a⟩, ⟨S256x8x16, b⟩] concatenates_S256x8x16_S256x8x16_S256x8x32_d2⟩,
    ⟨S256x8x32, z'⟩] concatenates_S256x8x64_S256x8x32_S256x8x32_S256x8x128_d2) shapeCasts_S256x8x128_S256x1024) bitsLt_bf16_f32
/-- The keys' part of the second projection, a head's 64 columns widened to 128. -/
def kHost (w : FVec Ideal S128x1024 .f32) : FVec Ideal S128x1024 .bf16 :=
  truncf .bf16 (shapeCast S128x1024 (concatenate S128x8x128 2 [⟨S128x8x64, extractStridedSlice S128x8x64 ![0, 0, 0] (shapeCast S128x8x128 w shapeCasts_S128x1024_S128x8x128) slices_S128x8x128_S128x8x64_0_0_0⟩,
    ⟨S128x8x64, broadcastInDim S128x8x64 ![] bcast_S_S128x8x64 (constant S_ .f32 0x00000000#32)⟩] concatenates_S128x8x64_S128x8x64_S128x8x128_d2) shapeCasts_S128x8x128_S128x1024) bitsLt_bf16_f32
/-- A rotary table as the call reads it: transposed, twice, a given number on the other lanes. -/
def tHost (o : BitVec 32) (a : FVec Ideal S2x8192x16 .f32) : FVec Ideal S2x128x8192 .f32 :=
  let p : FVec Ideal S2x16x8192 .f32 := transpose S2x16x8192 [0, 2, 1] a transposes_S2x8192x16_S2x16x8192_0_2_1
  concatenate S2x128x8192 1 [⟨S2x64x8192, broadcastInDim S2x64x8192 ![] bcast_S_S2x64x8192 (constant (F := Ideal) S_ .f32 o)⟩, ⟨S2x16x8192, p⟩, ⟨S2x16x8192, p⟩,
    ⟨S2x32x8192, broadcastInDim S2x32x8192 ![] bcast_S_S2x32x8192 (constant (F := Ideal) S_ .f32 o)⟩] concatenates_S2x64x8192_S2x16x8192_S2x16x8192_S2x32x8192_S2x128x8192_d1

/-- The columns of the compressed queries stay where they are. -/
theorem wHost_comp (w : FVec Ideal S1024x1952 .f32) (l : Fin 1024) (j : Fin 256) :
    wHost w (ix2 l ⟨j.val, comp_lt j⟩) = w (ix2 l ⟨j.val, comp_lt' j⟩) := by
  pointwise [wHost]
  rw [dif_pos (by omega)]
/-- The columns of the compressed keys and values stay where they are. -/
theorem wHost_low (w : FVec Ideal S1024x1952 .f32) (l : Fin 1024) (j : Fin 128) :
    wHost w (ix2 l ⟨256 + j.val, low_lt j⟩) = w (ix2 l ⟨256 + j.val, low_lt' j⟩) := by
  pointwise [wHost]
  rw [dif_pos (by omega)]
/-- The rotary columns, widened. -/
theorem wHost_main (w : FVec Ideal S1024x1952 .f32) (l : Fin 1024) (d : Fin 128) :
    wHost w (ix2 l ⟨384 + d.val, main_lt d⟩) = mainLane (fun j => w (ix2 l ⟨384 + j.val, rot_lt' j⟩)) d := by
  unfold mainLane
  pointwise [wHost]
  split_ifs <;> first
    | rfl
    | (exfalso; omega)
    | exact congrArg (fun k => w (ix2 l k)) (Fin.ext (by dsimp only <;> omega))
    | exact congrArg (fun k => -w (ix2 l k)) (Fin.ext (by dsimp only <;> omega))
    | (rw [dif_pos (by omega)] <;> exact congrArg (fun k => w (ix2 l k)) (Fin.ext (by dsimp only <;> omega)))
    | (rw [dif_pos (by omega)] <;> exact congrArg (fun k => -w (ix2 l k)) (Fin.ext (by dsimp only <;> omega)))
    | (rw [dif_neg (by omega), dif_pos (by omega)] <;> exact congrArg (fun k => w (ix2 l k)) (Fin.ext (by dsimp only <;> omega)))
    | (rw [dif_neg (by omega), dif_pos (by omega)] <;> exact congrArg (fun k => -w (ix2 l k)) (Fin.ext (by dsimp only <;> omega)))
set_option maxHeartbeats 3200000 in
/-- The rotary columns, half-turned and widened. -/
theorem wHost_half (w : FVec Ideal S1024x1952 .f32) (l : Fin 1024) (d : Fin 128) :
    wHost w (ix2 l ⟨512 + d.val, half_lt d⟩) = halfLane (fun j => w (ix2 l ⟨384 + j.val, rot_lt' j⟩)) d := by
  unfold halfLane
  pointwise [wHost]
  split_ifs <;> first
    | rfl
    | (exfalso; omega)
    | exact congrArg (fun k => w (ix2 l k)) (Fin.ext (by dsimp only <;> omega))
    | exact congrArg (fun k => -w (ix2 l k)) (Fin.ext (by dsimp only <;> omega))
    | (rw [dif_pos (by omega)] <;> exact congrArg (fun k => w (ix2 l k)) (Fin.ext (by dsimp only <;> omega)))
    | (rw [dif_pos (by omega)] <;> exact congrArg (fun k => -w (ix2 l k)) (Fin.ext (by dsimp only <;> omega)))
    | (rw [dif_neg (by omega), dif_pos (by omega)] <;> exact congrArg (fun k => w (ix2 l k)) (Fin.ext (by dsimp only <;> omega)))
    | (rw [dif_neg (by omega), dif_pos (by omega)] <;> exact congrArg (fun k => -w (ix2 l k)) (Fin.ext (by dsimp only <;> omega)))
/-- The queries' columns, widened. -/
theorem qHost_apply (w : FVec Ideal S256x768 .f32) (l : Fin 256) (h : Fin 8) (d : Fin 128) :
    qHost w (ix2 l (lane h d)) = bothLane (fun j => w (ix2 l (qplain h j))) (fun j => w (ix2 l (qturn h j))) d := by
  unfold bothLane qplain qturn lane
  pointwise [qHost]
  split_ifs <;> first
    | rfl
    | (exfalso; omega)
    | exact congrArg (fun k => w (ix2 l k)) (Fin.ext (by dsimp only <;> omega))
    | exact congrArg (fun k => -w (ix2 l k)) (Fin.ext (by dsimp only <;> omega))
    | (rw [dif_pos (by omega)] <;> exact congrArg (fun k => w (ix2 l k)) (Fin.ext (by dsimp only <;> omega)))
    | (rw [dif_pos (by omega)] <;> exact congrArg (fun k => -w (ix2 l k)) (Fin.ext (by dsimp only <;> omega)))
    | (rw [dif_neg (by omega), dif_pos (by omega)] <;> exact congrArg (fun k => w (ix2 l k)) (Fin.ext (by dsimp only <;> omega)))
    | (rw [dif_neg (by omega), dif_pos (by omega)] <;> exact congrArg (fun k => -w (ix2 l k)) (Fin.ext (by dsimp only <;> omega)))
/-- The queries' rotary columns, half-turned and widened. -/
theorem rHost_apply (w : FVec Ideal S256x768 .f32) (l : Fin 256) (h : Fin 8) (d : Fin 128) :
    rHost w (ix2 l (lane h d)) = halfLane (fun j => w (ix2 l (qturn h j))) d := by
  unfold halfLane qturn lane
  pointwise [rHost]
  split_ifs <;> first
    | rfl
    | (exfalso; omega)
    | exact congrArg (fun k => w (ix2 l k)) (Fin.ext (by dsimp only <;> omega))
    | exact congrArg (fun k => -w (ix2 l k)) (Fin.ext (by dsimp only <;> omega))
    | (rw [dif_pos (by omega)] <;> exact congrArg (fun k => w (ix2 l k)) (Fin.ext (by dsimp only <;> omega)))
    | (rw [dif_pos (by omega)] <;> exact congrArg (fun k => -w (ix2 l k)) (Fin.ext (by dsimp only <;> omega)))
    | (rw [dif_neg (by omega), dif_pos (by omega)] <;> exact congrArg (fun k => w (ix2 l k)) (Fin.ext (by dsimp only <;> omega)))
    | (rw [dif_neg (by omega), dif_pos (by omega)] <;> exact congrArg (fun k => -w (ix2 l k)) (Fin.ext (by dsimp only <;> omega)))
/-- The keys' columns, widened. -/
theorem kHost_apply (w : FVec Ideal S128x1024 .f32) (l : Fin 128) (h : Fin 8) (d : Fin 128) :
    kHost w (ix2 l (lane h d)) = plainLane (fun j => w (ix2 l (kplain h j))) d := by
  unfold plainLane kplain lane
  pointwise [kHost]
/-- A widened table. -/
theorem tHost_apply (o : BitVec 32) (a : FVec Ideal S2x8192x16 .f32) (b : Fin 2) (d : Fin 128) (s : Fin 8192) :
    tHost o a (ix3 b d s) = tableLane (Ideal.ofBits .f32 o) (fun j => a (ix3 b s j)) d := by
  unfold tableLane
  pointwise [tHost]
  split_ifs <;> first
    | rfl
    | (exfalso; omega)
    | exact congrArg (fun k => a (ix3 b s k)) (Fin.ext (by dsimp only <;> omega))
    | (rw [dif_pos (by omega)] <;> exact congrArg (fun k => a (ix3 b s k)) (Fin.ext (by dsimp only <;> omega)))
    | (rw [dif_neg (by omega), dif_pos (by omega)] <;> exact congrArg (fun k => a (ix3 b s k)) (Fin.ext (by dsimp only <;> omega)))

variable (m : (ℓ : Loc nD τ sig) → Buf (Elt Ideal) ℓ) (c : Dev nD)

/-- The positions when the call starts. -/
theorem V_x : V m c main_arg0 = m ((c : Thread nD τ).loc main_arg0) := by
  unfold V; after_results <;> rfl
set_option maxHeartbeats 2000000 in
/-- The scales when the call starts. -/
theorem V_sc : V m c main_v42 = broadcastInDim S2x1x1024 ![0, 2] bcast_S2x1024_S2x1x1024_0_2 (m ((c : Thread nD τ).loc main_arg1)) := by
  unfold V; after_results <;> rfl
set_option maxHeartbeats 2000000 in
/-- The shifts when the call starts. -/
theorem V_sh : V m c main_v43 = broadcastInDim S2x1x1024 ![0, 2] bcast_S2x1024_S2x1x1024_0_2 (m ((c : Thread nD τ).loc main_arg2)) := by
  unfold V; after_results <;> rfl
set_option maxHeartbeats 2000000 in
/-- The projection when the call starts. -/
theorem V_w : V m c main_v10 = wHost (m ((c : Thread nD τ).loc main_arg5)) := by
  unfold V; after_results <;> rfl
set_option maxHeartbeats 2000000 in
/-- The norm's gains when the call starts. -/
theorem V_g : V m c main_v45 = broadcastInDim S1x128 ![1] bcast_S128_S1x128_1 (m ((c : Thread nD τ).loc main_arg8)) := by
  unfold V; after_results <;> rfl
set_option maxHeartbeats 2000000 in
/-- The first table when the call starts. -/
theorem V_co : V m c main_v38 = tHost 0x3F800000#32 (m ((c : Thread nD τ).loc main_arg3)) := by
  unfold V; after_results <;> rfl
set_option maxHeartbeats 2000000 in
/-- The second table when the call starts. -/
theorem V_si : V m c main_v41 = tHost 0x00000000#32 (m ((c : Thread nD τ).loc main_arg4)) := by
  unfold V; after_results <;> rfl
set_option maxHeartbeats 2000000 in
/-- The gains of the queries' norm when the call starts. -/
theorem V_qg : V m c main_v44 = broadcastInDim S1x256 ![1] bcast_S256_S1x256_1 (m ((c : Thread nD τ).loc main_arg6)) := by
  unfold V; after_results <;> rfl
set_option maxHeartbeats 2000000 in
/-- The queries' columns when the call starts. -/
theorem V_wq : V m c main_v15 = qHost (m ((c : Thread nD τ).loc main_arg7)) := by
  unfold V; after_results <;> rfl
set_option maxHeartbeats 2000000 in
/-- The half-turned ones when the call starts. -/
theorem V_wr : V m c main_v24 = rHost (m ((c : Thread nD τ).loc main_arg7)) := by
  unfold V; after_results <;> rfl
set_option maxHeartbeats 2000000 in
/-- The keys' columns when the call starts. -/
theorem V_wk : V m c main_v30 = kHost (m ((c : Thread nD τ).loc main_arg9)) := by
  unfold V; after_results <;> rfl
end Cert.InKeys

end
-- ==== Proof.InKeysRef.lean ====
/-
  The reference of the input projection's queries and keys at an index: the same arrays as the kernel's, stage by stage.
-/
module

public import proofs.«01_k».proof.Proof.InKeys
public import proofs.«01_k».proof.Proof.Gen.Reference6Ideal.Read

@[expose] public section

set_option maxRecDepth 16384

noncomputable section

namespace Cert.InKeys

open Cert.Reference6Ideal Cert.Reference6Ideal.Gen Cert.Reference6Ideal.Read
open Cert.InProj (Seqs Mods Win Wkv Gain modu col low normed low_lt')
open Idealize.ShloMosaic Idealize.ShloMosaic.TcCoe
open scoped BigOperators

variable (x : Seqs) (sc sh : Mods) (co si : Table) (w : Win) (qg : QGain) (wq : Wq) (g : Gain) (wkv : Wkv)

/-- The modulated positions. -/
theorem ref_modu (b : Fin 2) (s : Fin 8192) (l : Fin 1024) : val_main_v7 (F := Ideal) x sc sh (ix3 b s l) = modu x sc sh b s l := by
  unfold modu
  pointwise [val_main_v7, val_main_v6, val_main_v5, val_main_v4, val_main_v3, val_main_v2, val_main_v1, val_main_v0, val_main_cst]

/-- Their projection. -/
theorem ref_col (b : Fin 2) (s : Fin 8192) (j : Fin 1952) : val_main_v8 (F := Ideal) x sc sh w (ix3 b s j) = col x sc sh w b s j := by
  unfold col
  simp only [← ref_modu x sc sh]
  unfold val_main_v8
  generalize val_main_v7 (F := Ideal) x sc sh = Z
  pointwise

/-- The compressed queries. -/
theorem ref_comp (b : Fin 2) (s : Fin 8192) (j : Fin 256) : val_main_v9 (F := Ideal) x sc sh w (ix3 b s j) = comp x sc sh w b s j := by
  unfold comp
  rw [← ref_col]
  unfold val_main_v9
  generalize val_main_v8 (F := Ideal) x sc sh w = Z
  pointwise

/-- The compressed keys and values. -/
theorem ref_low (b : Fin 2) (s : Fin 8192) (j : Fin 128) : val_main_v10 (F := Ideal) x sc sh w (ix3 b s j) = low x sc sh w b s j := by
  unfold low
  rw [← ref_col]
  unfold val_main_v10
  generalize val_main_v8 (F := Ideal) x sc sh w = Z
  pointwise

/-- The rotary columns. -/
theorem ref_rot (b : Fin 2) (s : Fin 8192) (j : Fin 32) : val_main_v11 (F := Ideal) x sc sh w (ix3 b s j) = rot x sc sh w b s j := by
  unfold rot
  rw [← ref_col]
  unfold val_main_v11
  generalize val_main_v8 (F := Ideal) x sc sh w = Z
  pointwise

/-- The queries' norm. -/
theorem ref_normedQ (b : Fin 2) (s : Fin 8192) (j : Fin 256) : val_main_v24 (F := Ideal) x sc sh w qg (ix3 b s j) = normedQ x sc sh w qg b s j := by
  unfold normedQ
  simp only [← ref_comp x sc sh w]
  unfold val_main_v24 val_main_v21 val_main_v20 val_main_v19 val_main_v18 val_main_v16 val_main_v14 val_main_v13 val_main_v12
  generalize val_main_v9 (F := Ideal) x sc sh w = Z
  pointwise [val_main_v23, val_main_v22, val_main_v17, val_main_cst_2, val_main_v15, val_main_cst_1, val_main_cst_0]

/-- The keys' norm. -/
theorem ref_normed (b : Fin 2) (s : Fin 8192) (j : Fin 128) : val_main_v37 (F := Ideal) x sc sh w g (ix3 b s j) = normed x sc sh w g b s j := by
  unfold normed
  simp only [← ref_low x sc sh w]
  unfold val_main_v37 val_main_v34 val_main_v33 val_main_v32 val_main_v31 val_main_v29 val_main_v27 val_main_v26 val_main_v25
  generalize val_main_v10 (F := Ideal) x sc sh w = Z
  pointwise [val_main_v36, val_main_v35, val_main_v30, val_main_cst_5, val_main_v28, val_main_cst_4, val_main_cst_3]

/-- A column of the queries. -/
theorem ref_qcol (b : Fin 2) (s : Fin 8192) (n : Fin 768) : val_main_v38 (F := Ideal) x sc sh w qg wq (ix3 b s n) = qcol x sc sh w qg wq b s n := by
  unfold qcol
  simp only [← ref_normedQ x sc sh w qg]
  unfold val_main_v38
  generalize val_main_v24 (F := Ideal) x sc sh w qg = Z
  pointwise

/-- A column of the keys. -/
theorem ref_kcol (b : Fin 2) (s : Fin 8192) (n : Fin 1024) : val_main_v61 (F := Ideal) x sc sh w g wkv (ix3 b s n) = kcol x sc sh w g wkv b s n := by
  unfold kcol
  simp only [← ref_normed x sc sh w g]
  unfold val_main_v61
  generalize val_main_v37 (F := Ideal) x sc sh w g = Z
  pointwise

/-- The queries at an index. -/
theorem ref_queries_at (b : Fin 2) (h : Fin 8) (d : Fin 128) (s : Fin 8192) :
    val_main_v75 (F := Ideal) x sc sh co si w qg wq (ix4 b h d s) = queries x sc sh co si w qg wq (ix4 b h d s) := by
  show _ = lanes (fun j => qcol x sc sh w qg wq b s (qplain h j)) (fun j => qcol x sc sh w qg wq b s (qturn h j)) (fun j => co (ix3 b s j)) (fun j => si (ix3 b s j)) d * scale
  simp only [← ref_qcol x sc sh w qg wq]
  unfold val_main_v75 val_main_v74 val_main_v60 val_main_v58 val_main_v57 val_main_v56 val_main_v54 val_main_v52 val_main_v51 val_main_v49 val_main_v47 val_main_v41 val_main_v40 val_main_v39
  generalize val_main_v38 (F := Ideal) x sc sh w qg wq = Z
  unfold lanes qplain qturn scale
  pointwise [val_main_v59, val_main_cst_7, val_main_v55, val_main_v53, val_main_v50, val_main_v48, val_main_v46, val_main_cst_6, val_main_v45, val_main_v44]
  congr 1
  have e : d.val - 64 - 16 = d.val - 80 := by omega
  by_cases h1 : d.val < 64
  · rw [dif_pos h1, dif_pos h1]
  rw [dif_neg h1, dif_neg h1]
  by_cases h2 : d.val < 80
  · have e2 : 80 + (d.val - 64) = 64 + (d.val - 48) := by omega
    rw [dif_pos (by omega), dif_pos h2]
    simp only [e2]
  rw [dif_neg (by omega), dif_neg h2]
  by_cases h3 : d.val < 96
  · have e2 : 80 + (d.val - 80) = 64 + (d.val - 64) := by omega
    rw [dif_pos (by omega), dif_pos h3]
    simp only [e, e2]
  · rw [dif_neg (by omega), dif_neg h3]

/-- The keys at an index. -/
theorem ref_keys_at (b : Fin 2) (h : Fin 8) (s : Fin 8192) (d : Fin 128) :
    val_main_v77 (F := Ideal) x sc sh co si w g wkv (ix4 b h s d) = keys x sc sh co si w g wkv (ix4 b h s d) := by
  show _ = lanes (fun j => kcol x sc sh w g wkv b s (kplain h j)) (rot x sc sh w b s) (fun j => co (ix3 b s j)) (fun j => si (ix3 b s j)) d
  rw [show rot x sc sh w b s = fun j => val_main_v11 (F := Ideal) x sc sh w (ix3 b s j) from funext fun j => (ref_rot x sc sh w b s j).symm]
  simp only [← ref_kcol x sc sh w g wkv]
  unfold val_main_v77 val_main_v76 val_main_v73 val_main_v72 val_main_v71 val_main_v70 val_main_v69 val_main_v68 val_main_v67 val_main_v66 val_main_v65 val_main_v64 val_main_v63 val_main_v62
    val_main_v43 val_main_v42
  generalize val_main_v61 (F := Ideal) x sc sh w g wkv = Z
  generalize val_main_v11 (F := Ideal) x sc sh w = Y
  unfold lanes kplain
  pointwise [val_main_v46, val_main_cst_6]
  have e : d.val - 64 - 16 = d.val - 80 := by omega
  by_cases h1 : d.val < 64
  · rw [dif_pos h1, dif_pos h1]
  rw [dif_neg h1, dif_neg h1]
  by_cases h2 : d.val < 80
  · have e2 : 16 + (d.val - 64) = d.val - 48 := by omega
    have e3 : d.val - 64 < 32 := by omega
    have e4 : d.val - 64 < 16 := by omega
    simp only [dif_pos e3, dif_pos e4, dif_pos h2, e2]
  by_cases h3 : d.val < 96
  · have e2 : 16 + (d.val - 80) = d.val - 64 := by omega
    have e3 : d.val - 64 < 32 := by omega
    have e4 : ¬d.val - 64 < 16 := by omega
    simp only [dif_neg h2, dif_pos e3, dif_neg e4, dif_pos h3, e, e2]
  · have e3 : ¬d.val - 64 < 32 := by omega
    simp only [dif_neg h2, dif_neg e3, dif_neg h3]

/-- The reference's queries are `queries`. -/
theorem ref_queries : val_main_v75 (F := Ideal) x sc sh co si w qg wq = queries x sc sh co si w qg wq := by
  funext i
  rw [eq_ix4 i]
  exact ref_queries_at x sc sh co si w qg wq (i 0) (i 1) (i 2) (i 3)

/-- The reference's keys are `keys`. -/
theorem ref_keys : val_main_v77 (F := Ideal) x sc sh co si w g wkv = keys x sc sh co si w g wkv := by
  funext i
  rw [eq_ix4 i]
  exact ref_keys_at x sc sh co si w g wkv (i 0) (i 1) (i 2) (i 3)

end Cert.InKeys

end
-- ==== Proof.InKeysPoint.lean ====
/-
  The input projection's queries and keys, continued: the blocks of a point, what the point writes, and what the arrays hold.
-/
module

public import proofs.«01_k».proof.Proof.InKeys

@[expose] public section

set_option maxRecDepth 16384

noncomputable section

namespace Cert.InKeys

open Cert.Kernel6Ideal Cert.Kernel6Ideal.Gen
open Cert.InProj (Seqs Mods Win Wkv Gain modu col low normed low_lt')
open Idealize.ShloMosaic Idealize.ShloMosaic.TcCoe
open scoped BigOperators

variable (m : (ℓ : Loc nD τ sig) → Buf (Elt Ideal) ℓ) (c : Dev nD)

/-! ## The blocks of a point -/

/-- A point's positions. -/
theorem x_block (t : Fin cfg0.N) (r : Fin 512) (l : Fin 1024) :
    (iblk m c 0 t : Vec Ideal S1x512x1024 .f32) (ix3 0 r l) = (m ((c : Thread nD τ).loc main_arg0) : Seqs) (ix3 (seqOf t) (posOf t r) l) := by
  have h := V_x m c
  generalize hX : V m c main_arg0 = X at h
  have e : iblk m c 0 t = ((cfg0.win 0).blk t).view.read (Elt Ideal) X := by unfold iblk; rw [← hX]
  rw [e]
  refine Eq.trans (b := X (ix3 (seqOf t) (posOf t r) l)) ?_ ?_
  · unfold seqOf posOf
    blk_ext [block_index t]
  · rw [h]
/-- A point's scales. -/
theorem sc_block (t : Fin cfg0.N) (l : Fin 1024) :
    (iblk m c 3 t : Vec Ideal S1x1x1024 .f32) (ix3 0 0 l) = (m ((c : Thread nD τ).loc main_arg1) : Mods) (ix2 (seqOf t) l) := by
  have h := V_sc m c
  generalize hX : V m c main_v42 = X at h
  have e : iblk m c 3 t = ((cfg0.win 3).blk t).view.read (Elt Ideal) X := by unfold iblk; rw [← hX]
  rw [e]
  refine Eq.trans (b := X (ix3 (seqOf t) 0 l)) ?_ ?_
  · unfold seqOf
    blk_ext [block_index t]
  · rw [h]
    pointwise
/-- A point's shifts. -/
theorem sh_block (t : Fin cfg0.N) (l : Fin 1024) :
    (iblk m c 4 t : Vec Ideal S1x1x1024 .f32) (ix3 0 0 l) = (m ((c : Thread nD τ).loc main_arg2) : Mods) (ix2 (seqOf t) l) := by
  have h := V_sh m c
  generalize hX : V m c main_v43 = X at h
  have e : iblk m c 4 t = ((cfg0.win 4).blk t).view.read (Elt Ideal) X := by unfold iblk; rw [← hX]
  rw [e]
  refine Eq.trans (b := X (ix3 (seqOf t) 0 l)) ?_ ?_
  · unfold seqOf
    blk_ext [block_index t]
  · rw [h]
    pointwise
/-- The projection. -/
theorem w_block (t : Fin cfg0.N) (l : Fin 1024) (j : Fin 2176) :
    (iblk m c 7 t : Vec Ideal S1024x2176 .bf16) (ix2 l j) = wHost (m ((c : Thread nD τ).loc main_arg5)) (ix2 l j) := by
  have h := V_w m c
  generalize hX : V m c main_v10 = X at h
  have e : iblk m c 7 t = ((cfg0.win 7).blk t).view.read (Elt Ideal) X := by unfold iblk; rw [← hX]
  rw [e]
  refine Eq.trans (b := X (ix2 l j)) ?_ ?_
  · blk_ext [block_index t]
  · rw [h]
/-- The gains. -/
theorem g_block (t : Fin cfg0.N) (j : Fin 128) :
    (iblk m c 11 t : Vec Ideal S1x128 .f32) (ix2 0 j) = (m ((c : Thread nD τ).loc main_arg8) : Gain) (ix1 j) := by
  have h := V_g m c
  generalize hX : V m c main_v45 = X at h
  have e : iblk m c 11 t = ((cfg0.win 11).blk t).view.read (Elt Ideal) X := by unfold iblk; rw [← hX]
  rw [e]
  refine Eq.trans (b := X (ix2 0 j)) ?_ ?_
  · blk_ext [block_index t]
  · rw [h]
    pointwise
/-- A point's part of the first table. -/
theorem co_block (t : Fin cfg0.N) (d : Fin 128) (r : Fin 512) :
    (iblk m c 5 t : Vec Ideal S1x128x512 .f32) (ix3 0 d r) = tHost 0x3F800000#32 (m ((c : Thread nD τ).loc main_arg3)) (ix3 (seqOf t) d (posOf t r)) := by
  have h := V_co m c
  generalize hX : V m c main_v38 = X at h
  have e : iblk m c 5 t = ((cfg0.win 5).blk t).view.read (Elt Ideal) X := by unfold iblk; rw [← hX]
  rw [e]
  refine Eq.trans (b := X (ix3 (seqOf t) d (posOf t r))) ?_ ?_
  · unfold seqOf posOf
    blk_ext [block_index t]
  · rw [h]
/-- A point's part of the second table. -/
theorem si_block (t : Fin cfg0.N) (d : Fin 128) (r : Fin 512) :
    (iblk m c 6 t : Vec Ideal S1x128x512 .f32) (ix3 0 d r) = tHost 0x00000000#32 (m ((c : Thread nD τ).loc main_arg4)) (ix3 (seqOf t) d (posOf t r)) := by
  have h := V_si m c
  generalize hX : V m c main_v41 = X at h
  have e : iblk m c 6 t = ((cfg0.win 6).blk t).view.read (Elt Ideal) X := by unfold iblk; rw [← hX]
  rw [e]
  refine Eq.trans (b := X (ix3 (seqOf t) d (posOf t r))) ?_ ?_
  · unfold seqOf posOf
    blk_ext [block_index t]
  · rw [h]
/-- The gains of the queries' norm. -/
theorem qg_block (t : Fin cfg0.N) (j : Fin 256) :
    (iblk m c 8 t : Vec Ideal S1x256 .f32) (ix2 0 j) = (m ((c : Thread nD τ).loc main_arg6) : QGain) (ix1 j) := by
  have h := V_qg m c
  generalize hX : V m c main_v44 = X at h
  have e : iblk m c 8 t = ((cfg0.win 8).blk t).view.read (Elt Ideal) X := by unfold iblk; rw [← hX]
  rw [e]
  refine Eq.trans (b := X (ix2 0 j)) ?_ ?_
  · blk_ext [block_index t]
  · rw [h]
    pointwise
/-- The queries' columns. -/
theorem wq_block (t : Fin cfg0.N) (l : Fin 256) (n : Fin 1024) :
    (iblk m c 9 t : Vec Ideal S256x1024 .bf16) (ix2 l n) = qHost (m ((c : Thread nD τ).loc main_arg7)) (ix2 l n) := by
  have h := V_wq m c
  generalize hX : V m c main_v15 = X at h
  have e : iblk m c 9 t = ((cfg0.win 9).blk t).view.read (Elt Ideal) X := by unfold iblk; rw [← hX]
  rw [e]
  refine Eq.trans (b := X (ix2 l n)) ?_ ?_
  · blk_ext [block_index t]
  · rw [h]
/-- The half-turned ones. -/
theorem wr_block (t : Fin cfg0.N) (l : Fin 256) (n : Fin 1024) :
    (iblk m c 10 t : Vec Ideal S256x1024 .bf16) (ix2 l n) = rHost (m ((c : Thread nD τ).loc main_arg7)) (ix2 l n) := by
  have h := V_wr m c
  generalize hX : V m c main_v24 = X at h
  have e : iblk m c 10 t = ((cfg0.win 10).blk t).view.read (Elt Ideal) X := by unfold iblk; rw [← hX]
  rw [e]
  refine Eq.trans (b := X (ix2 l n)) ?_ ?_
  · blk_ext [block_index t]
  · rw [h]
/-- The keys' columns. -/
theorem wk_block (t : Fin cfg0.N) (l : Fin 128) (n : Fin 1024) :
    (iblk m c 12 t : Vec Ideal S128x1024 .bf16) (ix2 l n) = kHost (m ((c : Thread nD τ).loc main_arg9)) (ix2 l n) := by
  have h := V_wk m c
  generalize hX : V m c main_v30 = X at h
  have e : iblk m c 12 t = ((cfg0.win 12).blk t).view.read (Elt Ideal) X := by unfold iblk; rw [← hX]
  rw [e]
  refine Eq.trans (b := X (ix2 l n)) ?_ ?_
  · blk_ext [block_index t]
  · rw [h]

/-! ## What a point writes -/

/-- A load of a whole block of positions. -/
theorem ld_x (a : Vec Ideal S1x512x1024 .f32) : View.ld a r0_0 = a := by
  funext i
  obtain ⟨p, q, r, rfl⟩ : ∃ (p : Fin 1) (q : Fin 512) (r : Fin 1024), i = ix3 p q r := ⟨i 0, i 1, i 2, eq_ix3 i⟩
  obtain rfl : p = 0 := Subsingleton.elim _ _
  pointwise
/-- A load of a whole row. -/
theorem ld_mod (a : Vec Ideal S1x1x1024 .f32) : View.ld a r0_1 = a := by
  funext i
  obtain ⟨p, q, r, rfl⟩ : ∃ (p : Fin 1) (q : Fin 1) (r : Fin 1024), i = ix3 p q r := ⟨i 0, i 1, i 2, eq_ix3 i⟩
  obtain rfl : p = 0 := Subsingleton.elim _ _
  obtain rfl : q = 0 := Subsingleton.elim _ _
  pointwise
/-- A load of a whole part of a table. -/
theorem ld_table (a : Vec Ideal S1x128x512 .f32) : View.ld a r0_2 = a := by
  funext i
  obtain ⟨p, q, r, rfl⟩ : ∃ (p : Fin 1) (q : Fin 128) (r : Fin 512), i = ix3 p q r := ⟨i 0, i 1, i 2, eq_ix3 i⟩
  obtain rfl : p = 0 := Subsingleton.elim _ _
  pointwise
/-- A load of the queries' gains. -/
theorem ld_qg (a : Vec Ideal S1x256 .f32) (j : Fin 256) : View.ld a r0_11 (ix2 0 j) = a (ix2 0 j) := by pointwise
/-- A load of the keys' gains. -/
theorem ld_kg (a : Vec Ideal S1x128 .f32) (j : Fin 128) : View.ld a r0_22 (ix2 0 j) = a (ix2 0 j) := by pointwise
/-- A load of the queries' columns. -/
theorem ld_wq (a : Vec Ideal S256x1024 .bf16) (l : Fin 256) (n : Fin 1024) : View.ld a r0_12 (ix2 l n) = a (ix2 l n) := by pointwise
/-- A load of the keys' columns. -/
theorem ld_wk (a : Vec Ideal S128x1024 .bf16) (l : Fin 128) (n : Fin 1024) : View.ld a r0_25 (ix2 l n) = a (ix2 l n) := by pointwise
/-- A load of the compressed queries' columns. -/
theorem ld_comp (w : Vec Ideal S1024x2176 .bf16) (l : Fin 1024) (j : Fin 256) : View.ld w r0_10 (ix2 l j) = w (ix2 l ⟨j.val, comp_lt j⟩) := by pointwise
/-- A load of the compressed keys' columns. -/
theorem ld_low (w : Vec Ideal S1024x2176 .bf16) (l : Fin 1024) (j : Fin 128) : View.ld w r0_21 (ix2 l j) = w (ix2 l ⟨256 + j.val, low_lt j⟩) := by pointwise
/-- A load of the rotary columns. -/
theorem ld_main (w : Vec Ideal S1024x2176 .bf16) (l : Fin 1024) (d : Fin 128) : View.ld w r0_23 (ix2 l d) = w (ix2 l ⟨384 + d.val, main_lt d⟩) := by pointwise
/-- A load of the half-turned ones. -/
theorem ld_half (w : Vec Ideal S1024x2176 .bf16) (l : Fin 1024) (d : Fin 128) : View.ld w r0_24 (ix2 l d) = w (ix2 l ⟨512 + d.val, half_lt d⟩) := by pointwise

/-- Where a head's keys lie in the window. -/
theorem key_row (h : Fin 8) (hb : ∀ a, ![0, h.val, 0, 0] a + S1x1x512x128.size a ≤ S1x8x512x128.size a) (r : Fin 512) (d : Fin 128) :
    (Rect.unit (s := S1x8x512x128) ![0, h.val, 0, 0] S1x1x512x128.size hb).emb (ix4 0 0 r d) = (ix4 0 h r d : S1x8x512x128.Idx) := by
  funext a
  match a with
  | ⟨0, _⟩ => rfl
  | ⟨1, _⟩ => exact Fin.ext (by show h.val + 1 * 0 = h.val; omega)
  | ⟨2, _⟩ => exact Fin.ext (by show 0 + 1 * r.val = r.val; omega)
  | ⟨3, _⟩ => exact Fin.ext (by show 0 + 1 * d.val = d.val; omega)
/-- Where a head's queries lie in the window. -/
theorem query_row (h : Fin 8) (hb : ∀ a, ![0, h.val, 0, 0] a + S1x1x128x512.size a ≤ S1x8x128x512.size a) (d : Fin 128) (r : Fin 512) :
    (Rect.unit (s := S1x8x128x512) ![0, h.val, 0, 0] S1x1x128x512.size hb).emb (ix4 0 0 d r) = (ix4 0 h d r : S1x8x128x512.Idx) := by
  funext a
  match a with
  | ⟨0, _⟩ => rfl
  | ⟨1, _⟩ => exact Fin.ext (by show h.val + 1 * 0 = h.val; omega)
  | ⟨2, _⟩ => exact Fin.ext (by show 0 + 1 * d.val = d.val; omega)
  | ⟨3, _⟩ => exact Fin.ext (by show 0 + 1 * r.val = r.val; omega)

/-- A window of keys from all heads' plain part and the turned part. -/
def windowKeys (kn : FVec Ideal S512x1024 .f32) (kr : FVec Ideal S512x128 .f32) (y : S1x8x512x128.Idx) : EReal := kn (ix2 (y 2) (lane (y 1) (y 3))) + kr (ix2 (y 2) (y 3))
/-- A window of queries from all heads' two parts and the scaled tables. -/
def windowQueries (qm qr : FVec Ideal S512x1024 .f32) (co si : FVec Ideal S512x128 .f32) (y : S1x8x128x512.Idx) : EReal :=
  qm (ix2 (y 3) (lane (y 1) (y 2))) * co (ix2 (y 3) (y 2)) + qr (ix2 (y 3) (lane (y 1) (y 2))) * si (ix2 (y 3) (y 2))

section Blocks
variable (i : grid0.Coords) (x0 : Vec Ideal S1x512x1024 .f32) (x1 x2 : Vec Ideal S1x8x1024 .f32) (x3 x4 : Vec Ideal S1x1x1024 .f32)
    (x5 x6 : Vec Ideal S1x128x512 .f32) (x7 : Vec Ideal S1024x2176 .bf16) (x8 : Vec Ideal S1x256 .f32) (x9 x10 : Vec Ideal S256x1024 .bf16)
    (x11 : Vec Ideal S1x128 .f32) (x12 : Vec Ideal S128x1024 .bf16) (x13 : Vec Ideal S128x512 .bf16) (x14 : Vec Ideal S3x1536 .f32) (x15 : Vec Ideal S1x1536 .f32)

/-- The keys of a point, from its blocks. -/
theorem out_keys (y : S1x8x512x128.Idx) : out0_17 i x0 x1 x2 x3 x4 x5 x6 x7 x8 x9 x10 x11 x12 x13 x14 x15 y
    = windowKeys (k0_pay30 (k0_pay4 x0 x3 x4) (View.ld x7 r0_21) (View.ld x11 r0_22) (View.ld x12 r0_25))
        (k0_pay29 (k0_pay4 x0 x3 x4) (k0_pay5 x5) (k0_pay6 x6) (View.ld x7 r0_23) (View.ld x7 r0_24)) y := by
  unfold_out out0_17
  rw [ld_x, ld_mod, ld_mod, ld_table, ld_table]
  generalize k0_pay4 x0 x3 x4 = U
  generalize k0_pay5 x5 = C
  generalize k0_pay6 x6 = N
  refine View.canon_apply_of_pieces (Val := Elt Ideal) (windowKeys (k0_pay30 U (View.ld x7 r0_21) (View.ld x11 r0_22) (View.ld x12 r0_25))
    (k0_pay29 U C N (View.ld x7 r0_23) (View.ld x7 r0_24))) _ (fun pc hpc => ?_) y (cover0_17 _ _ _ _ _ _ _ _ y)
  rcases List.mem_cons.mp hpc with rfl | hpc
  · intro x
    obtain ⟨a, a', r, d, rfl⟩ : ∃ (a a' : Fin 1) (r : Fin 512) (d : Fin 128), x = ix4 a a' r d := ⟨x 0, x 1, x 2, x 3, eq_ix4 x⟩
    obtain rfl : a = 0 := Subsingleton.elim _ _
    obtain rfl : a' = 0 := Subsingleton.elim _ _
    have e : r0_33.emb (ix4 0 0 r d) = (ix4 0 7 r d : S1x8x512x128.Idx) := key_row 7 (by decide) r d
    refine (key7_apply _ _ r d).trans ?_
    exact (congrArg (windowKeys _ _) e).symm
  rcases List.mem_cons.mp hpc with rfl | hpc
  · intro x
    obtain ⟨a, a', r, d, rfl⟩ : ∃ (a a' : Fin 1) (r : Fin 512) (d : Fin 128), x = ix4 a a' r d := ⟨x 0, x 1, x 2, x 3, eq_ix4 x⟩
    obtain rfl : a = 0 := Subsingleton.elim _ _
    obtain rfl : a' = 0 := Subsingleton.elim _ _
    have e : r0_32.emb (ix4 0 0 r d) = (ix4 0 6 r d : S1x8x512x128.Idx) := key_row 6 (by decide) r d
    refine (key6_apply _ _ r d).trans ?_
    exact (congrArg (windowKeys _ _) e).symm
  rcases List.mem_cons.mp hpc with rfl | hpc
  · intro x
    obtain ⟨a, a', r, d, rfl⟩ : ∃ (a a' : Fin 1) (r : Fin 512) (d : Fin 128), x = ix4 a a' r d := ⟨x 0, x 1, x 2, x 3, eq_ix4 x⟩
    obtain rfl : a = 0 := Subsingleton.elim _ _
    obtain rfl : a' = 0 := Subsingleton.elim _ _
    have e : r0_31.emb (ix4 0 0 r d) = (ix4 0 5 r d : S1x8x512x128.Idx) := key_row 5 (by decide) r d
    refine (key5_apply _ _ r d).trans ?_
    exact (congrArg (windowKeys _ _) e).symm
  rcases List.mem_cons.mp hpc with rfl | hpc
  · intro x
    obtain ⟨a, a', r, d, rfl⟩ : ∃ (a a' : Fin 1) (r : Fin 512) (d : Fin 128), x = ix4 a a' r d := ⟨x 0, x 1, x 2, x 3, eq_ix4 x⟩
    obtain rfl : a = 0 := Subsingleton.elim _ _
    obtain rfl : a' = 0 := Subsingleton.elim _ _
    have e : r0_30.emb (ix4 0 0 r d) = (ix4 0 4 r d : S1x8x512x128.Idx) := key_row 4 (by decide) r d
    refine (key4_apply _ _ r d).trans ?_
    exact (congrArg (windowKeys _ _) e).symm
  rcases List.mem_cons.mp hpc with rfl | hpc
  · intro x
    obtain ⟨a, a', r, d, rfl⟩ : ∃ (a a' : Fin 1) (r : Fin 512) (d : Fin 128), x = ix4 a a' r d := ⟨x 0, x 1, x 2, x 3, eq_ix4 x⟩
    obtain rfl : a = 0 := Subsingleton.elim _ _
    obtain rfl : a' = 0 := Subsingleton.elim _ _
    have e : r0_29.emb (ix4 0 0 r d) = (ix4 0 3 r d : S1x8x512x128.Idx) := key_row 3 (by decide) r d
    refine (key3_apply _ _ r d).trans ?_
    exact (congrArg (windowKeys _ _) e).symm
  rcases List.mem_cons.mp hpc with rfl | hpc
  · intro x
    obtain ⟨a, a', r, d, rfl⟩ : ∃ (a a' : Fin 1) (r : Fin 512) (d : Fin 128), x = ix4 a a' r d := ⟨x 0, x 1, x 2, x 3, eq_ix4 x⟩
    obtain rfl : a = 0 := Subsingleton.elim _ _
    obtain rfl : a' = 0 := Subsingleton.elim _ _
    have e : r0_28.emb (ix4 0 0 r d) = (ix4 0 2 r d : S1x8x512x128.Idx) := key_row 2 (by decide) r d
    refine (key2_apply _ _ r d).trans ?_
    exact (congrArg (windowKeys _ _) e).symm
  rcases List.mem_cons.mp hpc with rfl | hpc
  · intro x
    obtain ⟨a, a', r, d, rfl⟩ : ∃ (a a' : Fin 1) (r : Fin 512) (d : Fin 128), x = ix4 a a' r d := ⟨x 0, x 1, x 2, x 3, eq_ix4 x⟩
    obtain rfl : a = 0 := Subsingleton.elim _ _
    obtain rfl : a' = 0 := Subsingleton.elim _ _
    have e : r0_27.emb (ix4 0 0 r d) = (ix4 0 1 r d : S1x8x512x128.Idx) := key_row 1 (by decide) r d
    refine (key1_apply _ _ _ _ _ r d).trans ?_
    exact (congrArg (windowKeys _ _) e).symm
  obtain rfl := List.mem_singleton.mp hpc
  intro x
  obtain ⟨a, a', r, d, rfl⟩ : ∃ (a a' : Fin 1) (r : Fin 512) (d : Fin 128), x = ix4 a a' r d := ⟨x 0, x 1, x 2, x 3, eq_ix4 x⟩
  obtain rfl : a = 0 := Subsingleton.elim _ _
  obtain rfl : a' = 0 := Subsingleton.elim _ _
  have e : r0_26.emb (ix4 0 0 r d) = (ix4 0 0 r d : S1x8x512x128.Idx) := key_row 0 (by decide) r d
  refine (key0_apply _ _ _ _ _ _ _ _ r d).trans ?_
  exact (congrArg (windowKeys _ _) e).symm

/-- The queries of a point, from its blocks. -/
theorem out_queries (y : S1x8x128x512.Idx) : out0_16 i x0 x1 x2 x3 x4 x5 x6 x7 x8 x9 x10 x11 x12 x13 x14 x15 y
    = windowQueries (k0_pay15 (k0_pay4 x0 x3 x4) (View.ld x7 r0_10) (View.ld x8 r0_11) (View.ld x9 r0_12)) (k0_pay16 (k0_pay4 x0 x3 x4) (View.ld x7 r0_10) (View.ld x8 r0_11) (View.ld x10 r0_12))
        (k0_pay17 (k0_pay5 x5)) (k0_pay19 (k0_pay6 x6) k0_pay18) y := by
  unfold_out out0_16
  rw [ld_x, ld_mod, ld_mod, ld_table, ld_table]
  generalize k0_pay15 (k0_pay4 x0 x3 x4) (View.ld x7 r0_10) (View.ld x8 r0_11) (View.ld x9 r0_12) = P
  generalize k0_pay16 (k0_pay4 x0 x3 x4) (View.ld x7 r0_10) (View.ld x8 r0_11) (View.ld x10 r0_12) = Q
  generalize k0_pay17 (k0_pay5 x5) = C
  refine View.canon_apply_of_pieces (Val := Elt Ideal) (windowQueries P Q C (k0_pay19 (k0_pay6 x6) k0_pay18)) _ (fun pc hpc => ?_) y (cover0_16 _ _ _ _ _ _ _ _ y)
  rcases List.mem_cons.mp hpc with rfl | hpc
  · intro x
    obtain ⟨a, a', d, r, rfl⟩ : ∃ (a a' : Fin 1) (d : Fin 128) (r : Fin 512), x = ix4 a a' d r := ⟨x 0, x 1, x 2, x 3, eq_ix4 x⟩
    obtain rfl : a = 0 := Subsingleton.elim _ _
    obtain rfl : a' = 0 := Subsingleton.elim _ _
    have e : r0_20.emb (ix4 0 0 d r) = (ix4 0 7 d r : S1x8x128x512.Idx) := query_row 7 (by decide) d r
    refine (query7_apply _ _ _ _ d r).trans ?_
    exact (congrArg (windowQueries P Q C (k0_pay19 (k0_pay6 x6) k0_pay18)) e).symm
  rcases List.mem_cons.mp hpc with rfl | hpc
  · intro x
    obtain ⟨a, a', d, r, rfl⟩ : ∃ (a a' : Fin 1) (d : Fin 128) (r : Fin 512), x = ix4 a a' d r := ⟨x 0, x 1, x 2, x 3, eq_ix4 x⟩
    obtain rfl : a = 0 := Subsingleton.elim _ _
    obtain rfl : a' = 0 := Subsingleton.elim _ _
    have e : r0_19.emb (ix4 0 0 d r) = (ix4 0 6 d r : S1x8x128x512.Idx) := query_row 6 (by decide) d r
    refine (query6_apply _ _ _ _ d r).trans ?_
    exact (congrArg (windowQueries P Q C (k0_pay19 (k0_pay6 x6) k0_pay18)) e).symm
  rcases List.mem_cons.mp hpc with rfl | hpc
  · intro x
    obtain ⟨a, a', d, r, rfl⟩ : ∃ (a a' : Fin 1) (d : Fin 128) (r : Fin 512), x = ix4 a a' d r := ⟨x 0, x 1, x 2, x 3, eq_ix4 x⟩
    obtain rfl : a = 0 := Subsingleton.elim _ _
    obtain rfl : a' = 0 := Subsingleton.elim _ _
    have e : r0_18.emb (ix4 0 0 d r) = (ix4 0 5 d r : S1x8x128x512.Idx) := query_row 5 (by decide) d r
    refine (query5_apply _ _ _ _ d r).trans ?_
    exact (congrArg (windowQueries P Q C (k0_pay19 (k0_pay6 x6) k0_pay18)) e).symm
  rcases List.mem_cons.mp hpc with rfl | hpc
  · intro x
    obtain ⟨a, a', d, r, rfl⟩ : ∃ (a a' : Fin 1) (d : Fin 128) (r : Fin 512), x = ix4 a a' d r := ⟨x 0, x 1, x 2, x 3, eq_ix4 x⟩
    obtain rfl : a = 0 := Subsingleton.elim _ _
    obtain rfl : a' = 0 := Subsingleton.elim _ _
    have e : r0_17.emb (ix4 0 0 d r) = (ix4 0 4 d r : S1x8x128x512.Idx) := query_row 4 (by decide) d r
    refine (query4_apply _ _ _ _ d r).trans ?_
    exact (congrArg (windowQueries P Q C (k0_pay19 (k0_pay6 x6) k0_pay18)) e).symm
  rcases List.mem_cons.mp hpc with rfl | hpc
  · intro x
    obtain ⟨a, a', d, r, rfl⟩ : ∃ (a a' : Fin 1) (d : Fin 128) (r : Fin 512), x = ix4 a a' d r := ⟨x 0, x 1, x 2, x 3, eq_ix4 x⟩
    obtain rfl : a = 0 := Subsingleton.elim _ _
    obtain rfl : a' = 0 := Subsingleton.elim _ _
    have e : r0_16.emb (ix4 0 0 d r) = (ix4 0 3 d r : S1x8x128x512.Idx) := query_row 3 (by decide) d r
    refine (query3_apply _ _ _ _ _ d r).trans ?_
    exact (congrArg (windowQueries P Q C (k0_pay19 (k0_pay6 x6) k0_pay18)) e).symm
  rcases List.mem_cons.mp hpc with rfl | hpc
  · intro x
    obtain ⟨a, a', d, r, rfl⟩ : ∃ (a a' : Fin 1) (d : Fin 128) (r : Fin 512), x = ix4 a a' d r := ⟨x 0, x 1, x 2, x 3, eq_ix4 x⟩
    obtain rfl : a = 0 := Subsingleton.elim _ _
    obtain rfl : a' = 0 := Subsingleton.elim _ _
    have e : r0_15.emb (ix4 0 0 d r) = (ix4 0 2 d r : S1x8x128x512.Idx) := query_row 2 (by decide) d r
    refine (query2_apply _ _ _ _ _ d r).trans ?_
    exact (congrArg (windowQueries P Q C (k0_pay19 (k0_pay6 x6) k0_pay18)) e).symm
  rcases List.mem_cons.mp hpc with rfl | hpc
  · intro x
    obtain ⟨a, a', d, r, rfl⟩ : ∃ (a a' : Fin 1) (d : Fin 128) (r : Fin 512), x = ix4 a a' d r := ⟨x 0, x 1, x 2, x 3, eq_ix4 x⟩
    obtain rfl : a = 0 := Subsingleton.elim _ _
    obtain rfl : a' = 0 := Subsingleton.elim _ _
    have e : r0_14.emb (ix4 0 0 d r) = (ix4 0 1 d r : S1x8x128x512.Idx) := query_row 1 (by decide) d r
    refine (query1_apply _ _ _ _ _ d r).trans ?_
    exact (congrArg (windowQueries P Q C (k0_pay19 (k0_pay6 x6) k0_pay18)) e).symm
  obtain rfl := List.mem_singleton.mp hpc
  intro x
  obtain ⟨a, a', d, r, rfl⟩ : ∃ (a a' : Fin 1) (d : Fin 128) (r : Fin 512), x = ix4 a a' d r := ⟨x 0, x 1, x 2, x 3, eq_ix4 x⟩
  obtain rfl : a = 0 := Subsingleton.elim _ _
  obtain rfl : a' = 0 := Subsingleton.elim _ _
  have e : r0_13.emb (ix4 0 0 d r) = (ix4 0 0 d r : S1x8x128x512.Idx) := query_row 0 (by decide) d r
  refine (query0_apply _ _ _ _ _ d r).trans ?_
  exact (congrArg (windowQueries P Q C (k0_pay19 (k0_pay6 x6) k0_pay18)) e).symm

end Blocks

/-- The keys of a point whose blocks hold their parts of the arguments, the positions' part and the rotary columns real. -/
theorem keys_of (x : Seqs) (sc sh : Mods) (co si : Table) (w : Win) (g : Gain) (wkv : Wkv) (t : Fin cfg0.N) (x0 : Vec Ideal S1x512x1024 .f32) (x3 x4 : Vec Ideal S1x1x1024 .f32)
    (x5 x6 : Vec Ideal S1x128x512 .f32) (x7 : Vec Ideal S1024x2176 .bf16) (x11 : Vec Ideal S1x128 .f32) (x12 : Vec Ideal S128x1024 .bf16)
    (rx : ∀ i, IsReal (x i)) (rsc : ∀ i, IsReal (sc i)) (rsh : ∀ i, IsReal (sh i)) (rw' : ∀ i, IsReal (w i))
    (hx : ∀ r l, (x0 (ix3 0 r l) : EReal) = x (ix3 (seqOf t) (posOf t r) l)) (hsc : ∀ l, (x3 (ix3 0 0 l) : EReal) = sc (ix2 (seqOf t) l))
    (hsh : ∀ l, (x4 (ix3 0 0 l) : EReal) = sh (ix2 (seqOf t) l)) (hco : ∀ d r, (x5 (ix3 0 d r) : EReal) = tHost 0x3F800000#32 co (ix3 (seqOf t) d (posOf t r)))
    (hsi : ∀ d r, (x6 (ix3 0 d r) : EReal) = tHost 0x00000000#32 si (ix3 (seqOf t) d (posOf t r))) (hw : ∀ l j, (x7 (ix2 l j) : EReal) = wHost w (ix2 l j))
    (hg : ∀ j, (x11 (ix2 0 j) : EReal) = g (ix1 j)) (hk : ∀ l j, (x12 (ix2 l j) : EReal) = kHost wkv (ix2 l j)) (h : Fin 8) (r : Fin 512) (d : Fin 128) :
    windowKeys (k0_pay30 (k0_pay4 x0 x3 x4) (View.ld x7 r0_21) (View.ld x11 r0_22) (View.ld x12 r0_25))
        (k0_pay29 (k0_pay4 x0 x3 x4) (k0_pay5 x5) (k0_pay6 x6) (View.ld x7 r0_23) (View.ld x7 r0_24)) (ix4 0 h r d)
      = keys x sc sh co si w g wkv (ix4 (seqOf t) h (posOf t r) d) := by
  have hu : ∀ (s : Fin 512) (l : Fin 1024), (k0_pay4 x0 x3 x4 (ix2 s l) : EReal) = modu x sc sh (seqOf t) (posOf t s) l := fun s l => by
    rw [pay4_apply, hx, hsc, hsh]; rfl
  have hm : ∀ l, IsReal (modu x sc sh (seqOf t) (posOf t r) l) := fun l => ((rx _).mul (real_one.add (rsc _))).add (rsh _)
  have hc : ∀ (s : Fin 512) (k : Fin 128), (∑ l : Fin 1024, (k0_pay4 x0 x3 x4 (ix2 s l) : EReal) * View.ld x7 r0_21 (ix2 l k)) = low x sc sh w (seqOf t) (posOf t s) k := fun s k => by
    unfold low col
    refine Finset.sum_congr rfl fun l _ => ?_
    rw [hu, ld_low, hw, wHost_low]
  have hn : ∀ l, (k0_pay28 (k0_pay4 x0 x3 x4) (View.ld x7 r0_21) (View.ld x11 r0_22) (ix2 r l) : EReal) = normed x sc sh w g (seqOf t) (posOf t r) l := fun l => by
    rw [pay28_apply, ld_kg, hg]
    simp only [hc]
    rfl
  show (k0_pay30 (k0_pay4 x0 x3 x4) (View.ld x7 r0_21) (View.ld x11 r0_22) (View.ld x12 r0_25) (ix2 r (lane h d)) : EReal)
    + k0_pay29 (k0_pay4 x0 x3 x4) (k0_pay5 x5) (k0_pay6 x6) (View.ld x7 r0_23) (View.ld x7 r0_24) (ix2 r d)
    = lanes (fun j => kcol x sc sh w g wkv (seqOf t) (posOf t r) (kplain h j)) (rot x sc sh w (seqOf t) (posOf t r)) (fun j => co (ix3 (seqOf t) (posOf t r) j)) (fun j => si (ix3 (seqOf t) (posOf t r) j)) d
  have s1 : (k0_pay30 (k0_pay4 x0 x3 x4) (View.ld x7 r0_21) (View.ld x11 r0_22) (View.ld x12 r0_25) (ix2 r (lane h d)) : EReal)
      = plainLane (fun j => kcol x sc sh w g wkv (seqOf t) (posOf t r) (kplain h j)) d :=
    (pay30_apply _ _ _ _ r _).trans ((Finset.sum_congr rfl fun l _ => congrArg₂ (· * ·) (hn l) ((ld_wk _ l _).trans ((hk l _).trans (kHost_apply wkv l h d)))).trans
      (sum_plain _ _ d))
  have s2 : (∑ l : Fin 1024, (k0_pay4 x0 x3 x4 (ix2 r l) : EReal) * View.ld x7 r0_23 (ix2 l d)) = mainLane (rot x sc sh w (seqOf t) (posOf t r)) d :=
    (Finset.sum_congr rfl fun l _ => congrArg₂ (· * ·) (hu r l) ((ld_main _ l d).trans ((hw l _).trans (wHost_main w l d)))).trans (sum_main _ _ d)
  have s3 : (∑ l : Fin 1024, (k0_pay4 x0 x3 x4 (ix2 r l) : EReal) * View.ld x7 r0_24 (ix2 l d)) = halfLane (rot x sc sh w (seqOf t) (posOf t r)) d :=
    (Finset.sum_congr rfl fun l _ => congrArg₂ (· * ·) (hu r l) ((ld_half _ l d).trans ((hw l _).trans (wHost_half w l d)))).trans (sum_half _ _ hm (fun l j => rw' _) d)
  rw [s1, pay29_apply, s2, s3, pay5_apply, pay6_apply, hco, hsi, tHost_apply, tHost_apply, one_bits, zero_bits]
  exact key_lanes _ _ _ _ d

/-- The queries of such a point, the norm's gains and the second projection real as well. -/
theorem queries_of (x : Seqs) (sc sh : Mods) (co si : Table) (w : Win) (g : QGain) (wq : Wq) (t : Fin cfg0.N) (x0 : Vec Ideal S1x512x1024 .f32) (x3 x4 : Vec Ideal S1x1x1024 .f32)
    (x5 x6 : Vec Ideal S1x128x512 .f32) (x7 : Vec Ideal S1024x2176 .bf16) (x8 : Vec Ideal S1x256 .f32) (x9 x10 : Vec Ideal S256x1024 .bf16)
    (rx : ∀ i, IsReal (x i)) (rsc : ∀ i, IsReal (sc i)) (rsh : ∀ i, IsReal (sh i)) (rw' : ∀ i, IsReal (w i)) (rg : ∀ i, IsReal (g i)) (rq : ∀ i, IsReal (wq i))
    (hx : ∀ r l, (x0 (ix3 0 r l) : EReal) = x (ix3 (seqOf t) (posOf t r) l)) (hsc : ∀ l, (x3 (ix3 0 0 l) : EReal) = sc (ix2 (seqOf t) l))
    (hsh : ∀ l, (x4 (ix3 0 0 l) : EReal) = sh (ix2 (seqOf t) l)) (hco : ∀ d r, (x5 (ix3 0 d r) : EReal) = tHost 0x3F800000#32 co (ix3 (seqOf t) d (posOf t r)))
    (hsi : ∀ d r, (x6 (ix3 0 d r) : EReal) = tHost 0x00000000#32 si (ix3 (seqOf t) d (posOf t r))) (hw : ∀ l j, (x7 (ix2 l j) : EReal) = wHost w (ix2 l j))
    (hg : ∀ j, (x8 (ix2 0 j) : EReal) = g (ix1 j)) (hq : ∀ l j, (x9 (ix2 l j) : EReal) = qHost wq (ix2 l j)) (hr : ∀ l j, (x10 (ix2 l j) : EReal) = rHost wq (ix2 l j))
    (h : Fin 8) (d : Fin 128) (r : Fin 512) :
    windowQueries (k0_pay15 (k0_pay4 x0 x3 x4) (View.ld x7 r0_10) (View.ld x8 r0_11) (View.ld x9 r0_12)) (k0_pay16 (k0_pay4 x0 x3 x4) (View.ld x7 r0_10) (View.ld x8 r0_11) (View.ld x10 r0_12))
        (k0_pay17 (k0_pay5 x5)) (k0_pay19 (k0_pay6 x6) k0_pay18) (ix4 0 h d r)
      = queries x sc sh co si w g wq (ix4 (seqOf t) h d (posOf t r)) := by
  have hc : ∀ (s : Fin 512) (k : Fin 256), (∑ l : Fin 1024, (k0_pay4 x0 x3 x4 (ix2 s l) : EReal) * View.ld x7 r0_10 (ix2 l k)) = comp x sc sh w (seqOf t) (posOf t s) k := fun s k => by
    unfold comp col modu
    refine Finset.sum_congr rfl fun l _ => ?_
    rw [pay4_apply, ld_comp, hx, hsc, hsh, hw, wHost_comp]
  have hn : ∀ l, (k0_pay14 (k0_pay4 x0 x3 x4) (View.ld x7 r0_10) (View.ld x8 r0_11) (ix2 r l) : EReal) = normedQ x sc sh w g (seqOf t) (posOf t r) l := fun l => by
    rw [pay14_apply, ld_qg, hg]
    simp only [hc]
    rfl
  have hm : ∀ j, IsReal (comp x sc sh w (seqOf t) (posOf t r) j) := fun j => by
    unfold comp col modu
    exact real_sum _ fun l => (((rx _).mul (real_one.add (rsc _))).add (rsh _)).mul (rw' _)
  have hN : ∀ l, IsReal (normedQ x sc sh w g (seqOf t) (posOf t r) l) := fun l => ((hm l).mul (real_root _ hm)).mul (rg _)
  show (k0_pay15 (k0_pay4 x0 x3 x4) (View.ld x7 r0_10) (View.ld x8 r0_11) (View.ld x9 r0_12) (ix2 r (lane h d)) : EReal) * k0_pay17 (k0_pay5 x5) (ix2 r d)
    + k0_pay16 (k0_pay4 x0 x3 x4) (View.ld x7 r0_10) (View.ld x8 r0_11) (View.ld x10 r0_12) (ix2 r (lane h d)) * k0_pay19 (k0_pay6 x6) k0_pay18 (ix2 r d)
    = lanes (fun j => qcol x sc sh w g wq (seqOf t) (posOf t r) (qplain h j)) (fun j => qcol x sc sh w g wq (seqOf t) (posOf t r) (qturn h j))
      (fun j => co (ix3 (seqOf t) (posOf t r) j)) (fun j => si (ix3 (seqOf t) (posOf t r) j)) d * scale
  have s1 : (k0_pay15 (k0_pay4 x0 x3 x4) (View.ld x7 r0_10) (View.ld x8 r0_11) (View.ld x9 r0_12) (ix2 r (lane h d)) : EReal)
      = bothLane (fun j => qcol x sc sh w g wq (seqOf t) (posOf t r) (qplain h j)) (fun j => qcol x sc sh w g wq (seqOf t) (posOf t r) (qturn h j)) d :=
    (pay15_apply _ _ _ _ r _).trans ((Finset.sum_congr rfl fun l _ => congrArg₂ (· * ·) (hn l) ((ld_wq _ l _).trans ((hq l _).trans (qHost_apply wq l h d)))).trans
      (sum_both _ _ _ d))
  have s2 : (k0_pay16 (k0_pay4 x0 x3 x4) (View.ld x7 r0_10) (View.ld x8 r0_11) (View.ld x10 r0_12) (ix2 r (lane h d)) : EReal)
      = halfLane (fun j => qcol x sc sh w g wq (seqOf t) (posOf t r) (qturn h j)) d :=
    (pay16_apply _ _ _ _ r _).trans ((Finset.sum_congr rfl fun l _ => congrArg₂ (· * ·) (hn l) ((ld_wq _ l _).trans ((hr l _).trans (rHost_apply wq l h d)))).trans
      (sum_half _ _ hN (fun l j => rq _) d))
  rw [s1, s2, pay17_apply, pay19_apply, pay5_apply, pay6_apply, hco, hsi, tHost_apply, tHost_apply, one_bits, zero_bits]
  exact query_lanes _ _ _ _ d

/-! ## The arrays -/

section Arrays
variable (rx : ∀ i, IsReal ((m ((c : Thread nD τ).loc main_arg0)) i)) (rsc : ∀ i, IsReal ((m ((c : Thread nD τ).loc main_arg1)) i)) (rsh : ∀ i, IsReal ((m ((c : Thread nD τ).loc main_arg2)) i)) (rw' : ∀ i, IsReal ((m ((c : Thread nD τ).loc main_arg5)) i))
include rx rsc rsh rw'

/-- The keys a point writes, at an index. -/
theorem point_keys (t : Fin cfg0.N) (h : Fin 8) (r : Fin 512) (d : Fin 128) :
    out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix4 0 h r d)
      = keys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (ix4 (seqOf t) h (posOf t r) d) := by
  rw [out_keys]
  exact keys_of _ _ _ _ _ _ _ _ t _ _ _ _ _ _ _ _ rx rsc rsh rw' (x_block m c t) (sc_block m c t) (sh_block m c t) (co_block m c t) (si_block m c t) (w_block m c t) (g_block m c t) (wk_block m c t) h r d

/-- The array of keys after the last point. -/
theorem keys_eq : (dats m 0 c).arrAt 17 cfg0.N = keys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  refine (dats m 0 c).arrAt_eq_of_covers 17 _ (by decide +kernel) fun t hf y => ?_
  rw [after0_17]
  blk_simp
  obtain ⟨a, h, r, d, rfl⟩ : ∃ (a : Fin 1) (h : Fin 8) (r : Fin 512) (d : Fin 128), y = ix4 a h r d := ⟨y 0, y 1, y 2, y 3, eq_ix4 y⟩
  obtain rfl : a = 0 := Subsingleton.elim _ _
  refine (point_keys m c rx rsc rsh rw' t h r d).trans ?_
  generalize hz : (win0_17.blk t).view.emb (ix4 0 h r d) = z
  have z0 : (z 0).val = t.val / 16 := by rw [← hz]; blk_simp [block_index t]; simp
  have z1 : (z 1).val = h.val := by rw [← hz]; blk_simp [block_index t]
  have z2 : (z 2).val = 512 * (t.val % 16) + r.val := by rw [← hz]; blk_simp [block_index t]; simp; omega
  have z3 : (z 3).val = d.val := by rw [← hz]; blk_simp [block_index t]
  congr 1
  rw [eq_ix4 z]
  congr 1
  · exact Fin.ext z0.symm
  · exact Fin.ext z1.symm
  · exact Fin.ext z2.symm
  · exact Fin.ext z3.symm

variable (rg : ∀ i, IsReal ((m ((c : Thread nD τ).loc main_arg6)) i)) (rq : ∀ i, IsReal ((m ((c : Thread nD τ).loc main_arg7)) i))
include rg rq

/-- The queries a point writes, at an index. -/
theorem point_queries (t : Fin cfg0.N) (h : Fin 8) (d : Fin 128) (r : Fin 512) :
    out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix4 0 h d r)
      = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix4 (seqOf t) h d (posOf t r)) := by
  rw [out_queries]
  exact queries_of _ _ _ _ _ _ _ _ t _ _ _ _ _ _ _ _ _ rx rsc rsh rw' rg rq (x_block m c t) (sc_block m c t) (sh_block m c t) (co_block m c t) (si_block m c t) (w_block m c t) (qg_block m c t) (wq_block m c t) (wr_block m c t) h d r

/-- The array of queries after the last point. -/
theorem queries_eq : (dats m 0 c).arrAt 16 cfg0.N = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 16 _ (by decide +kernel) fun t hf y => ?_
  rw [after0_16]
  blk_simp
  obtain ⟨a, h, d, r, rfl⟩ : ∃ (a : Fin 1) (h : Fin 8) (d : Fin 128) (r : Fin 512), y = ix4 a h d r := ⟨y 0, y 1, y 2, y 3, eq_ix4 y⟩
  obtain rfl : a = 0 := Subsingleton.elim _ _
  refine (point_queries m c rx rsc rsh rw' rg rq t h d r).trans ?_
  generalize hz : (win0_16.blk t).view.emb (ix4 0 h d r) = z
  have z0 : (z 0).val = t.val / 16 := by rw [← hz]; blk_simp [block_index t]; simp
  have z1 : (z 1).val = h.val := by rw [← hz]; blk_simp [block_index t]
  have z2 : (z 2).val = d.val := by rw [← hz]; blk_simp [block_index t]
  have z3 : (z 3).val = 512 * (t.val % 16) + r.val := by rw [← hz]; blk_simp [block_index t]; simp; omega
  congr 1
  rw [eq_ix4 z]
  congr 1
  · exact Fin.ext z0.symm
  · exact Fin.ext z1.symm
  · exact Fin.ext z2.symm
  · exact Fin.ext z3.symm

end Arrays

end Cert.InKeys

end
-- ==== Proof.InKeysClaim.lean ====
/-
  The claims of the input projection's queries and keys: the frames (one run, over any carrier of floats, gives both kernels') and the
  value claim, under the precondition that what the turned columns are computed from is finite.
-/
module

public import proofs.«01_k».proof.Defs
public import proofs.«01_k».proof.Proof.InKeysRef
public import proofs.«01_k».proof.Proof.InKeysPoint
public import proofs.«01_k».proof.Proof.Algebraic
public import proofs.«01_k».proof.Proof.Gen.Kernel6

@[expose] public section

set_option maxRecDepth 16384

noncomputable section

namespace Cert.InKeys

open Idealize.ShloMosaic Idealize.SL.Sem
open Cert.Proof (real_of_finite)

set_option maxHeartbeats 8000000 in
/-- The two programs' body tables are one: label 0 runs the same body. -/
theorem defs₀_eq : Cert.Kernel6.defs₀ (F := Bits) = Cert.Kernel6Ideal.defs₀ (F := Bits) := by
  unfold Cert.Kernel6.defs₀ Cert.Kernel6Ideal.defs₀
  refine congrArg Defs.onTc (funext fun l => funext fun x => ?_)
  match l, x with
  | 0, (t, s) => rfl

set_option maxHeartbeats 8000000 in
/-- So are the tables with the region's pipeline. -/
theorem defs_eq : Cert.Kernel6.defs (F := Bits) = Cert.Kernel6Ideal.defs (F := Bits) :=
  congrArg (Pipeline.defs (Cert.Kernel6Ideal.pcfgs (F := Bits))) defs₀_eq

set_option maxHeartbeats 8000000 in
/-- The kernel's frame at machine words: the run at `Bits`. -/
theorem frame_kernel : Cert.quiescent_Kernel6 := fun m ρ _ => by
  rw [defs_eq]
  exact Cert.Kernel6Ideal.Gen.frame (F := Bits) m ρ

set_option maxHeartbeats 8000000 in
/-- The idealized kernel's frame: the run at the extended reals. -/
theorem frame_kernelIdeal : Cert.quiescent_Kernel6Ideal := fun m ρ _ => Cert.Kernel6Ideal.Gen.frame (F := Ideal) m ρ

/-- The idealized reference's frame: its operations' run, and no semaphore to count. -/
theorem frame_referenceIdeal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The shape relations the precondition's function takes. -/
theorem pre_facts : Cert.Pre_finite_projections.Facts := ⟨by decide, by decide, by decide, by decide, by decide⟩

/-- An array of finite numbers holds reals only. -/
theorem reals_of_finite {S : Shape} (hb : (⟨0, ![]⟩ : Shape).BroadcastsInDim S (![] : Fin 0 → Fin S.rank)) (x : FVec Ideal S .f32)
    (h : cmpf .olt (Host.absf x) (broadcastInDim S ![] hb (constant (F := Ideal) ⟨0, ![]⟩ .f32 0x7F800000#32)) = fun _ => 1#1) (i : S.Idx) : IsReal (x i) := by
  obtain ⟨r, rfl⟩ := real_of_finite hb x h
  exact ⟨r i, rfl⟩

/-- Kernel and reference, idealized, leave the same queries and the same keys from the same arguments. -/
theorem algebraic : Cert.algebraic_Kernel6Ideal_Reference6Ideal_pre_finite_projections
    (hKernel6Ideal := Cert.Kernel6Ideal.Gen.facts) (hReference6Ideal := Cert.Reference6Ideal.Gen.facts) (hPre_finite_projections := pre_facts) := by
  intro m g m' g' hp ha
  have r0 := fun c => reals_of_finite _ _ (hp c).1
  have r1 := fun c => reals_of_finite _ _ (hp c).2.1
  have r2 := fun c => reals_of_finite _ _ (hp c).2.2.1
  have r5 := fun c => reals_of_finite _ _ (hp c).2.2.2.1
  have r6 := fun c => reals_of_finite _ _ (hp c).2.2.2.2.1
  have r7 := fun c => reals_of_finite _ _ (hp c).2.2.2.2.2
  refine ⟨fun c => queries (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)),
    fun c => keys (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)), ?_, ?_⟩
  · exact (θ_run _ _ _).mono (fun r h c => ⟨(h c).1.trans (queries_eq m c (r0 c) (r1 c) (r2 c) (r5 c) (r6 c) (r7 c)), (h c).2.1.trans (keys_eq m c (r0 c) (r1 c) (r2 c) (r5 c)), (h c).2.2.2.2⟩)
      (Cert.Kernel6Ideal.Value.run_blocks (F := Ideal) m g)
  · refine (θ_run _ _ _).mono (fun r h c => ⟨(h c).1.trans ?_, (h c).2.1.trans ?_, (h c).2.2⟩) (Cert.Reference6Ideal.Value.run (F := Ideal) m' g')
    · refine (Cert.Reference6Ideal.Read.val_main_v75_eq m' c).trans ?_
      obtain ⟨a0, a1, a2, a3, a4, a5, a6, a7, a8, a9, a10, a11⟩ := ha c
      rw [a0, a1, a2, a3, a4, a5, a6, a7]
      exact ref_queries _ _ _ _ _ _ _ _
    · refine (Cert.Reference6Ideal.Read.val_main_v77_eq m' c).trans ?_
      obtain ⟨a0, a1, a2, a3, a4, a5, a6, a7, a8, a9, a10, a11⟩ := ha c
      rw [a0, a1, a2, a3, a4, a5, a8, a9]
      exact ref_keys _ _ _ _ _ _ _ _

end Cert.InKeys

end
-- ==== Proof.lean ====
module

public import proofs.«01_k».proof.Defs
public import proofs.«01_k».proof.Proof.Frames
public import proofs.«01_k».proof.Proof.Algebraic
public import proofs.«01_k».proof.Proof.ExpertsClaim
public import proofs.«01_k».proof.Proof.InProjClaim
public import proofs.«01_k».proof.Proof.OutProjClaim
public import proofs.«01_k».proof.Proof.AdaClaim
public import proofs.«01_k».proof.Proof.InKeysClaim

@[expose] public section

noncomputable section

namespace Cert.Proof

/-- Every claim. A frame under the precondition is the frame without it. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, pre_facts, Cert.InKeys.pre_facts,
  frame_kernel, frame_kernelIdeal, fun m ρ _ => frame_kernelIdeal m ρ trivial,
  frame_referenceIdeal, fun m ρ _ => frame_referenceIdeal m ρ trivial,
  Cert.Experts.frame_kernel, Cert.Experts.frame_kernelIdeal, Cert.Experts.frame_referenceIdeal,
  Cert.InProj.frame_kernel, Cert.InProj.frame_kernelIdeal, Cert.InProj.frame_referenceIdeal,
  Cert.OutProj.frame_kernel, Cert.OutProj.frame_kernelIdeal, Cert.OutProj.frame_referenceIdeal,
  Cert.Ada.frame_kernel, Cert.Ada.frame_kernelIdeal, Cert.Ada.frame_referenceIdeal,
  Cert.InKeys.frame_kernel, Cert.InKeys.frame_kernelIdeal, fun m ρ _ => Cert.InKeys.frame_kernelIdeal m ρ trivial,
  Cert.InKeys.frame_referenceIdeal, fun m ρ _ => Cert.InKeys.frame_referenceIdeal m ρ trivial,
  trivial, algebraic, trivial, Cert.Experts.algebraic, trivial, Cert.InProj.algebraic,
  trivial, Cert.OutProj.algebraic, trivial, Cert.Ada.algebraic, trivial, Cert.InKeys.algebraic⟩

end Cert.Proof

end
